-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_1)) (v2 : (c : Dev Cert.KernelIdeal.nD) → Buf (Elt Ideal) ((c.tc : Thread Cert.KernelIdeal.nD Cert.KernelIdeal.τ).loc Cert.KernelIdeal.main_v19_2)) (v3 : (c : Dev Cert.KernelIdeal.nD) → Buf (Elt Ideal) ((c.tc : Thread Cert.KernelIdeal.nD Cert.KernelIdeal.τ).loc Cert.KernelIdeal.main_v19_3)) (v4 : (c : Dev Cert.KernelIdeal.nD) → Buf (Elt Ideal) ((c.tc : Thread Cert.KernelIdeal.nD Cert.KernelIdeal.τ).loc Cert.KernelIdeal.main_v19_4)) (v5 : (c : Dev Cert.KernelIdeal.nD) → Buf (Elt Ideal) ((c.tc : Thread Cert.KernelIdeal.nD Cert.KernelIdeal.τ).loc Cert.KernelIdeal.main_v19_5)) (v6 : (c : Dev Cert.KernelIdeal.nD) → Buf (Elt Ideal) ((c.tc : Thread Cert.KernelIdeal.nD Cert.KernelIdeal.τ).loc Cert.KernelIdeal.main_v19_6)) (v7 : (c : Dev Cert.KernelIdeal.nD) → Buf (Elt Ideal) ((c.tc : Thread Cert.KernelIdeal.nD Cert.KernelIdeal.τ).loc Cert.KernelIdeal.main_v19_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_v19_2) = v2 c
          ∧ r.2.mem ((c.tc : Thread Cert.KernelIdeal.nD Cert.KernelIdeal.τ).loc Cert.KernelIdeal.main_v19_3) = v3 c
          ∧ r.2.mem ((c.tc : Thread Cert.KernelIdeal.nD Cert.KernelIdeal.τ).loc Cert.KernelIdeal.main_v19_4) = v4 c
          ∧ r.2.mem ((c.tc : Thread Cert.KernelIdeal.nD Cert.KernelIdeal.τ).loc Cert.KernelIdeal.main_v19_5) = v5 c
          ∧ r.2.mem ((c.tc : Thread Cert.KernelIdeal.nD Cert.KernelIdeal.τ).loc Cert.KernelIdeal.main_v19_6) = v6 c
          ∧ r.2.mem ((c.tc : Thread Cert.KernelIdeal.nD Cert.KernelIdeal.τ).loc Cert.KernelIdeal.main_v19_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_v19) = v2 c
          ∧ r.2.mem ((c.tc : Thread Cert.ReferenceIdeal.nD Cert.ReferenceIdeal.τ).loc Cert.ReferenceIdeal.main_v78) = v3 c
          ∧ r.2.mem ((c.tc : Thread Cert.ReferenceIdeal.nD Cert.ReferenceIdeal.τ).loc Cert.ReferenceIdeal.main_v79) = v4 c
          ∧ r.2.mem ((c.tc : Thread Cert.ReferenceIdeal.nD Cert.ReferenceIdeal.τ).loc Cert.ReferenceIdeal.main_v81) = v5 c
          ∧ r.2.mem ((c.tc : Thread Cert.ReferenceIdeal.nD Cert.ReferenceIdeal.τ).loc Cert.ReferenceIdeal.main_v83) = v6 c
          ∧ r.2.mem ((c.tc : Thread Cert.ReferenceIdeal.nD Cert.ReferenceIdeal.τ).loc Cert.ReferenceIdeal.main_v85) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def preserves_Kernel2_Kernel2Ideal : Prop :=
  IdealRules.named_const.Statement Cert.Kernel2Ideal.κ "neg_log2e" .f32 0xBFB8AA3B#32 ((-((Real.log 2)⁻¹) : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v13_0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13_0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v41) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
-- ==== Kernel.lean ====
abbrev S16384x1024 : Shape := ⟨2, ![16384, 1024]⟩
abbrev S8x256x1024 : Shape := ⟨3, ![8, 256, 1024]⟩
abbrev S1x1024 : Shape := ⟨2, ![1, 1024]⟩
abbrev S1x1024x1024 : Shape := ⟨3, ![1, 1024, 1024]⟩
abbrev S128x128 : Shape := ⟨2, ![128, 128]⟩
abbrev S1x128x8x64x128 : Shape := ⟨5, ![1, 128, 8, 64, 128]⟩
abbrev S128x512 : Shape := ⟨2, ![128, 512]⟩
abbrev S1x1024x2816 : Shape := ⟨3, ![1, 1024, 2816]⟩
abbrev S1x2816x1024 : Shape := ⟨3, ![1, 2816, 1024]⟩
abbrev S1024x1024 : Shape := ⟨2, ![1024, 1024]⟩
abbrev S1024 : Shape := ⟨1, ![1024]⟩
abbrev S128x8x64x128 : Shape := ⟨4, ![128, 8, 64, 128]⟩
abbrev S128x512x128 : Shape := ⟨3, ![128, 512, 128]⟩
abbrev S128x8 : Shape := ⟨2, ![128, 8]⟩
abbrev S1024x2816 : Shape := ⟨2, ![1024, 2816]⟩
abbrev S2816x1024 : Shape := ⟨2, ![2816, 1024]⟩
abbrev S8x256x4x256 : Shape := ⟨4, ![8, 256, 4, 256]⟩
abbrev S1x256x1024 : Shape := ⟨3, ![1, 256, 1024]⟩
abbrev S8x512x128 : Shape := ⟨3, ![8, 512, 128]⟩
abbrev S8x512 : Shape := ⟨2, ![8, 512]⟩
abbrev S64x2816 : Shape := ⟨2, ![64, 2816]⟩
abbrev S176x1024 : Shape := ⟨2, ![176, 1024]⟩
abbrev S1x256x4x256 : Shape := ⟨4, ![1, 256, 4, 256]⟩
abbrev S256x1024 : Shape := ⟨2, ![256, 1024]⟩
abbrev S256 : Shape := ⟨1, ![256]⟩
abbrev S256x1 : Shape := ⟨2, ![256, 1]⟩
abbrev S256x256 : Shape := ⟨2, ![256, 256]⟩
abbrev S1x256x1x256 : Shape := ⟨4, ![1, 256, 1, 256]⟩
abbrev S8x128 : Shape := ⟨2, ![8, 128]⟩
abbrev S8x256 : Shape := ⟨2, ![8, 256]⟩
abbrev S256x128 : Shape := ⟨2, ![256, 128]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S1 : Shape := ⟨1, ![1]⟩
abbrev S1x64x128 : Shape := ⟨3, ![1, 64, 128]⟩
abbrev S64x128 : Shape := ⟨2, ![64, 128]⟩
abbrev S1x256x128 : Shape := ⟨3, ![1, 256, 128]⟩

abbrev nBuf : Space → Nat
  | .hbm => 42
  | .vmem => 40
  | .smem => 1
  | _ => 0

abbrev bufTy : (tb : Table) → Fin (tcTables nBuf tb) → BufTy
  | .hbm, ⟨0, _⟩ => ⟨S16384x1024, .f32⟩
  | .hbm, ⟨1, _⟩ => ⟨S8x256x1024, .f32⟩
  | .hbm, ⟨2, _⟩ => ⟨S1x1024, .f32⟩
  | .hbm, ⟨3, _⟩ => ⟨S1x1024x1024, .f32⟩
  | .hbm, ⟨4, _⟩ => ⟨S1x1024x1024, .f32⟩
  | .hbm, ⟨5, _⟩ => ⟨S1x1024, .f32⟩
  | .hbm, ⟨6, _⟩ => ⟨S1x1024x1024, .f32⟩
  | .hbm, ⟨7, _⟩ => ⟨S1x1024x1024, .f32⟩
  | .hbm, ⟨8, _⟩ => ⟨S128x128, .f32⟩
  | .hbm, ⟨9, _⟩ => ⟨S1x128x8x64x128, .f32⟩
  | .hbm, ⟨10, _⟩ => ⟨S128x512, .f32⟩
  | .hbm, ⟨11, _⟩ => ⟨S128x512, .f32⟩
  | .hbm, ⟨12, _⟩ => ⟨S1x1024x2816, .f32⟩
  | .hbm, ⟨13, _⟩ => ⟨S1x1024x2816, .f32⟩
  | .hbm, ⟨14, _⟩ => ⟨S1x2816x1024, .f32⟩
  | .hbm, ⟨15, _⟩ => ⟨S1024x1024, .f32⟩
  | .hbm, ⟨16, _⟩ => ⟨S1024x1024, .bf16⟩
  | .hbm, ⟨17, _⟩ => ⟨S1024x1024, .f32⟩
  | .hbm, ⟨18, _⟩ => ⟨S1024x1024, .bf16⟩
  | .hbm, ⟨19, _⟩ => ⟨S1024x1024, .f32⟩
  | .hbm, ⟨20, _⟩ => ⟨S1024x1024, .bf16⟩
  | .hbm, ⟨21, _⟩ => ⟨S1024x1024, .f32⟩
  | .hbm, ⟨22, _⟩ => ⟨S1024x1024, .bf16⟩
  | .hbm, ⟨23, _⟩ => ⟨S1024, .f32⟩
  | .hbm, ⟨24, _⟩ => ⟨S1x1024, .f32⟩
  | .hbm, ⟨25, _⟩ => ⟨S1024, .f32⟩
  | .hbm, ⟨26, _⟩ => ⟨S1x1024, .f32⟩
  | .hbm, ⟨27, _⟩ => ⟨S128x8x64x128, .f32⟩
  | .hbm, ⟨28, _⟩ => ⟨S128x512x128, .f32⟩
  | .hbm, ⟨29, _⟩ => ⟨S128x8, .f32⟩
  | .hbm, ⟨30, _⟩ => ⟨S1024, .f32⟩
  | .hbm, ⟨31, _⟩ => ⟨S1024x2816, .f32⟩
  | .hbm, ⟨32, _⟩ => ⟨S1024x2816, .f32⟩
  | .hbm, ⟨33, _⟩ => ⟨S2816x1024, .f32⟩
  | .hbm, ⟨34, _⟩ => ⟨S16384x1024, .f32⟩
  | .hbm, ⟨35, _⟩ => ⟨S8x256x4x256, .f32⟩
  | .hbm, ⟨36, _⟩ => ⟨S8x256x4x256, .f32⟩
  | .hbm, ⟨37, _⟩ => ⟨S128x512x128, .f32⟩
  | .hbm, ⟨38, _⟩ => ⟨S128x512, .f32⟩
  | .hbm, ⟨39, _⟩ => ⟨S1024x2816, .bf16⟩
  | .hbm, ⟨40, _⟩ => ⟨S1024x2816, .bf16⟩
  | .hbm, ⟨41, _⟩ => ⟨S2816x1024, .bf16⟩
  | .local _ .vmem, ⟨0, _⟩ => ⟨S1024x1024, .f32⟩
  | .local _ .vmem, ⟨1, _⟩ => ⟨S1024x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S1024x1024, .bf16⟩
  | .local _ .vmem, ⟨10, _⟩ => ⟨S8x512x128, .f32⟩
  | .local _ .vmem, ⟨11, _⟩ => ⟨S8x512x128, .f32⟩
  | .local _ .vmem, ⟨12, _⟩ => ⟨S8x512, .f32⟩
  | .local _ .vmem, ⟨13, _⟩ => ⟨S8x512, .f32⟩
  | .local _ .vmem, ⟨14, _⟩ => ⟨S8x512, .f32⟩
  | .local _ .vmem, ⟨15, _⟩ => ⟨S8x512, .f32⟩
  | .local _ .vmem, ⟨16, _⟩ => ⟨S64x2816, .f32⟩
  | .local _ .vmem, ⟨17, _⟩ => ⟨S64x2816, .f32⟩
  | .local _ .vmem, ⟨18, _⟩ => ⟨S64x2816, .f32⟩
  | .local _ .vmem, ⟨19, _⟩ => ⟨S64x2816, .f32⟩
  | .local _ .vmem, ⟨20, _⟩ => ⟨S176x1024, .f32⟩
  | .local _ .vmem, ⟨21, _⟩ => ⟨S176x1024, .f32⟩
  | .local _ .vmem, ⟨22, _⟩ => ⟨S1024x1024, .f32⟩
  | .local _ .vmem, ⟨23, _⟩ => ⟨S1024x1024, .f32⟩
  | .local _ .vmem, ⟨24, _⟩ => ⟨S1x256x4x256, .f32⟩
  | .local _ .vmem, ⟨25, _⟩ => ⟨S1x256x4x256, .f32⟩
  | .local _ .vmem, ⟨26, _⟩ => ⟨S1x256x4x256, .f32⟩
  | .local _ .vmem, ⟨27, _⟩ => ⟨S1x256x4x256, .f32⟩
  | .local _ .vmem, ⟨28, _⟩ => ⟨S8x512x128, .f32⟩
  | .local _ .vmem, ⟨29, _⟩ => ⟨S8x512x128, .f32⟩
  | .local _ .vmem, ⟨30, _⟩ => ⟨S8x512, .f32⟩
  | .local _ .vmem, ⟨31, _⟩ => ⟨S8x512, .f32⟩
  | .local _ .vmem, ⟨32, _⟩ => ⟨S64x2816, .bf16⟩
  | .local _ .vmem, ⟨33, _⟩ => ⟨S64x2816, .bf16⟩
  | .local _ .vmem, ⟨34, _⟩ => ⟨S64x2816, .bf16⟩
  | .local _ .vmem, ⟨35, _⟩ => ⟨S64x2816, .bf16⟩
  | .local _ .vmem, ⟨36, _⟩ => ⟨S176x1024, .bf16⟩
  | .local _ .vmem, ⟨37, _⟩ => ⟨S176x1024, .bf16⟩
  | .local _ .vmem, ⟨38, _⟩ => ⟨S256x1024, .bf16⟩
  | .local _ .vmem, ⟨39, _⟩ => ⟨S256x1024, .bf16⟩
  | .local _ .smem, ⟨0, _⟩ => ⟨S1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .smem, ⟨0, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19_0 : Ref sig .tc := ⟨.hbm, 34, rfl⟩
abbrev main_v19_1 : Ref sig .tc := ⟨.hbm, 35, rfl⟩
abbrev main_v19_2 : Ref sig .tc := ⟨.hbm, 36, rfl⟩
abbrev main_v19_3 : Ref sig .tc := ⟨.hbm, 37, rfl⟩
abbrev main_v19_4 : Ref sig .tc := ⟨.hbm, 38, rfl⟩
abbrev main_v19_5 : Ref sig .tc := ⟨.hbm, 39, rfl⟩
abbrev main_v19_6 : Ref sig .tc := ⟨.hbm, 40, rfl⟩
abbrev main_v19_7 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg21_1 : Ref sig .tc := ⟨.vmem, 35, rfl⟩
abbrev cc0_stg22_0 : Ref sig .tc := ⟨.vmem, 36, rfl⟩
abbrev cc0_stg22_1 : Ref sig .tc := ⟨.vmem, 37, rfl⟩
abbrev cc0_scratch0 : Ref sig .tc := ⟨.vmem, 38, rfl⟩
abbrev cc0_scratch1 : Ref sig .tc := ⟨.vmem, 39, rfl⟩
abbrev cc0_stg8_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35
abbrev cc0_sem21_1 : DmaSem sig := 36
abbrev cc0_sem22_0 : DmaSem sig := 37
abbrev cc0_sem22_1 : DmaSem sig := 38

abbrev nD : Nat := 1
abbrev τ : Topo := Topo.v7x

variable {F : FTy → Type} [FloatOps F]

abbrev grid0 : Pipeline.Grid := ⟨2, ![8, 2], ![false, false]⟩

def k0_off1 (i : grid0.Coords) (c0_i32_130 : BitVec 32) (c0_i32_132 : BitVec 32) : Fin 1 → Nat :=
  let arg0 : BitVec 32 := BitVec.ofNat 32 (i 0).val
  let c2_i32 : BitVec 32 := 2#32
  let v15 : BitVec 32 := Scalar.muli arg0 c2_i32
  let arg1 : BitVec 32 := BitVec.ofNat 32 (i 1).val
  let v16 : BitVec 32 := Scalar.addi v15 arg1
  let c8_i32 : BitVec 32 := 8#32
  let v324 : BitVec 32 := Scalar.muli v16 c8_i32
  let v325 : BitVec 32 := Scalar.addi v324 c0_i32_130
  let c8_i32_131 : BitVec 32 := 8#32
  let v326 : BitVec 32 := Scalar.muli v325 c8_i32_131
  let v327 : BitVec 32 := Scalar.addi v326 c0_i32_132
  let v328 : Index := Scalar.indexCast v327
  ![v328.toNat]
def k0_cond1 (i : grid0.Coords) : BitVec 1 :=
  let arg1 : BitVec 32 := BitVec.ofNat 32 (i 1).val
  let c0_i32 : BitVec 32 := 0#32
  let v12 : BitVec 1 := Scalar.cmpi .eq arg1 c0_i32
  let v13 : BitVec 32 := Scalar.extui v12
  let c0_i32_11 : BitVec 32 := 0#32
  let v14 : BitVec 1 := Scalar.cmpi .ne v13 c0_i32_11
  v14

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_18 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_20 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_21 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_22 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .smem S1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S8x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S64x2816 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S64x2816 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S176x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1024x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x4x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x256x4x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S8x512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S8x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S64x2816 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S64x2816 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S176x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]
-- ==== ReferenceIdeal.lean ====
abbrev S16384x1024 : Shape := ⟨2, ![16384, 1024]⟩
abbrev S8x256x1024 : Shape := ⟨3, ![8, 256, 1024]⟩
abbrev S1x1024 : Shape := ⟨2, ![1, 1024]⟩
abbrev S1x1024x1024 : Shape := ⟨3, ![1, 1024, 1024]⟩
abbrev S128x128 : Shape := ⟨2, ![128, 128]⟩
abbrev S1x128x8x64x128 : Shape := ⟨5, ![1, 128, 8, 64, 128]⟩
abbrev S128x512 : Shape := ⟨2, ![128, 512]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S1024x1024 : Shape := ⟨2, ![1024, 1024]⟩
abbrev S8x256x4x256 : Shape := ⟨4, ![8, 256, 4, 256]⟩
abbrev S8x2048x1024 : Shape := ⟨3, ![8, 2048, 1024]⟩
abbrev S8x2048 : Shape := ⟨2, ![8, 2048]⟩
abbrev S8x2048x1 : Shape := ⟨3, ![8, 2048, 1]⟩
abbrev S8x2048x4x256 : Shape := ⟨4, ![8, 2048, 4, 256]⟩
abbrev S8x4x2048x256 : Shape := ⟨4, ![8, 4, 2048, 256]⟩
abbrev S8x4x2048 : Shape := ⟨3, ![8, 4, 2048]⟩
abbrev S8x4x2048x1 : Shape := ⟨4, ![8, 4, 2048, 1]⟩
abbrev S8x4x256x2048 : Shape := ⟨4, ![8, 4, 256, 2048]⟩
abbrev S128x8 : Shape := ⟨2, ![128, 8]⟩
abbrev S128x2x4 : Shape := ⟨3, ![128, 2, 4]⟩
abbrev S128x2x4x64 : Shape := ⟨4, ![128, 2, 4, 64]⟩
abbrev S128x256 : Shape := ⟨2, ![128, 256]⟩
abbrev S128x2x128 : Shape := ⟨3, ![128, 2, 128]⟩
abbrev S128x8x64x128 : Shape := ⟨4, ![128, 8, 64, 128]⟩
abbrev S128x2x4x64x128 : Shape := ⟨5, ![128, 2, 4, 64, 128]⟩
abbrev S128x2x4x1x1 : Shape := ⟨5, ![128, 2, 4, 1, 1]⟩
abbrev S128x2x4x64x1 : Shape := ⟨5, ![128, 2, 4, 64, 1]⟩
abbrev S128x2x1x1x128 : Shape := ⟨5, ![128, 2, 1, 1, 128]⟩
abbrev S128x512x128 : Shape := ⟨3, ![128, 512, 128]⟩
abbrev S1024x2816 : Shape := ⟨2, ![1024, 2816]⟩
abbrev S2816x1024 : Shape := ⟨2, ![2816, 1024]⟩

abbrev nBuf : Space → Nat
  | .hbm => 111
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x256x1024, .f32⟩
  | .hbm, ⟨2, _⟩ => ⟨S1x1024, .f32⟩
  | .hbm, ⟨3, _⟩ => ⟨S1x1024x1024, .f32⟩
  | .hbm, ⟨4, _⟩ => ⟨S1x1024x1024, .f32⟩
  | .hbm, ⟨5, _⟩ => ⟨S1x1024, .f32⟩
  | .hbm, ⟨6, _⟩ => ⟨S1x1024x1024, .f32⟩
  | .hbm, ⟨7, _⟩ => ⟨S1x1024x1024, .f32⟩
  | .hbm, ⟨8, _⟩ => ⟨S128x128, .f32⟩
  | .hbm, ⟨9, _⟩ => ⟨S1x128x8x64x128, .f32⟩
  | .hbm, ⟨10, _⟩ => ⟨S128x512, .f32⟩
  | .hbm, ⟨11, _⟩ => ⟨S128x512, .f32⟩
  | .hbm, ⟨12, _⟩ => ⟨S1x1024x2816, .f32⟩
  | .hbm, ⟨13, _⟩ => ⟨S1x1024x2816, .f32⟩
  | .hbm, ⟨14, _⟩ => ⟨S1x2816x1024, .f32⟩
  | .hbm, ⟨15, _⟩ => ⟨S1024, .f32⟩
  | .hbm, ⟨16, _⟩ => ⟨S8x256x1024, .f32⟩
  | .hbm, ⟨17, _⟩ => ⟨S_, .f32⟩
  | .hbm, ⟨18, _⟩ => ⟨S8x256, .f32⟩
  | .hbm, ⟨19, _⟩ => ⟨S8x256x1, .f32⟩
  | .hbm, ⟨20, _⟩ => ⟨S_, .f32⟩
  | .hbm, ⟨21, _⟩ => ⟨S8x256x1, .f32⟩
  | .hbm, ⟨22, _⟩ => ⟨S8x256x1, .f32⟩
  | .hbm, ⟨23, _⟩ => ⟨S_, .f32⟩
  | .hbm, ⟨24, _⟩ => ⟨S8x256x1, .f32⟩
  | .hbm, ⟨25, _⟩ => ⟨S8x256x1, .f32⟩
  | .hbm, ⟨26, _⟩ => ⟨S8x256x1, .f32⟩
  | .hbm, ⟨27, _⟩ => ⟨S8x256x1024, .f32⟩
  | .hbm, ⟨28, _⟩ => ⟨S8x256x1024, .f32⟩
  | .hbm, ⟨29, _⟩ => ⟨S1x1x1024, .f32⟩
  | .hbm, ⟨30, _⟩ => ⟨S8x256x1024, .f32⟩
  | .hbm, ⟨31, _⟩ => ⟨S8x256x1024, .f32⟩
  | .hbm, ⟨32, _⟩ => ⟨S1024x1024, .f32⟩
  | .hbm, ⟨33, _⟩ => ⟨S8x256x1024, .f32⟩
  | .hbm, ⟨34, _⟩ => ⟨S8x256x4x256, .f32⟩
  | .hbm, ⟨35, _⟩ => ⟨S1024x1024, .f32⟩
  | .hbm, ⟨36, _⟩ => ⟨S8x256x1024, .f32⟩
  | .hbm, ⟨37, _⟩ => ⟨S8x256x4x256, .f32⟩
  | .hbm, ⟨38, _⟩ => ⟨S8x2048x1024, .f32⟩
  | .hbm, ⟨39, _⟩ => ⟨S1024, .f32⟩
  | .hbm, ⟨40, _⟩ => ⟨S8x2048x1024, .f32⟩
  | .hbm, ⟨41, _⟩ => ⟨S_, .f32⟩
  | .hbm, ⟨42, _⟩ => ⟨S8x2048, .f32⟩
  | .hbm, ⟨43, _⟩ => ⟨S8x2048x1, .f32⟩
  | .hbm, ⟨44, _⟩ => ⟨S_, .f32⟩
  | .hbm, ⟨45, _⟩ => ⟨S8x2048x1, .f32⟩
  | .hbm, ⟨46, _⟩ => ⟨S8x2048x1, .f32⟩
  | .hbm, ⟨47, _⟩ => ⟨S_, .f32⟩
  | .hbm, ⟨48, _⟩ => ⟨S8x2048x1, .f32⟩
  | .hbm, ⟨49, _⟩ => ⟨S8x2048x1, .f32⟩
  | .hbm, ⟨50, _⟩ => ⟨S8x2048x1, .f32⟩
  | .hbm, ⟨51, _⟩ => ⟨S8x2048x1024, .f32⟩
  | .hbm, ⟨52, _⟩ => ⟨S8x2048x1024, .f32⟩
  | .hbm, ⟨53, _⟩ => ⟨S1x1x1024, .f32⟩
  | .hbm, ⟨54, _⟩ => ⟨S8x2048x1024, .f32⟩
  | .hbm, ⟨55, _⟩ => ⟨S8x2048x1024, .f32⟩
  | .hbm, ⟨56, _⟩ => ⟨S1024x1024, .f32⟩
  | .hbm, ⟨57, _⟩ => ⟨S8x2048x1024, .f32⟩
  | .hbm, ⟨58, _⟩ => ⟨S8x2048x4x256, .f32⟩
  | .hbm, ⟨59, _⟩ => ⟨S8x4x2048x256, .f32⟩
  | .hbm, ⟨60, _⟩ => ⟨S_, .f32⟩
  | .hbm, ⟨61, _⟩ => ⟨S8x4x2048x256, .f32⟩
  | .hbm, ⟨62, _⟩ => ⟨S8x4x2048x256, .f32⟩
  | .hbm, ⟨63, _⟩ => ⟨S_, .f32⟩
  | .hbm, ⟨64, _⟩ => ⟨S8x4x2048, .f32⟩
  | .hbm, ⟨65, _⟩ => ⟨S_, .f32⟩
  | .hbm, ⟨66, _⟩ => ⟨S8x4x2048, .f32⟩
  | .hbm, ⟨67, _⟩ => ⟨S8x4x2048, .f32⟩
  | .hbm, ⟨68, _⟩ => ⟨S8x4x2048x1, .f32⟩
  | .hbm, ⟨69, _⟩ => ⟨S8x4x2048x256, .f32⟩
  | .hbm, ⟨70, _⟩ => ⟨S8x4x2048x256, .f32⟩
  | .hbm, ⟨71, _⟩ => ⟨S8x4x2048x256, .f32⟩
  | .hbm, ⟨72, _⟩ => ⟨S_, .f32⟩
  | .hbm, ⟨73, _⟩ => ⟨S8x4x2048, .f32⟩
  | .hbm, ⟨74, _⟩ => ⟨S8x4x2048x1, .f32⟩
  | .hbm, ⟨75, _⟩ => ⟨S8x4x2048x256, .f32⟩
  | .hbm, ⟨76, _⟩ => ⟨S8x4x2048x256, .f32⟩
  | .hbm, ⟨77, _⟩ => ⟨S8x4x256x2048, .f32⟩
  | .hbm, ⟨78, _⟩ => ⟨S8x2048x4x256, .f32⟩
  | .hbm, ⟨79, _⟩ => ⟨S8x2048x1024, .f32⟩
  | .hbm, ⟨80, _⟩ => ⟨S1024x1024, .f32⟩
  | .hbm, ⟨81, _⟩ => ⟨S8x2048x1024, .f32⟩
  | .hbm, ⟨82, _⟩ => ⟨S8x2048x1024, .f32⟩
  | .hbm, ⟨83, _⟩ => ⟨S128x8, .f32⟩
  | .hbm, ⟨84, _⟩ => ⟨S128x2x4, .f32⟩
  | .hbm, ⟨85, _⟩ => ⟨S128x2x4x64, .f32⟩
  | .hbm, ⟨86, _⟩ => ⟨S128x256, .f32⟩
  | .hbm, ⟨87, _⟩ => ⟨S128x2x128, .f32⟩
  | .hbm, ⟨88, _⟩ => ⟨S128x256, .f32⟩
  | .hbm, ⟨89, _⟩ => ⟨S128x2x128, .f32⟩
  | .hbm, ⟨90, _⟩ => ⟨S128x8x64x128, .f32⟩
  | .hbm, ⟨91, _⟩ => ⟨S128x2x4x64x128, .f32⟩
  | .hbm, ⟨92, _⟩ => ⟨S128x2x4x1x1, .f32⟩
  | .hbm, ⟨93, _⟩ => ⟨S128x2x4x64x128, .f32⟩
  | .hbm, ⟨94, _⟩ => ⟨S128x2x4x64x128, .f32⟩
  | .hbm, ⟨95, _⟩ => ⟨S128x2x4x64x1, .f32⟩
  | .hbm, ⟨96, _⟩ => ⟨S128x2x1x1x128, .f32⟩
  | .hbm, ⟨97, _⟩ => ⟨S128x2x4x64x128, .f32⟩
  | .hbm, ⟨98, _⟩ => ⟨S128x2x4x64x128, .f32⟩
  | .hbm, ⟨99, _⟩ => ⟨S128x2x4x64x128, .f32⟩
  | .hbm, ⟨100, _⟩ => ⟨S128x2x4x64x128, .f32⟩
  | .hbm, ⟨101, _⟩ => ⟨S128x2x4x64, .f32⟩
  | .hbm, ⟨102, _⟩ => ⟨S16384x1024, .f32⟩
  | .hbm, ⟨103, _⟩ => ⟨S128x512x128, .f32⟩
  | .hbm, ⟨104, _⟩ => ⟨S128x512, .f32⟩
  | .hbm, ⟨105, _⟩ => ⟨S1024x2816, .f32⟩
  | .hbm, ⟨106, _⟩ => ⟨S1024x2816, .bf16⟩
  | .hbm, ⟨107, _⟩ => ⟨S1024x2816, .f32⟩
  | .hbm, ⟨108, _⟩ => ⟨S1024x2816, .bf16⟩
  | .hbm, ⟨109, _⟩ => ⟨S2816x1024, .f32⟩
  | .hbm, ⟨110, _⟩ => ⟨S2816x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_cst_0 : Ref sig .tc := ⟨.hbm, 20, rfl⟩
abbrev main_v4 : Ref sig .tc := ⟨.hbm, 21, rfl⟩
abbrev main_v5 : Ref sig .tc := ⟨.hbm, 22, rfl⟩
abbrev main_cst_1 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_cst_3 : Ref sig .tc := ⟨.hbm, 44, rfl⟩
abbrev main_v25 : Ref sig .tc := ⟨.hbm, 45, rfl⟩
abbrev main_v26 : Ref sig .tc := ⟨.hbm, 46, rfl⟩
abbrev main_cst_4 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_5 : Ref sig .tc := ⟨.hbm, 60, rfl⟩
abbrev main_v39 : Ref sig .tc := ⟨.hbm, 61, rfl⟩
abbrev main_v40 : Ref sig .tc := ⟨.hbm, 62, rfl⟩
abbrev main_cst_6 : Ref sig .tc := ⟨.hbm, 63, rfl⟩
abbrev main_v41 : Ref sig .tc := ⟨.hbm, 64, rfl⟩
abbrev main_cst_7 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_8 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩

abbrev nD : Nat := 1
abbrev τ : Topo := Topo.v7x

variable {F : FTy → Type} [FloatOps F]
-- ==== Kernel2.lean ====
abbrev S16384x1024 : Shape := ⟨2, ![16384, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S128x1024 : Shape := ⟨2, ![128, 1024]⟩
abbrev S1x128x256x4x256 : Shape := ⟨5, ![1, 128, 256, 4, 256]⟩
abbrev S1x1024x1024 : Shape := ⟨3, ![1, 1024, 1024]⟩
abbrev S1024x2816 : Shape := ⟨2, ![1024, 2816]⟩
abbrev S2816x1024 : Shape := ⟨2, ![2816, 1024]⟩
abbrev S1024x1024 : Shape := ⟨2, ![1024, 1024]⟩
abbrev S128x256x4x256 : Shape := ⟨4, ![128, 256, 4, 256]⟩
abbrev S128x1x1024 : Shape := ⟨3, ![128, 1, 1024]⟩
abbrev S512x1024 : Shape := ⟨2, ![512, 1024]⟩
abbrev S2x4x4x256x256 : Shape := ⟨5, ![2, 4, 4, 256, 256]⟩
abbrev S2x2x4 : Shape := ⟨3, ![2, 2, 4]⟩
abbrev S1x1x1 : Shape := ⟨3, ![1, 1, 1]⟩
abbrev S_ : Shape := ⟨0, ![]⟩
abbrev S1x1x4x256x256 : Shape := ⟨5, ![1, 1, 4, 256, 256]⟩
abbrev S4x256x256 : Shape := ⟨3, ![4, 256, 256]⟩
abbrev S4x256x1x256 : Shape := ⟨4, ![4, 256, 1, 256]⟩
abbrev S256x1024 : Shape := ⟨2, ![256, 1024]⟩
abbrev S256 : Shape := ⟨1, ![256]⟩
abbrev S256x1 : Shape := ⟨2, ![256, 1]⟩
abbrev S256x2816 : Shape := ⟨2, ![256, 2816]⟩
abbrev S1x256 : Shape := ⟨2, ![1, 256]⟩
abbrev S1x1x1x256x256 : Shape := ⟨5, ![1, 1, 1, 256, 256]⟩
abbrev S256x256 : Shape := ⟨2, ![256, 256]⟩
abbrev S1 : Shape := ⟨1, ![1]⟩
abbrev S1x1 : Shape := ⟨2, ![1, 1]⟩
abbrev S128 : Shape := ⟨1, ![128]⟩
abbrev S128x1 : Shape := ⟨2, ![128, 1]⟩
abbrev S128x2816 : Shape := ⟨2, ![128, 2816]⟩

abbrev nBuf : Space → Nat
  | .hbm => 26
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S128x1024, .f32⟩
  | .hbm, ⟨7, _⟩ => ⟨S1x128x256x4x256, .f32⟩
  | .hbm, ⟨8, _⟩ => ⟨S1x128x256x4x256, .f32⟩
  | .hbm, ⟨9, _⟩ => ⟨S128x1024, .f32⟩
  | .hbm, ⟨10, _⟩ => ⟨S1x1024x1024, .f32⟩
  | .hbm, ⟨11, _⟩ => ⟨S1024x2816, .f32⟩
  | .hbm, ⟨12, _⟩ => ⟨S1024x2816, .bf16⟩
  | .hbm, ⟨13, _⟩ => ⟨S1024x2816, .f32⟩
  | .hbm, ⟨14, _⟩ => ⟨S1024x2816, .bf16⟩
  | .hbm, ⟨15, _⟩ => ⟨S2816x1024, .f32⟩
  | .hbm, ⟨16, _⟩ => ⟨S2816x1024, .bf16⟩
  | .hbm, ⟨17, _⟩ => ⟨S1024x1024, .f32⟩
  | .hbm, ⟨18, _⟩ => ⟨S1024x1024, .bf16⟩
  | .hbm, ⟨19, _⟩ => ⟨S1024, .f32⟩
  | .hbm, ⟨20, _⟩ => ⟨S1x1024, .f32⟩
  | .hbm, ⟨21, _⟩ => ⟨S1x1024, .f32⟩
  | .hbm, ⟨22, _⟩ => ⟨S128x256x4x256, .f32⟩
  | .hbm, ⟨23, _⟩ => ⟨S128x256x4x256, .f32⟩
  | .hbm, ⟨24, _⟩ => ⟨S16384x1024, .f32⟩
  | .hbm, ⟨25, _⟩ => ⟨S128x1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S128x1024, .f32⟩
  | .local _ .vmem, ⟨8, _⟩ => ⟨S128x1024, .f32⟩
  | .local _ .vmem, ⟨9, _⟩ => ⟨S1024x1024, .bf16⟩
  | .local _ .vmem, ⟨10, _⟩ => ⟨S512x1024, .f32⟩
  | .local _ .vmem, ⟨11, _⟩ => ⟨S512x1024, .f32⟩
  | .local _ .vmem, ⟨12, _⟩ => ⟨S128x1x1024, .f32⟩
  | .local _ .vmem, ⟨13, _⟩ => ⟨S128x1024, .f32⟩
  | .local _ .vmem, ⟨14, _⟩ => ⟨S2x4x4x256x256, .f32⟩
  | .local _ .vmem, ⟨15, _⟩ => ⟨S2x4x4x256x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13_0 : Ref sig .tc := ⟨.hbm, 24, rfl⟩
abbrev main_v13_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c1_i32_5 : BitVec 32 := 1#32
  let v13 : BitVec 32 := Scalar.addi arg0 c1_i32_5
  let c32_i32 : BitVec 32 := 32#32
  let v14 : BitVec 1 := Scalar.cmpi .slt v13 c32_i32
  let v15 : BitVec 32 := Scalar.extui v14
  let c0_i32_6 : BitVec 32 := 0#32
  let v16 : BitVec 1 := Scalar.cmpi .ne v15 c0_i32_6
  v16

def k0_off1 (i : grid0.Coords) : Fin 3 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v24 : BitVec 32 := Scalar.subi c1_i32_12 v9
  let c0_i32_15 : BitVec 32 := 0#32
  let c0_i32_16 : BitVec 32 := 0#32
  ![v24.toNat, 0, 0]
def k0_off2 (i : grid0.Coords) : Fin 5 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v24 : BitVec 32 := Scalar.subi c1_i32_12 v9
  let c0_i32_14 : BitVec 32 := 0#32
  let c0_i32_17 : BitVec 32 := 0#32
  let c0_i32_18 : BitVec 32 := 0#32
  let c0_i32_19 : BitVec 32 := 0#32
  ![v24.toNat, 0, 0, 0, 0]
def k0_off3 (i : grid0.Coords) : Fin 4 → Nat :=
  let arg0 : BitVec 32 := BitVec.ofNat 32 (i 0).val
  let c1_i32_11 : BitVec 32 := 1#32
  let v23 : BitVec 32 := Scalar.addi arg0 c1_i32_11
  let c4_i32 : BitVec 32 := 4#32
  let v25 : BitVec 32 := Scalar.muli v23 c4_i32
  let c0_i32_20 : BitVec 32 := 0#32
  let c0_i32_13 : BitVec 32 := 0#32
  let c0_i32_21 : BitVec 32 := 0#32
  ![v25.toNat, 0, 0, 0]
def k0_off4 (i : grid0.Coords) : Fin 3 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v24 : BitVec 32 := Scalar.subi c1_i32_12 v9
  let c1_i32_24 : BitVec 32 := 1#32
  let c0_i32_25 : BitVec 32 := 0#32
  ![v24.toNat, 1, 0]
def k0_off5 (i : grid0.Coords) : Fin 3 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v24 : BitVec 32 := Scalar.subi c1_i32_12 v9
  let c0_i32_33 : BitVec 32 := 0#32
  let c1_i32_34 : BitVec 32 := 1#32
  ![v24.toNat, 0, 1]
def k0_off6 (i : grid0.Coords) : Fin 5 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v24 : BitVec 32 := Scalar.subi c1_i32_12 v9
  let c1_i32_32 : BitVec 32 := 1#32
  let c0_i32_35 : BitVec 32 := 0#32
  let c0_i32_36 : BitVec 32 := 0#32
  let c0_i32_37 : BitVec 32 := 0#32
  ![v24.toNat, 1, 0, 0, 0]
def k0_off7 (i : grid0.Coords) : Fin 4 → Nat :=
  let arg0 : BitVec 32 := BitVec.ofNat 32 (i 0).val
  let c1_i32_11 : BitVec 32 := 1#32
  let v23 : BitVec 32 := Scalar.addi arg0 c1_i32_11
  let c4_i32 : BitVec 32 := 4#32
  let v25 : BitVec 32 := Scalar.muli v23 c4_i32
  let c0_i32_38 : BitVec 32 := 0#32
  let c1_i32_31 : BitVec 32 := 1#32
  let c0_i32_39 : BitVec 32 := 0#32
  ![v25.toNat, 0, 1, 0]
def k0_off8 (i : grid0.Coords) : Fin 3 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v24 : BitVec 32 := Scalar.subi c1_i32_12 v9
  let c1_i32_42 : BitVec 32 := 1#32
  let c1_i32_43 : BitVec 32 := 1#32
  ![v24.toNat, 1, 1]
def k0_off9 (i : grid0.Coords) : Fin 3 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v24 : BitVec 32 := Scalar.subi c1_i32_12 v9
  let c0_i32_51 : BitVec 32 := 0#32
  let c2_i32_52 : BitVec 32 := 2#32
  ![v24.toNat, 0, 2]
def k0_off10 (i : grid0.Coords) : Fin 5 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v24 : BitVec 32 := Scalar.subi c1_i32_12 v9
  let c2_i32_50 : BitVec 32 := 2#32
  let c0_i32_53 : BitVec 32 := 0#32
  let c0_i32_54 : BitVec 32 := 0#32
  let c0_i32_55 : BitVec 32 := 0#32
  ![v24.toNat, 2, 0, 0, 0]
def k0_off11 (i : grid0.Coords) : Fin 4 → Nat :=
  let arg0 : BitVec 32 := BitVec.ofNat 32 (i 0).val
  let c1_i32_11 : BitVec 32 := 1#32
  let v23 : BitVec 32 := Scalar.addi arg0 c1_i32_11
  let c4_i32 : BitVec 32 := 4#32
  let v25 : BitVec 32 := Scalar.muli v23 c4_i32
  let c0_i32_56 : BitVec 32 := 0#32
  let c2_i32_49 : BitVec 32 := 2#32
  let c0_i32_57 : BitVec 32 := 0#32
  ![v25.toNat, 0, 2, 0]
def k0_off12 (i : grid0.Coords) : Fin 3 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v24 : BitVec 32 := Scalar.subi c1_i32_12 v9
  let c1_i32_60 : BitVec 32 := 1#32
  let c2_i32_61 : BitVec 32 := 2#32
  ![v24.toNat, 1, 2]
def k0_off13 (i : grid0.Coords) : Fin 3 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v24 : BitVec 32 := Scalar.subi c1_i32_12 v9
  let c0_i32_68 : BitVec 32 := 0#32
  let c3_i32_69 : BitVec 32 := 3#32
  ![v24.toNat, 0, 3]
def k0_off14 (i : grid0.Coords) : Fin 5 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v24 : BitVec 32 := Scalar.subi c1_i32_12 v9
  let c3_i32_67 : BitVec 32 := 3#32
  let c0_i32_70 : BitVec 32 := 0#32
  let c0_i32_71 : BitVec 32 := 0#32
  let c0_i32_72 : BitVec 32 := 0#32
  ![v24.toNat, 3, 0, 0, 0]
def k0_off15 (i : grid0.Coords) : Fin 4 → Nat :=
  let arg0 : BitVec 32 := BitVec.ofNat 32 (i 0).val
  let c1_i32_11 : BitVec 32 := 1#32
  let v23 : BitVec 32 := Scalar.addi arg0 c1_i32_11
  let c4_i32 : BitVec 32 := 4#32
  let v25 : BitVec 32 := Scalar.muli v23 c4_i32
  let c0_i32_73 : BitVec 32 := 0#32
  let c3_i32 : BitVec 32 := 3#32
  let c0_i32_74 : BitVec 32 := 0#32
  ![v25.toNat, 0, 3, 0]
def k0_off16 (i : grid0.Coords) : Fin 3 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v24 : BitVec 32 := Scalar.subi c1_i32_12 v9
  let c1_i32_77 : BitVec 32 := 1#32
  let c3_i32_78 : BitVec 32 := 3#32
  ![v24.toNat, 1, 3]
def k0_cond3 (i : grid0.Coords) : BitVec 1 :=
  let arg0 : BitVec 32 := BitVec.ofNat 32 (i 0).val
  let c32_i32_7 : BitVec 32 := 32#32
  let v17 : BitVec 1 := Scalar.cmpi .slt arg0 c32_i32_7
  let v18 : BitVec 32 := Scalar.extui v17
  let c0_i32_8 : BitVec 32 := 0#32
  let v19 : BitVec 1 := Scalar.cmpi .ne v18 c0_i32_8
  v19

def k0_off17 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_13 : BitVec 32 := 0#32
  let c0_i32_14 : BitVec 32 := 0#32
  ![v9.toNat, 0, 0]
def k0_off18 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_12 : BitVec 32 := 0#32
  let c0_i32_15 : BitVec 32 := 0#32
  let c0_i32_16 : BitVec 32 := 0#32
  let c0_i32_17 : BitVec 32 := 0#32
  ![v9.toNat, 0, 0, 0, 0]
def k0_off19 (i : grid0.Coords) : Fin 4 → Nat :=
  let arg0 : BitVec 32 := BitVec.ofNat 32 (i 0).val
  let c4_i32 : BitVec 32 := 4#32
  let v23 : BitVec 32 := Scalar.muli arg0 c4_i32
  let c0_i32_18 : BitVec 32 := 0#32
  let c0_i32_11 : BitVec 32 := 0#32
  let c0_i32_19 : BitVec 32 := 0#32
  ![v23.toNat, 0, 0, 0]
def k0_off20 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_22 : BitVec 32 := 1#32
  let c0_i32_23 : BitVec 32 := 0#32
  ![v9.toNat, 1, 0]
def k0_off21 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_31 : BitVec 32 := 0#32
  let c1_i32_32 : BitVec 32 := 1#32
  ![v9.toNat, 0, 1]
def k0_off22 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_30 : BitVec 32 := 1#32
  let c0_i32_33 : BitVec 32 := 0#32
  let c0_i32_34 : BitVec 32 := 0#32
  let c0_i32_35 : BitVec 32 := 0#32
  ![v9.toNat, 1, 0, 0, 0]
def k0_off23 (i : grid0.Coords) : Fin 4 → Nat :=
  let arg0 : BitVec 32 := BitVec.ofNat 32 (i 0).val
  let c4_i32 : BitVec 32 := 4#32
  let v23 : BitVec 32 := Scalar.muli arg0 c4_i32
  let c0_i32_36 : BitVec 32 := 0#32
  let c1_i32_29 : BitVec 32 := 1#32
  let c0_i32_37 : BitVec 32 := 0#32
  ![v23.toNat, 0, 1, 0]
def k0_off24 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_40 : BitVec 32 := 1#32
  let c1_i32_41 : BitVec 32 := 1#32
  ![v9.toNat, 1, 1]
def k0_off25 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_49 : BitVec 32 := 0#32
  let c2_i32_50 : BitVec 32 := 2#32
  ![v9.toNat, 0, 2]
def k0_off26 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c2_i32_48 : BitVec 32 := 2#32
  let c0_i32_51 : BitVec 32 := 0#32
  let c0_i32_52 : BitVec 32 := 0#32
  let c0_i32_53 : BitVec 32 := 0#32
  ![v9.toNat, 2, 0, 0, 0]
def k0_off27 (i : grid0.Coords) : Fin 4 → Nat :=
  let arg0 : BitVec 32 := BitVec.ofNat 32 (i 0).val
  let c4_i32 : BitVec 32 := 4#32
  let v23 : BitVec 32 := Scalar.muli arg0 c4_i32
  let c0_i32_54 : BitVec 32 := 0#32
  let c2_i32_47 : BitVec 32 := 2#32
  let c0_i32_55 : BitVec 32 := 0#32
  ![v23.toNat, 0, 2, 0]
def k0_off28 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_58 : BitVec 32 := 1#32
  let c2_i32_59 : BitVec 32 := 2#32
  ![v9.toNat, 1, 2]
def k0_off29 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_66 : BitVec 32 := 0#32
  let c3_i32_67 : BitVec 32 := 3#32
  ![v9.toNat, 0, 3]
def k0_off30 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c3_i32_65 : BitVec 32 := 3#32
  let c0_i32_68 : BitVec 32 := 0#32
  let c0_i32_69 : BitVec 32 := 0#32
  let c0_i32_70 : BitVec 32 := 0#32
  ![v9.toNat, 3, 0, 0, 0]
def k0_off31 (i : grid0.Coords) : Fin 4 → Nat :=
  let arg0 : BitVec 32 := BitVec.ofNat 32 (i 0).val
  let c4_i32 : BitVec 32 := 4#32
  let v23 : BitVec 32 := Scalar.muli arg0 c4_i32
  let c0_i32_71 : BitVec 32 := 0#32
  let c3_i32 : BitVec 32 := 3#32
  let c0_i32_72 : BitVec 32 := 0#32
  ![v23.toNat, 0, 3, 0]
def k0_off32 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_75 : BitVec 32 := 1#32
  let c3_i32_76 : BitVec 32 := 3#32
  ![v9.toNat, 1, 3]
def k0_off33 (i : grid0.Coords) (c0_i32_132 : BitVec 32) : Fin 2 → Nat :=
  let arg0 : BitVec 32 := BitVec.ofNat 32 (i 0).val
  let c4_i32_131 : BitVec 32 := 4#32
  let v174 : BitVec 32 := Scalar.muli arg0 c4_i32_131
  let v175 : BitVec 32 := Scalar.addi v174 c0_i32_132
  let v176 : Index := Scalar.indexCast v175
  let c0_133 : Index := 0#32
  ![v176.toNat, 0]
def k0_off34 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v178 : Index := Scalar.indexCast v9
  let c0_134 : Index := 0#32
  let c0_135 : Index := 0#32
  let c0_136 : Index := 0#32
  let c0_137 : Index := 0#32
  ![v178.toNat, 0, 0, 0, 0]
def k0_off35 (i : grid0.Coords) (c0_i32_132 : BitVec 32) : Fin 2 → Nat :=
  let arg0 : BitVec 32 := BitVec.ofNat 32 (i 0).val
  let c4_i32_131 : BitVec 32 := 4#32
  let v174 : BitVec 32 := Scalar.muli arg0 c4_i32_131
  let v175 : BitVec 32 := Scalar.addi v174 c0_i32_132
  let v207 : Index := Scalar.indexCast v175
  let c256_148 : Index := 256#32
  ![v207.toNat, 256]
def k0_off36 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v209 : Index := Scalar.indexCast v9
  let c1 : Index := 1#32
  let c0_149 : Index := 0#32
  let c0_150 : Index := 0#32
  let c0_151 : Index := 0#32
  ![v209.toNat, 1, 0, 0, 0]
def k0_off37 (i : grid0.Coords) (c0_i32_132 : BitVec 32) : Fin 2 → Nat :=
  let arg0 : BitVec 32 := BitVec.ofNat 32 (i 0).val
  let c4_i32_131 : BitVec 32 := 4#32
  let v174 : BitVec 32 := Scalar.muli arg0 c4_i32_131
  let v175 : BitVec 32 := Scalar.addi v174 c0_i32_132
  let v238 : Index := Scalar.indexCast v175
  let c512 : Index := 512#32
  ![v238.toNat, 512]
def k0_off38 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v240 : Index := Scalar.indexCast v9
  let c2 : Index := 2#32
  let c0_162 : Index := 0#32
  let c0_163 : Index := 0#32
  let c0_164 : Index := 0#32
  ![v240.toNat, 2, 0, 0, 0]
def k0_off39 (i : grid0.Coords) (c0_i32_132 : BitVec 32) : Fin 2 → Nat :=
  let arg0 : BitVec 32 := BitVec.ofNat 32 (i 0).val
  let c4_i32_131 : BitVec 32 := 4#32
  let v174 : BitVec 32 := Scalar.muli arg0 c4_i32_131
  let v175 : BitVec 32 := Scalar.addi v174 c0_i32_132
  let v269 : Index := Scalar.indexCast v175
  let c768 : Index := 768#32
  ![v269.toNat, 768]
def k0_off40 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v271 : Index := Scalar.indexCast v9
  let c3 : Index := 3#32
  let c0_175 : Index := 0#32
  let c0_176 : Index := 0#32
  let c0_177 : Index := 0#32
  ![v271.toNat, 3, 0, 0, 0]
def k0_off41 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v304 : Index := Scalar.indexCast v9
  let c0_191 : Index := 0#32
  let c1_192 : Index := 1#32
  let c0_193 : Index := 0#32
  let c0_194 : Index := 0#32
  ![v304.toNat, 0, 1, 0, 0]
def k0_off42 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v335 : Index := Scalar.indexCast v9
  let c1_206 : Index := 1#32
  let c1_207 : Index := 1#32
  let c0_208 : Index := 0#32
  let c0_209 : Index := 0#32
  ![v335.toNat, 1, 1, 0, 0]
def k0_off43 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v366 : Index := Scalar.indexCast v9
  let c2_221 : Index := 2#32
  let c1_222 : Index := 1#32
  let c0_223 : Index := 0#32
  let c0_224 : Index := 0#32
  ![v366.toNat, 2, 1, 0, 0]
def k0_off44 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v397 : Index := Scalar.indexCast v9
  let c3_236 : Index := 3#32
  let c1_237 : Index := 1#32
  let c0_238 : Index := 0#32
  let c0_239 : Index := 0#32
  ![v397.toNat, 3, 1, 0, 0]
def k0_off45 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v430 : Index := Scalar.indexCast v9
  let c0_253 : Index := 0#32
  let c2_254 : Index := 2#32
  let c0_255 : Index := 0#32
  let c0_256 : Index := 0#32
  ![v430.toNat, 0, 2, 0, 0]
def k0_off46 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v461 : Index := Scalar.indexCast v9
  let c1_268 : Index := 1#32
  let c2_269 : Index := 2#32
  let c0_270 : Index := 0#32
  let c0_271 : Index := 0#32
  ![v461.toNat, 1, 2, 0, 0]
def k0_off47 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v492 : Index := Scalar.indexCast v9
  let c2_283 : Index := 2#32
  let c2_284 : Index := 2#32
  let c0_285 : Index := 0#32
  let c0_286 : Index := 0#32
  ![v492.toNat, 2, 2, 0, 0]
def k0_off48 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v523 : Index := Scalar.indexCast v9
  let c3_298 : Index := 3#32
  let c2_299 : Index := 2#32
  let c0_300 : Index := 0#32
  let c0_301 : Index := 0#32
  ![v523.toNat, 3, 2, 0, 0]
def k0_off49 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v556 : Index := Scalar.indexCast v9
  let c0_315 : Index := 0#32
  let c3_316 : Index := 3#32
  let c0_317 : Index := 0#32
  let c0_318 : Index := 0#32
  ![v556.toNat, 0, 3, 0, 0]
def k0_off50 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v587 : Index := Scalar.indexCast v9
  let c1_330 : Index := 1#32
  let c3_331 : Index := 3#32
  let c0_332 : Index := 0#32
  let c0_333 : Index := 0#32
  ![v587.toNat, 1, 3, 0, 0]
def k0_off51 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v618 : Index := Scalar.indexCast v9
  let c2_345 : Index := 2#32
  let c3_346 : Index := 3#32
  let c0_347 : Index := 0#32
  let c0_348 : Index := 0#32
  ![v618.toNat, 2, 3, 0, 0]
def k0_off52 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v649 : Index := Scalar.indexCast v9
  let c3_360 : Index := 3#32
  let c3_361 : Index := 3#32
  let c0_362 : Index := 0#32
  let c0_363 : Index := 0#32
  ![v649.toNat, 3, 3, 0, 0]
def k0_cond4 (i : grid0.Coords) : BitVec 1 :=
  let arg0 : BitVec 32 := BitVec.ofNat 32 (i 0).val
  let c32_i32_9 : BitVec 32 := 32#32
  let v20 : BitVec 1 := Scalar.cmpi .eq arg0 c32_i32_9
  let v21 : BitVec 32 := Scalar.extui v20
  let c0_i32_10 : BitVec 32 := 0#32
  let v22 : BitVec 1 := Scalar.cmpi .ne v21 c0_i32_10
  v22

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S128x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Kernel2Ideal.lean ====
variable {F : FTy → Type} [FloatOps F] [Named F]
def κ : String → Option EReal := fun
  | "neg_log2e" => some ((-((Real.log 2)⁻¹) : ℝ) : EReal)
  | _ => none
-- ==== Reference2Ideal.lean ====
abbrev S16384x1024 : Shape := ⟨2, ![16384, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S128x1024 : Shape := ⟨2, ![128, 1024]⟩
abbrev S1x128x256x4x256 : Shape := ⟨5, ![1, 128, 256, 4, 256]⟩
abbrev S1x1024x1024 : Shape := ⟨3, ![1, 1024, 1024]⟩
abbrev S_ : Shape := ⟨0, ![]⟩
abbrev S16384 : Shape := ⟨1, ![16384]⟩
abbrev S16384x1 : Shape := ⟨2, ![16384, 1]⟩
abbrev S1024x2816 : Shape := ⟨2, ![1024, 2816]⟩
abbrev S16384x2816 : Shape := ⟨2, ![16384, 2816]⟩
abbrev S2816x1024 : Shape := ⟨2, ![2816, 1024]⟩

abbrev nBuf : Space → Nat
  | .hbm => 61
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S128x1024, .f32⟩
  | .hbm, ⟨7, _⟩ => ⟨S1x128x256x4x256, .f32⟩
  | .hbm, ⟨8, _⟩ => ⟨S1x128x256x4x256, .f32⟩
  | .hbm, ⟨9, _⟩ => ⟨S128x1024, .f32⟩
  | .hbm, ⟨10, _⟩ => ⟨S1x1024x1024, .f32⟩
  | .hbm, ⟨11, _⟩ => ⟨S1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S1024x2816, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S_, .f32⟩
  | .hbm, ⟨33, _⟩ => ⟨S16384x2816, .f32⟩
  | .hbm, ⟨34, _⟩ => ⟨S16384x2816, .f32⟩
  | .hbm, ⟨35, _⟩ => ⟨S_, .f32⟩
  | .hbm, ⟨36, _⟩ => ⟨S16384x2816, .f32⟩
  | .hbm, ⟨37, _⟩ => ⟨S16384x2816, .f32⟩
  | .hbm, ⟨38, _⟩ => ⟨S16384x2816, .f32⟩
  | .hbm, ⟨39, _⟩ => ⟨S1024x2816, .f32⟩
  | .hbm, ⟨40, _⟩ => ⟨S16384x2816, .f32⟩
  | .hbm, ⟨41, _⟩ => ⟨S16384x2816, .f32⟩
  | .hbm, ⟨42, _⟩ => ⟨S2816x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S_, .f32⟩
  | .hbm, ⟨53, _⟩ => ⟨S16384x1, .f32⟩
  | .hbm, ⟨54, _⟩ => ⟨S16384x1, .f32⟩
  | .hbm, ⟨55, _⟩ => ⟨S16384x1, .f32⟩
  | .hbm, ⟨56, _⟩ => ⟨S16384x1024, .f32⟩
  | .hbm, ⟨57, _⟩ => ⟨S16384x1024, .f32⟩
  | .hbm, ⟨58, _⟩ => ⟨S1x1024, .f32⟩
  | .hbm, ⟨59, _⟩ => ⟨S16384x1024, .f32⟩
  | .hbm, ⟨60, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩

abbrev nD : Nat := 1
abbrev τ : Topo := Topo.v7x

variable {F : FTy → Type} [FloatOps F]
-- ==== Proof.AttnSetup.lean ====
module

public import proofs.«01_k».proof.Proof.Gen.KernelIdeal.Frame
public import proofs.«01_k».proof.Proof.Gen.KernelIdeal.Skeleton
public import Idealize.ShloMosaic.Lib.Pipeline.TableIdle

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The one conditional of the body: taken at the first of a batch's two points. -/
abbrev isFirst (i : grid0.Coords) : Prop := k0_cond1 i = 1#1

/-- The conditional is taken exactly at the even points. -/
theorem isFirst_iff : ∀ t : Fin cfg0.N, isFirst (grid0.coords t) ↔ t.val % 2 = 0 :=
  (fun t => by
    have ht : t.val < 16 := Nat.lt_of_lt_of_eq t.isLt N_0
    have e1 : (grid0.coords t 1).val = t.val / 1 % 2 := Pipeline.Grid.coords_val t 1 (by decide) rfl
    simp only [isFirst, k0_cond1, e1]
    word_cmp
   : ∀ t : Fin grid0.N, isFirst (grid0.coords t) ↔ t.val % 2 = 0)

/-- At an odd point the conditional is not taken. -/
theorem not_isFirst (t : Fin cfg0.N) (h : ¬ t.val % 2 = 0) : ¬ isFirst (grid0.coords t) :=
  fun h' => h ((isFirst_iff t).mp h')

/-- The first point of `t`'s batch: the even point at or just before `t`. -/
def fst (t : Fin cfg0.N) : Fin cfg0.N := ⟨t.val - t.val % 2, by have := t.isLt; omega⟩

theorem fst_even (t : Fin cfg0.N) : (fst t).val % 2 = 0 := by
  show (t.val - t.val % 2) % 2 = 0
  omega

/-- An even point is its batch's first. -/
theorem fst_of_even (t : Fin cfg0.N) (h : t.val % 2 = 0) : fst t = t := by
  apply Fin.ext; show t.val - t.val % 2 = t.val; omega

/-- The point before an odd one is its batch's first. -/
theorem fst_of_odd (t : Fin cfg0.N) (h : ¬ t.val % 2 = 0) : fst t = ⟨t.val - 1, by have := t.isLt; omega⟩ := by
  apply Fin.ext; show t.val - t.val % 2 = t.val - 1; omega

theorem fst_pred (t : Fin cfg0.N) (h : ¬ t.val % 2 = 0) (hp : t.val - 1 < cfg0.N) : fst ⟨t.val - 1, hp⟩ = fst t := by
  apply Fin.ext; show (t.val - 1) - (t.val - 1) % 2 = t.val - t.val % 2; omega

/-- Every window but the two of the memory's keys and values is used at every point. -/
theorem live : ∀ (w : Fin cfg0.W), w ≠ 16 → w ≠ 17 → ∀ t : Fin cfg0.N, cfg0.idle w (grid0.coords t) = false := by
  decide +kernel

/-- The key and the value windows are used at the even points, -/
theorem live_kv : ∀ t : Fin cfg0.N, t.val % 2 = 0 →
    cfg0.idle 16 (grid0.coords t) = false ∧ cfg0.idle 17 (grid0.coords t) = false := by
  decide +kernel

/-- and at the odd points they are left alone and written back. -/
theorem idle_kv : ∀ t : Fin cfg0.N, ¬ t.val % 2 = 0 →
    (cfg0.idle 16 (grid0.coords t) = true ∧ cfg0.idle 17 (grid0.coords t) = true)
      ∧ (cfg0.win 16).flush t = true ∧ (cfg0.win 17).flush t = true := by
  decide +kernel

/-- Whether the key window's (value window's) buffer holds nothing stored since its last write-back: so before every
    even point, and not before an odd one. -/
def freshTab (n : ℕ) : Bool := n % 2 == 0

theorem fresh_kv (t : Fin cfg0.N) : cfg0.fresh 16 t.val = freshTab t.val ∧ cfg0.fresh 17 t.val = freshTab t.val :=
  ⟨Pipeline.Cfg.fresh_tab cfg0 16 freshTab rfl (by decide +kernel) t.val (Nat.le_of_lt t.isLt),
   Pipeline.Cfg.fresh_tab cfg0 17 freshTab rfl (by decide +kernel) t.val (Nat.le_of_lt t.isLt)⟩

theorem not_fresh (t : Fin cfg0.N) (h : ¬ t.val % 2 = 0) : freshTab t.val = false := by
  unfold freshTab; simpa using h

/-! ## The buffers: one staging buffer of each output (`VO0_W`), the staging buffer of each window at a point (`ms0_W`,
    whole by `hs0_W`), the two scratch buffers (`scM0_N`) -/

abbrev VO0_15 : View sig .tc .vmem S1024x1024 .f32 := (Memref.whole cc0_stg15_0 : Memref sig .tc .vmem S1024x1024 .f32).view
abbrev VO0_16 : View sig .tc .vmem S1x256x4x256 .f32 := (Memref.whole cc0_stg16_0 : Memref sig .tc .vmem S1x256x4x256 .f32).view
abbrev VO0_17 : View sig .tc .vmem S1x256x4x256 .f32 := (Memref.whole cc0_stg17_0 : Memref sig .tc .vmem S1x256x4x256 .f32).view
abbrev VO0_18 : View sig .tc .vmem S8x512x128 .f32 := (Memref.whole cc0_stg18_0 : Memref sig .tc .vmem S8x512x128 .f32).view
abbrev VO0_19 : View sig .tc .vmem S8x512 .f32 := (Memref.whole cc0_stg19_0 : Memref sig .tc .vmem S8x512 .f32).view
abbrev VO0_20 : View sig .tc .vmem S64x2816 .bf16 := (Memref.whole cc0_stg20_0 : Memref sig .tc .vmem S64x2816 .bf16).view
abbrev VO0_21 : View sig .tc .vmem S64x2816 .bf16 := (Memref.whole cc0_stg21_0 : Memref sig .tc .vmem S64x2816 .bf16).view
abbrev VO0_22 : View sig .tc .vmem S176x1024 .bf16 := (Memref.whole cc0_stg22_0 : Memref sig .tc .vmem S176x1024 .bf16).view
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .smem S1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8x512x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S8x512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S8x512 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S64x2816 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S64x2816 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S176x1024 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1024x1024 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x256x4x256 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x256x4x256 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S8x512x128 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S8x512 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S64x2816 .bf16 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S64x2816 .bf16 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S176x1024 .bf16 := win0_22.stage (cfg0.slots t 22)
abbrev hs0_22 (t : Fin cfg0.N) : (ms0_22 t).IsWhole := hstage0_22 ((cfg0.slots t 22).cast nbuf0_22)
abbrev scM0_0 : Memref sig .tc .vmem S256x1024 .bf16 := Memref.whole cc0_scratch0
abbrev scM0_1 : Memref sig .tc .vmem S256x1024 .bf16 := Memref.whole cc0_scratch1
abbrev VS0_0 : View sig .tc .vmem S256x1024 .bf16 := scM0_0.view
abbrev VS0_1 : View sig .tc .vmem S256x1024 .bf16 := scM0_1.view

/-- What the launch hands the region, with the two scratch buffers as memrefs at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Attn

end
-- ==== Proof.AttnRunFirst.lean ====
module

public import proofs.«01_k».proof.Proof.AttnSetup

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2672000 in
/-- The body at a batch's FIRST point, from whole staging buffers: the inputs' at their contents, the outputs' and the two
    scratch buffers at anything. It runs to the inputs' unchanged and each output's and scratch buffer's with the pieces
    stored into it (last first), which are part of what is defined here. -/
noncomputable def runFirst (c : Dev nD) (i : grid0.Coords) (arg2 : Memref sig .tc .vmem S1024x1024 .f32) (harg2 : arg2.IsWhole) (arg3 : Memref sig .tc .vmem S1x256x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .smem S1024 .f32) (harg10 : arg10.IsWhole) (arg11 : Memref sig .tc .vmem S8x512x128 .f32) (harg11 : arg11.IsWhole) (arg12 : Memref sig .tc .vmem S8x512 .f32) (harg12 : arg12.IsWhole) (arg13 : Memref sig .tc .vmem S8x512 .f32) (harg13 : arg13.IsWhole) (arg14 : Memref sig .tc .vmem S64x2816 .f32) (harg14 : arg14.IsWhole) (arg15 : Memref sig .tc .vmem S64x2816 .f32) (harg15 : arg15.IsWhole) (arg16 : Memref sig .tc .vmem S176x1024 .f32) (harg16 : arg16.IsWhole) (arg17 : Memref sig .tc .vmem S1024x1024 .f32) (harg17 : arg17.IsWhole) (arg18 : Memref sig .tc .vmem S1x256x4x256 .f32) (harg18 : arg18.IsWhole) (arg19 : Memref sig .tc .vmem S1x256x4x256 .f32) (harg19 : arg19.IsWhole) (arg20 : Memref sig .tc .vmem S8x512x128 .f32) (harg20 : arg20.IsWhole) (arg21 : Memref sig .tc .vmem S8x512 .f32) (harg21 : arg21.IsWhole) (arg22 : Memref sig .tc .vmem S64x2816 .bf16) (harg22 : arg22.IsWhole) (arg23 : Memref sig .tc .vmem S64x2816 .bf16) (harg23 : arg23.IsWhole) (arg24 : Memref sig .tc .vmem S176x1024 .bf16) (harg24 : arg24.IsWhole) (arg25 : Memref sig .tc .vmem S256x1024 .bf16) (harg25 : arg25.IsWhole) (arg26 : Memref sig .tc .vmem S256x1024 .bf16) (harg26 : arg26.IsWhole) (hc : isFirst i)
    (x0 : Vec F S1024x1024 .f32) (x1 : Vec F S1x256x1024 .f32) (x2 : Vec F S1x1024 .f32) (x3 : Vec F S1024x1024 .bf16) (x4 : Vec F S1024x1024 .bf16) (x5 : Vec F S1x1024 .f32) (x6 : Vec F S1024x1024 .bf16) (x7 : Vec F S1024x1024 .bf16) (x8 : Vec F S1024 .f32) (x9 : Vec F S8x512x128 .f32) (x10 : Vec F S8x512 .f32) (x11 : Vec F S8x512 .f32) (x12 : Vec F S64x2816 .f32) (x13 : Vec F S64x2816 .f32) (x14 : Vec F S176x1024 .f32) :
    Σ' (L15 : List (View.Piece (Elt F) S1024x1024 .f32)), Σ' (L16 : List (View.Piece (Elt F) S1x256x4x256 .f32)), Σ' (L17 : List (View.Piece (Elt F) S1x256x4x256 .f32)), Σ' (L18 : List (View.Piece (Elt F) S8x512x128 .f32)), Σ' (L19 : List (View.Piece (Elt F) S8x512 .f32)), Σ' (L20 : List (View.Piece (Elt F) S64x2816 .bf16)), Σ' (L21 : List (View.Piece (Elt F) S64x2816 .bf16)), Σ' (L22 : List (View.Piece (Elt F) S176x1024 .bf16)), Σ' (LS0 : List (View.Piece (Elt F) S256x1024 .bf16)), { LS1 : List (View.Piece (Elt F) S256x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f L21) ∗ (∃ f, arg24.view.loc (c : Thread nD τ) ↦[arg24.view.set]{fullShare} arg24.view.writes (Elt F) f L22) ∗ (∃ f, arg25.view.loc (c : Thread nD τ) ↦[arg25.view.set]{fullShare} arg25.view.writes (Elt F) f LS0) ∗ (∃ f, arg26.view.loc (c : Thread nD τ) ↦[arg26.view.set]{fullShare} arg26.view.writes (Elt F) f LS1)) -∗ K ⟨⟩))
          ⊢ wp frame (wpE (defs₀ (F := F)) Variants.none c none) E (cc0_p_attn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨?_, ?_, ?_, ?_, ?_, ?_, ?_, ?_, ?_, ?_, fun E K => ?run⟩
  case run =>
    simp only [cc0_p_attn_eq_skeleton]; unfold cc0_p_attn_skel
    simp only [k0_part36_eq_skeleton, k0_part3_eq_skeleton, k0_part1_eq_skeleton, k0_part2_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
    sl_exec (disch := sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [HS0]; · iexists _; iexact HS0
    iexists _; iexact HS1

end Cert.KernelIdeal.Attn

end
-- ==== Proof.AttnRunSecond.lean ====
module

public import proofs.«01_k».proof.Proof.AttnSetup

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2672000 in
/-- The body at a batch's SECOND point: it stores into all the outputs but the keys' and the values' (whose buffers it does
    not touch, so they are not mentioned), and reads the scratch buffers, which it leaves as they were. -/
noncomputable def runSecond (c : Dev nD) (i : grid0.Coords) (arg2 : Memref sig .tc .vmem S1024x1024 .f32) (harg2 : arg2.IsWhole) (arg3 : Memref sig .tc .vmem S1x256x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .smem S1024 .f32) (harg10 : arg10.IsWhole) (arg11 : Memref sig .tc .vmem S8x512x128 .f32) (harg11 : arg11.IsWhole) (arg12 : Memref sig .tc .vmem S8x512 .f32) (harg12 : arg12.IsWhole) (arg13 : Memref sig .tc .vmem S8x512 .f32) (harg13 : arg13.IsWhole) (arg14 : Memref sig .tc .vmem S64x2816 .f32) (harg14 : arg14.IsWhole) (arg15 : Memref sig .tc .vmem S64x2816 .f32) (harg15 : arg15.IsWhole) (arg16 : Memref sig .tc .vmem S176x1024 .f32) (harg16 : arg16.IsWhole) (arg17 : Memref sig .tc .vmem S1024x1024 .f32) (harg17 : arg17.IsWhole) (arg18 : Memref sig .tc .vmem S1x256x4x256 .f32) (harg18 : arg18.IsWhole) (arg19 : Memref sig .tc .vmem S1x256x4x256 .f32) (harg19 : arg19.IsWhole) (arg20 : Memref sig .tc .vmem S8x512x128 .f32) (harg20 : arg20.IsWhole) (arg21 : Memref sig .tc .vmem S8x512 .f32) (harg21 : arg21.IsWhole) (arg22 : Memref sig .tc .vmem S64x2816 .bf16) (harg22 : arg22.IsWhole) (arg23 : Memref sig .tc .vmem S64x2816 .bf16) (harg23 : arg23.IsWhole) (arg24 : Memref sig .tc .vmem S176x1024 .bf16) (harg24 : arg24.IsWhole) (arg25 : Memref sig .tc .vmem S256x1024 .bf16) (harg25 : arg25.IsWhole) (arg26 : Memref sig .tc .vmem S256x1024 .bf16) (harg26 : arg26.IsWhole) (hc : ¬ isFirst i)
    (x0 : Vec F S1024x1024 .f32) (x1 : Vec F S1x256x1024 .f32) (x2 : Vec F S1x1024 .f32) (x3 : Vec F S1024x1024 .bf16) (x4 : Vec F S1024x1024 .bf16) (x5 : Vec F S1x1024 .f32) (x6 : Vec F S1024x1024 .bf16) (x7 : Vec F S1024x1024 .bf16) (x8 : Vec F S1024 .f32) (x9 : Vec F S8x512x128 .f32) (x10 : Vec F S8x512 .f32) (x11 : Vec F S8x512 .f32) (x12 : Vec F S64x2816 .f32) (x13 : Vec F S64x2816 .f32) (x14 : Vec F S176x1024 .f32) (xs0 : Vec F S256x1024 .bf16) (xs1 : Vec F S256x1024 .bf16) :
    Σ' (L15 : List (View.Piece (Elt F) S1024x1024 .f32)), Σ' (L18 : List (View.Piece (Elt F) S8x512x128 .f32)), Σ' (L19 : List (View.Piece (Elt F) S8x512 .f32)), Σ' (L20 : List (View.Piece (Elt F) S64x2816 .bf16)), Σ' (L21 : List (View.Piece (Elt F) S64x2816 .bf16)), { L22 : List (View.Piece (Elt F) S176x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ owns (c : Thread nD τ) arg25 fullShare xs0 ∗ owns (c : Thread nD τ) arg26 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ f, arg17.view.loc (c : Thread nD τ) ↦[arg17.view.set]{fullShare} arg17.view.writes (Elt F) f L15) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f L21) ∗ (∃ f, arg24.view.loc (c : Thread nD τ) ↦[arg24.view.set]{fullShare} arg24.view.writes (Elt F) f L22) ∗ owns (c : Thread nD τ) arg25 fullShare xs0 ∗ owns (c : Thread nD τ) arg26 fullShare xs1) -∗ K ⟨⟩))
          ⊢ wp frame (wpE (defs₀ (F := F)) Variants.none c none) E (cc0_p_attn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨?_, ?_, ?_, ?_, ?_, ?_, fun E K => ?run⟩
  case run =>
    simp only [cc0_p_attn_eq_skeleton]; unfold cc0_p_attn_skel
    simp only [k0_part36_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d18, %f18, -, H18⟩, ⟨%d19, %f19, -, H19⟩, ⟨%d20, %f20, -, H20⟩, ⟨%d21, %f21, -, H21⟩, ⟨%d22, %f22, -, H22⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg25.eq_unread hfs0; obtain rfl := harg26.eq_unread hfs1
    sl_exec (disch := sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]; · iexists _; iexact H15
    isplitl [H18]; · iexists _; iexact H18
    isplitl [H19]; · iexists _; iexact H19
    isplitl [H20]; · iexists _; iexact H20
    isplitl [H21]; · iexists _; iexact H21
    isplitl [H22]; · iexists _; iexact H22
    isplitl [HS0]
    · iexists _; isplitr; · ipureintro; exact harg25.read_unread _
      iexact HS0
    iexists _; isplitr; · ipureintro; exact harg26.read_unread _
    iexact HS1

end Cert.KernelIdeal.Attn

end
-- ==== Proof.AttnFrame.lean ====
module

public import proofs.«01_k».proof.Proof.AttnRunFirst
public import proofs.«01_k».proof.Proof.AttnRunSecond
public import Idealize.ShloMosaic.Lib.Claim

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body stores at a point -/

/-- The pieces the body stores at a batch's first point `t`. -/
def pcsA (c : Dev nD) (t : Fin cfg0.N) (h : t.val % 2 = 0) :=
  runFirst c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) ((isFirst_iff t).mpr h) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)

/-- The pieces the body stores at a batch's second point `t`, when the scratch buffers hold `k` and `v`. -/
def pcsB (c : Dev nD) (t : Fin cfg0.N) (h : ¬ t.val % 2 = 0) (k v : Vec F S256x1024 .bf16) :=
  runSecond c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) (not_isFirst t h) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) k v

/-! What each output's (`out…_W`) and each scratch buffer's (`key…`, `val…`) staging buffer holds after a first point (`A`) and
    after a second (`B`): the stored pieces read back; and in each case the pieces cover the buffer (`cov_…`). -/

def outA_15 (c : Dev nD) (t : Fin cfg0.N) (h : t.val % 2 = 0) : Vec F S1024x1024 .f32 :=
  VO0_15.read (Elt F) (VO0_15.writes (Elt F) VO0_15.junk (pcsA m c t h).1)
theorem cov_outA_15 (c : Dev nD) (t : Fin cfg0.N) (h : t.val % 2 = 0) (y : S1024x1024.Idx) : ∃ pc ∈ (pcsA m c t h).1, y ∈ pc.1.set :=
  View.cover_of_tiledL (pcsA m c t h).1 S512x1024.size (by sl_kernel_rfl) y
def outA_16 (c : Dev nD) (t : Fin cfg0.N) (h : t.val % 2 = 0) : Vec F S1x256x4x256 .f32 :=
  VO0_16.read (Elt F) (VO0_16.writes (Elt F) VO0_16.junk (pcsA m c t h).2.1)
theorem cov_outA_16 (c : Dev nD) (t : Fin cfg0.N) (h : t.val % 2 = 0) (y : S1x256x4x256.Idx) : ∃ pc ∈ (pcsA m c t h).2.1, y ∈ pc.1.set :=
  View.cover_of_tiledL (pcsA m c t h).2.1 S1x256x1x256.size (by sl_kernel_rfl) y
def outA_17 (c : Dev nD) (t : Fin cfg0.N) (h : t.val % 2 = 0) : Vec F S1x256x4x256 .f32 :=
  VO0_17.read (Elt F) (VO0_17.writes (Elt F) VO0_17.junk (pcsA m c t h).2.2.1)
theorem cov_outA_17 (c : Dev nD) (t : Fin cfg0.N) (h : t.val % 2 = 0) (y : S1x256x4x256.Idx) : ∃ pc ∈ (pcsA m c t h).2.2.1, y ∈ pc.1.set :=
  View.cover_of_tiledL (pcsA m c t h).2.2.1 S1x256x1x256.size (by sl_kernel_rfl) y
def outA_18 (c : Dev nD) (t : Fin cfg0.N) (h : t.val % 2 = 0) : Vec F S8x512x128 .f32 :=
  VO0_18.read (Elt F) (VO0_18.writes (Elt F) VO0_18.junk (pcsA m c t h).2.2.2.1)
theorem cov_outA_18 (c : Dev nD) (t : Fin cfg0.N) (h : t.val % 2 = 0) (y : S8x512x128.Idx) : ∃ pc ∈ (pcsA m c t h).2.2.2.1, y ∈ pc.1.set :=
  View.cover_of_tiledL (pcsA m c t h).2.2.2.1 S1x256x128.size (by sl_kernel_rfl) y
def outA_19 (c : Dev nD) (t : Fin cfg0.N) (h : t.val % 2 = 0) : Vec F S8x512 .f32 :=
  VO0_19.read (Elt F) (VO0_19.writes (Elt F) VO0_19.junk (pcsA m c t h).2.2.2.2.1)
theorem cov_outA_19 (c : Dev nD) (t : Fin cfg0.N) (h : t.val % 2 = 0) (y : S8x512.Idx) : ∃ pc ∈ (pcsA m c t h).2.2.2.2.1, y ∈ pc.1.set :=
  View.cover_of_tiledL (pcsA m c t h).2.2.2.2.1 S8x512.size (by sl_kernel_rfl) y
def outA_20 (c : Dev nD) (t : Fin cfg0.N) (h : t.val % 2 = 0) : Vec F S64x2816 .bf16 :=
  VO0_20.read (Elt F) (VO0_20.writes (Elt F) VO0_20.junk (pcsA m c t h).2.2.2.2.2.1)
theorem cov_outA_20 (c : Dev nD) (t : Fin cfg0.N) (h : t.val % 2 = 0) (y : S64x2816.Idx) : ∃ pc ∈ (pcsA m c t h).2.2.2.2.2.1, y ∈ pc.1.set :=
  View.cover_of_tiledL (pcsA m c t h).2.2.2.2.2.1 S64x2816.size (by sl_kernel_rfl) y
def outA_21 (c : Dev nD) (t : Fin cfg0.N) (h : t.val % 2 = 0) : Vec F S64x2816 .bf16 :=
  VO0_21.read (Elt F) (VO0_21.writes (Elt F) VO0_21.junk (pcsA m c t h).2.2.2.2.2.2.1)
theorem cov_outA_21 (c : Dev nD) (t : Fin cfg0.N) (h : t.val % 2 = 0) (y : S64x2816.Idx) : ∃ pc ∈ (pcsA m c t h).2.2.2.2.2.2.1, y ∈ pc.1.set :=
  View.cover_of_tiledL (pcsA m c t h).2.2.2.2.2.2.1 S64x2816.size (by sl_kernel_rfl) y
def outA_22 (c : Dev nD) (t : Fin cfg0.N) (h : t.val % 2 = 0) : Vec F S176x1024 .bf16 :=
  VO0_22.read (Elt F) (VO0_22.writes (Elt F) VO0_22.junk (pcsA m c t h).2.2.2.2.2.2.2.1)
theorem cov_outA_22 (c : Dev nD) (t : Fin cfg0.N) (h : t.val % 2 = 0) (y : S176x1024.Idx) : ∃ pc ∈ (pcsA m c t h).2.2.2.2.2.2.2.1, y ∈ pc.1.set :=
  View.cover_of_tiledL (pcsA m c t h).2.2.2.2.2.2.2.1 S176x1024.size (by sl_kernel_rfl) y
def keyA (c : Dev nD) (t : Fin cfg0.N) (h : t.val % 2 = 0) : Vec F S256x1024 .bf16 :=
  VS0_0.read (Elt F) (VS0_0.writes (Elt F) VS0_0.junk (pcsA m c t h).2.2.2.2.2.2.2.2.1)
theorem cov_keyA (c : Dev nD) (t : Fin cfg0.N) (h : t.val % 2 = 0) (y : S256x1024.Idx) : ∃ pc ∈ (pcsA m c t h).2.2.2.2.2.2.2.2.1, y ∈ pc.1.set :=
  View.cover_of_tiledL (pcsA m c t h).2.2.2.2.2.2.2.2.1 S256x1024.size (by sl_kernel_rfl) y
def valA (c : Dev nD) (t : Fin cfg0.N) (h : t.val % 2 = 0) : Vec F S256x1024 .bf16 :=
  VS0_1.read (Elt F) (VS0_1.writes (Elt F) VS0_1.junk (pcsA m c t h).2.2.2.2.2.2.2.2.2.1)
theorem cov_valA (c : Dev nD) (t : Fin cfg0.N) (h : t.val % 2 = 0) (y : S256x1024.Idx) : ∃ pc ∈ (pcsA m c t h).2.2.2.2.2.2.2.2.2.1, y ∈ pc.1.set :=
  View.cover_of_tiledL (pcsA m c t h).2.2.2.2.2.2.2.2.2.1 S256x1024.size (by sl_kernel_rfl) y
def outB_15 (c : Dev nD) (t : Fin cfg0.N) (h : ¬ t.val % 2 = 0) (k v : Vec F S256x1024 .bf16) : Vec F S1024x1024 .f32 :=
  VO0_15.read (Elt F) (VO0_15.writes (Elt F) VO0_15.junk (pcsB m c t h k v).1)
theorem cov_outB_15 (c : Dev nD) (t : Fin cfg0.N) (h : ¬ t.val % 2 = 0) (k v : Vec F S256x1024 .bf16) (y : S1024x1024.Idx) : ∃ pc ∈ (pcsB m c t h k v).1, y ∈ pc.1.set :=
  View.cover_of_tiledL (pcsB m c t h k v).1 S512x1024.size (by sl_kernel_rfl) y
def outB_18 (c : Dev nD) (t : Fin cfg0.N) (h : ¬ t.val % 2 = 0) (k v : Vec F S256x1024 .bf16) : Vec F S8x512x128 .f32 :=
  VO0_18.read (Elt F) (VO0_18.writes (Elt F) VO0_18.junk (pcsB m c t h k v).2.1)
theorem cov_outB_18 (c : Dev nD) (t : Fin cfg0.N) (h : ¬ t.val % 2 = 0) (k v : Vec F S256x1024 .bf16) (y : S8x512x128.Idx) : ∃ pc ∈ (pcsB m c t h k v).2.1, y ∈ pc.1.set :=
  View.cover_of_tiledL (pcsB m c t h k v).2.1 S1x256x128.size (by sl_kernel_rfl) y
def outB_19 (c : Dev nD) (t : Fin cfg0.N) (h : ¬ t.val % 2 = 0) (k v : Vec F S256x1024 .bf16) : Vec F S8x512 .f32 :=
  VO0_19.read (Elt F) (VO0_19.writes (Elt F) VO0_19.junk (pcsB m c t h k v).2.2.1)
theorem cov_outB_19 (c : Dev nD) (t : Fin cfg0.N) (h : ¬ t.val % 2 = 0) (k v : Vec F S256x1024 .bf16) (y : S8x512.Idx) : ∃ pc ∈ (pcsB m c t h k v).2.2.1, y ∈ pc.1.set :=
  View.cover_of_tiledL (pcsB m c t h k v).2.2.1 S8x512.size (by sl_kernel_rfl) y
def outB_20 (c : Dev nD) (t : Fin cfg0.N) (h : ¬ t.val % 2 = 0) (k v : Vec F S256x1024 .bf16) : Vec F S64x2816 .bf16 :=
  VO0_20.read (Elt F) (VO0_20.writes (Elt F) VO0_20.junk (pcsB m c t h k v).2.2.2.1)
theorem cov_outB_20 (c : Dev nD) (t : Fin cfg0.N) (h : ¬ t.val % 2 = 0) (k v : Vec F S256x1024 .bf16) (y : S64x2816.Idx) : ∃ pc ∈ (pcsB m c t h k v).2.2.2.1, y ∈ pc.1.set :=
  View.cover_of_tiledL (pcsB m c t h k v).2.2.2.1 S64x2816.size (by sl_kernel_rfl) y
def outB_21 (c : Dev nD) (t : Fin cfg0.N) (h : ¬ t.val % 2 = 0) (k v : Vec F S256x1024 .bf16) : Vec F S64x2816 .bf16 :=
  VO0_21.read (Elt F) (VO0_21.writes (Elt F) VO0_21.junk (pcsB m c t h k v).2.2.2.2.1)
theorem cov_outB_21 (c : Dev nD) (t : Fin cfg0.N) (h : ¬ t.val % 2 = 0) (k v : Vec F S256x1024 .bf16) (y : S64x2816.Idx) : ∃ pc ∈ (pcsB m c t h k v).2.2.2.2.1, y ∈ pc.1.set :=
  View.cover_of_tiledL (pcsB m c t h k v).2.2.2.2.1 S64x2816.size (by sl_kernel_rfl) y
def outB_22 (c : Dev nD) (t : Fin cfg0.N) (h : ¬ t.val % 2 = 0) (k v : Vec F S256x1024 .bf16) : Vec F S176x1024 .bf16 :=
  VO0_22.read (Elt F) (VO0_22.writes (Elt F) VO0_22.junk (pcsB m c t h k v).2.2.2.2.2.1)
theorem cov_outB_22 (c : Dev nD) (t : Fin cfg0.N) (h : ¬ t.val % 2 = 0) (k v : Vec F S256x1024 .bf16) (y : S176x1024.Idx) : ∃ pc ∈ (pcsB m c t h k v).2.2.2.2.2.1, y ∈ pc.1.set :=
  View.cover_of_tiledL (pcsB m c t h k v).2.2.2.2.2.1 S176x1024.size (by sl_kernel_rfl) y

/-- The key scratch between the points: what the batch's first point stored. -/
def keyAt (c : Dev nD) (t : Fin cfg0.N) : Vec F S256x1024 .bf16 := keyA m c (fst t) (fst_even t)
/-- The value scratch likewise. -/
def valAt (c : Dev nD) (t : Fin cfg0.N) : Vec F S256x1024 .bf16 := valA m c (fst t) (fst_even t)

theorem keyA_congr (c : Dev nD) {t s : Fin cfg0.N} (e : t = s) (h : t.val % 2 = 0) (h' : s.val % 2 = 0) : keyA m c t h = keyA m c s h' := by
  subst e; rfl
theorem valA_congr (c : Dev nD) {t s : Fin cfg0.N} (e : t = s) (h : t.val % 2 = 0) (h' : s.val % 2 = 0) : valA m c t h = valA m c s h' := by
  subst e; rfl
theorem outA_16_congr (c : Dev nD) {t s : Fin cfg0.N} (e : t = s) (h : t.val % 2 = 0) (h' : s.val % 2 = 0) : outA_16 m c t h = outA_16 m c s h' := by
  subst e; rfl
theorem outA_17_congr (c : Dev nD) {t s : Fin cfg0.N} (e : t = s) (h : t.val % 2 = 0) (h' : s.val % 2 = 0) : outA_17 m c t h = outA_17 m c s h' := by
  subst e; rfl

/-- Output 15's buffer after point `t`. -/
def outAt_15 (c : Dev nD) (t : Fin cfg0.N) : Vec F S1024x1024 .f32 :=
  if h : t.val % 2 = 0 then outA_15 m c t h else outB_15 m c t h (keyAt m c t) (valAt m c t)
/-- Output 18's buffer after point `t`. -/
def outAt_18 (c : Dev nD) (t : Fin cfg0.N) : Vec F S8x512x128 .f32 :=
  if h : t.val % 2 = 0 then outA_18 m c t h else outB_18 m c t h (keyAt m c t) (valAt m c t)
/-- Output 19's buffer after point `t`. -/
def outAt_19 (c : Dev nD) (t : Fin cfg0.N) : Vec F S8x512 .f32 :=
  if h : t.val % 2 = 0 then outA_19 m c t h else outB_19 m c t h (keyAt m c t) (valAt m c t)
/-- Output 20's buffer after point `t`. -/
def outAt_20 (c : Dev nD) (t : Fin cfg0.N) : Vec F S64x2816 .bf16 :=
  if h : t.val % 2 = 0 then outA_20 m c t h else outB_20 m c t h (keyAt m c t) (valAt m c t)
/-- Output 21's buffer after point `t`. -/
def outAt_21 (c : Dev nD) (t : Fin cfg0.N) : Vec F S64x2816 .bf16 :=
  if h : t.val % 2 = 0 then outA_21 m c t h else outB_21 m c t h (keyAt m c t) (valAt m c t)
/-- Output 22's buffer after point `t`. -/
def outAt_22 (c : Dev nD) (t : Fin cfg0.N) : Vec F S176x1024 .bf16 :=
  if h : t.val % 2 = 0 then outA_22 m c t h else outB_22 m c t h (keyAt m c t) (valAt m c t)
/-- Output 16's buffer after point `t`: what the batch's first point stored. -/
def outAt_16 (c : Dev nD) (t : Fin cfg0.N) : Vec F S1x256x4x256 .f32 := outA_16 m c (fst t) (fst_even t)
/-- Output 17's buffer after point `t`: what the batch's first point stored. -/
def outAt_17 (c : Dev nD) (t : Fin cfg0.N) : Vec F S1x256x4x256 .f32 := outA_17 m c (fst t) (fst_even t)

/-! ## The region's proof data -/

/-- The region's invariant before position `n`: at the start as launched, afterwards the scratch buffers at the keys and
    values of the batch of point `n - 1`. -/
def Phi (c : Dev nD) : (n : ℕ) → n ≤ cfg0.N → sProp 𝕄
  | 0, _ => Pipeline.ΦA spec0 c
  | n + 1, hn => iprop(iprop(owns (c : Thread nD τ) scM0_0 fullShare (keyAt m c ⟨n, hn⟩) ∗ owns (c : Thread nD τ) scM0_1 fullShare (valAt m c ⟨n, hn⟩)) ∗ (∃ r, prngReg c r))

theorem Phi_succ (c : Dev nD) (n : ℕ) (hn : n < cfg0.N) :
    Phi m c (n + 1) hn = iprop(iprop(owns (c : Thread nD τ) scM0_0 fullShare (keyAt m c ⟨n, hn⟩) ∗ owns (c : Thread nD τ) scM0_1 fullShare (valAt m c ⟨n, hn⟩)) ∗ (∃ r, prngReg c r)) := rfl

/-- Before any point the invariant gives back what the launch handed over: what the scratch buffers hold is forgotten. -/
theorem Phi_forget (c : Dev nD) (n : ℕ) (hn : n ≤ cfg0.N) : Phi m c n hn ⊢ Pipeline.ΦA spec0 c := by
  cases n with
  | zero => exact Idealize.SL.BI.Entails.refl _
  | succ n =>
    rw [Phi_succ, PhiA0_eq]
    iintro ⟨⟨HS0, HS1⟩, Hg⟩
    isplitl [HS0 HS1]
    · isplitl [HS0]
      · iexists _; iexact HS0
      iexists _; iexact HS1
    iexact Hg

/-- Before an odd point the scratch buffers hold that point's batch's keys and values. -/
theorem Phi_odd (c : Dev nD) (t : Fin cfg0.N) (h : ¬ t.val % 2 = 0) (n : ℕ) (hn : n ≤ cfg0.N) (e : n = t.val) :
    Phi m c n hn = iprop(iprop(owns (c : Thread nD τ) scM0_0 fullShare (keyAt m c t) ∗ owns (c : Thread nD τ) scM0_1 fullShare (valAt m c t)) ∗ (∃ r, prngReg c r)) := by
  subst e
  obtain ⟨n, hn'⟩ := t
  cases n with
  | zero => exact absurd rfl h
  | succ n =>
    have e : fst ⟨n, hn⟩ = fst ⟨n + 1, hn'⟩ := fst_pred ⟨n + 1, hn'⟩ h hn
    rw [show Phi m c (n + 1) hn = _ from Phi_succ m c n hn]
    unfold keyAt valAt
    rw [keyA_congr m c e _ (fst_even _), valA_congr m c e _ (fst_even _)]

/-- The arrays as the region finds them; after the body at point `t` each input's buffer at its block, each output's at
    `outAt_W`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => outAt_15 m c t
    | ⟨16, _⟩ => outAt_16 m c t
    | ⟨17, _⟩ => outAt_17 m c t
    | ⟨18, _⟩ => outAt_18 m c t
    | ⟨19, _⟩ => outAt_19 m c t
    | ⟨20, _⟩ => outAt_20 m c t
    | ⟨21, _⟩ => outAt_21 m c t
    | ⟨22, _⟩ => outAt_22 m c t
    | ⟨_ + 23, h⟩ => absurd h (Nat.not_lt.2 (Nat.le_add_left _ _))
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = outAt_15 m c t := by dsimp only [dats]
theorem after0_16 (c : Dev nD) (t : Fin cfg0.N) : (dats m 0 c).after 16 t = outAt_16 m c t := by dsimp only [dats]
theorem after0_17 (c : Dev nD) (t : Fin cfg0.N) : (dats m 0 c).after 17 t = outAt_17 m c t := by dsimp only [dats]
theorem after0_18 (c : Dev nD) (t : Fin cfg0.N) : (dats m 0 c).after 18 t = outAt_18 m c t := by dsimp only [dats]
theorem after0_19 (c : Dev nD) (t : Fin cfg0.N) : (dats m 0 c).after 19 t = outAt_19 m c t := by dsimp only [dats]
theorem after0_20 (c : Dev nD) (t : Fin cfg0.N) : (dats m 0 c).after 20 t = outAt_20 m c t := by dsimp only [dats]
theorem after0_21 (c : Dev nD) (t : Fin cfg0.N) : (dats m 0 c).after 21 t = outAt_21 m c t := by dsimp only [dats]
theorem after0_22 (c : Dev nD) (t : Fin cfg0.N) : (dats m 0 c).after 22 t = outAt_22 m c t := by dsimp only [dats]

/-! Before the body at a point each input's buffer holds its block; at an odd point the key and the value windows' hold
    what the batch's first point stored. -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d

theorem carry_16 (c : Dev nD) (t : Fin cfg0.N) (_ : t.val ≠ 0) (hi : cfg0.idle 16 (grid0.coords t) = true) (_ : cfg0.fresh 16 t.val = false) :
    (dats m 0 c).after 16 t = (dats m 0 c).after 16 ⟨t.val - 1, by omega⟩ := by
  have h : ¬ t.val % 2 = 0 := fun h => by rw [(live_kv t h).1] at hi; exact absurd hi Bool.false_ne_true
  rw [after0_16, after0_16]
  unfold outAt_16
  exact outA_16_congr m c (fst_pred t h _).symm _ _

theorem before0_16 (c : Dev nD) (t : Fin cfg0.N) (h : ¬ t.val % 2 = 0) (d) : (dats m 0 c).before 16 t d = outAt_16 m c t := by
  rw [Dat.before_out_traj _ 16 rfl (fun _ _ => rfl) (carry_16 m c) t.val t rfl d,
    if_neg (by rw [(fresh_kv t).1, not_fresh t h]; exact Bool.false_ne_true), after0_16]
  unfold outAt_16
  exact outA_16_congr m c (fst_pred t h _) _ _

theorem carry_17 (c : Dev nD) (t : Fin cfg0.N) (_ : t.val ≠ 0) (hi : cfg0.idle 17 (grid0.coords t) = true) (_ : cfg0.fresh 17 t.val = false) :
    (dats m 0 c).after 17 t = (dats m 0 c).after 17 ⟨t.val - 1, by omega⟩ := by
  have h : ¬ t.val % 2 = 0 := fun h => by rw [(live_kv t h).2] at hi; exact absurd hi Bool.false_ne_true
  rw [after0_17, after0_17]
  unfold outAt_17
  exact outA_17_congr m c (fst_pred t h _).symm _ _

theorem before0_17 (c : Dev nD) (t : Fin cfg0.N) (h : ¬ t.val % 2 = 0) (d) : (dats m 0 c).before 17 t d = outAt_17 m c t := by
  rw [Dat.before_out_traj _ 17 rfl (fun _ _ => rfl) (carry_17 m c) t.val t rfl d,
    if_neg (by rw [(fresh_kv t).2, not_fresh t h]; exact Bool.false_ne_true), after0_17]
  unfold outAt_17
  exact outA_17_congr m c (fst_pred t h _) _ _

/-! ## The body at a point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t)

/-- What the body returns when every output's buffer, and each scratch buffer, is named. -/
def bodyNamed (c : Dev nD) (t : Fin cfg0.N) : sProp 𝕄 :=
  iprop(iprop(iprop(owns (c : Thread nD τ) scM0_0 fullShare (keyAt m c t) ∗ owns (c : Thread nD τ) scM0_1 fullShare (valAt m c t)) ∗ (∃ r, prngReg c r)) ∗ (dats m 0 c).owesAt () t.castSucc
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ owns (c : Thread nD τ) (ms0_5 t) fullShare (iblk m c 5 t)
    ∗ owns (c : Thread nD τ) (ms0_6 t) fullShare (iblk m c 6 t)
    ∗ owns (c : Thread nD τ) (ms0_7 t) fullShare (iblk m c 7 t)
    ∗ owns (c : Thread nD τ) (ms0_8 t) fullShare (iblk m c 8 t)
    ∗ owns (c : Thread nD τ) (ms0_9 t) fullShare (iblk m c 9 t)
    ∗ owns (c : Thread nD τ) (ms0_10 t) fullShare (iblk m c 10 t)
    ∗ owns (c : Thread nD τ) (ms0_11 t) fullShare (iblk m c 11 t)
    ∗ owns (c : Thread nD τ) (ms0_12 t) fullShare (iblk m c 12 t)
    ∗ owns (c : Thread nD τ) (ms0_13 t) fullShare (iblk m c 13 t)
    ∗ owns (c : Thread nD τ) (ms0_14 t) fullShare (iblk m c 14 t)
    ∗ owns (c : Thread nD τ) (ms0_15 t) fullShare (outAt_15 m c t)
    ∗ owns (c : Thread nD τ) (ms0_16 t) fullShare (outAt_16 m c t)
    ∗ owns (c : Thread nD τ) (ms0_17 t) fullShare (outAt_17 m c t)
    ∗ owns (c : Thread nD τ) (ms0_18 t) fullShare (outAt_18 m c t)
    ∗ owns (c : Thread nD τ) (ms0_19 t) fullShare (outAt_19 m c t)
    ∗ owns (c : Thread nD τ) (ms0_20 t) fullShare (outAt_20 m c t)
    ∗ owns (c : Thread nD τ) (ms0_21 t) fullShare (outAt_21 m c t)
    ∗ owns (c : Thread nD τ) (ms0_22 t) fullShare (outAt_22 m c t))

theorem leaves_0 (c : Dev nD) (t : Fin cfg0.N) : (dats m 0 c).leavesExact 0 t = owns (c : Thread nD τ) (ms0_0 t) fullShare (iblk m c 0 t) := by
  unfold Dat.leavesExact; rw [live 0 (by decide) (by decide) t, after0_0]
theorem leaves_1 (c : Dev nD) (t : Fin cfg0.N) : (dats m 0 c).leavesExact 1 t = owns (c : Thread nD τ) (ms0_1 t) fullShare (iblk m c 1 t) := by
  unfold Dat.leavesExact; rw [live 1 (by decide) (by decide) t, after0_1]
theorem leaves_2 (c : Dev nD) (t : Fin cfg0.N) : (dats m 0 c).leavesExact 2 t = owns (c : Thread nD τ) (ms0_2 t) fullShare (iblk m c 2 t) := by
  unfold Dat.leavesExact; rw [live 2 (by decide) (by decide) t, after0_2]
theorem leaves_3 (c : Dev nD) (t : Fin cfg0.N) : (dats m 0 c).leavesExact 3 t = owns (c : Thread nD τ) (ms0_3 t) fullShare (iblk m c 3 t) := by
  unfold Dat.leavesExact; rw [live 3 (by decide) (by decide) t, after0_3]
theorem leaves_4 (c : Dev nD) (t : Fin cfg0.N) : (dats m 0 c).leavesExact 4 t = owns (c : Thread nD τ) (ms0_4 t) fullShare (iblk m c 4 t) := by
  unfold Dat.leavesExact; rw [live 4 (by decide) (by decide) t, after0_4]
theorem leaves_5 (c : Dev nD) (t : Fin cfg0.N) : (dats m 0 c).leavesExact 5 t = owns (c : Thread nD τ) (ms0_5 t) fullShare (iblk m c 5 t) := by
  unfold Dat.leavesExact; rw [live 5 (by decide) (by decide) t, after0_5]
theorem leaves_6 (c : Dev nD) (t : Fin cfg0.N) : (dats m 0 c).leavesExact 6 t = owns (c : Thread nD τ) (ms0_6 t) fullShare (iblk m c 6 t) := by
  unfold Dat.leavesExact; rw [live 6 (by decide) (by decide) t, after0_6]
theorem leaves_7 (c : Dev nD) (t : Fin cfg0.N) : (dats m 0 c).leavesExact 7 t = owns (c : Thread nD τ) (ms0_7 t) fullShare (iblk m c 7 t) := by
  unfold Dat.leavesExact; rw [live 7 (by decide) (by decide) t, after0_7]
theorem leaves_8 (c : Dev nD) (t : Fin cfg0.N) : (dats m 0 c).leavesExact 8 t = owns (c : Thread nD τ) (ms0_8 t) fullShare (iblk m c 8 t) := by
  unfold Dat.leavesExact; rw [live 8 (by decide) (by decide) t, after0_8]
theorem leaves_9 (c : Dev nD) (t : Fin cfg0.N) : (dats m 0 c).leavesExact 9 t = owns (c : Thread nD τ) (ms0_9 t) fullShare (iblk m c 9 t) := by
  unfold Dat.leavesExact; rw [live 9 (by decide) (by decide) t, after0_9]
theorem leaves_10 (c : Dev nD) (t : Fin cfg0.N) : (dats m 0 c).leavesExact 10 t = owns (c : Thread nD τ) (ms0_10 t) fullShare (iblk m c 10 t) := by
  unfold Dat.leavesExact; rw [live 10 (by decide) (by decide) t, after0_10]
theorem leaves_11 (c : Dev nD) (t : Fin cfg0.N) : (dats m 0 c).leavesExact 11 t = owns (c : Thread nD τ) (ms0_11 t) fullShare (iblk m c 11 t) := by
  unfold Dat.leavesExact; rw [live 11 (by decide) (by decide) t, after0_11]
theorem leaves_12 (c : Dev nD) (t : Fin cfg0.N) : (dats m 0 c).leavesExact 12 t = owns (c : Thread nD τ) (ms0_12 t) fullShare (iblk m c 12 t) := by
  unfold Dat.leavesExact; rw [live 12 (by decide) (by decide) t, after0_12]
theorem leaves_13 (c : Dev nD) (t : Fin cfg0.N) : (dats m 0 c).leavesExact 13 t = owns (c : Thread nD τ) (ms0_13 t) fullShare (iblk m c 13 t) := by
  unfold Dat.leavesExact; rw [live 13 (by decide) (by decide) t, after0_13]
theorem leaves_14 (c : Dev nD) (t : Fin cfg0.N) : (dats m 0 c).leavesExact 14 t = owns (c : Thread nD τ) (ms0_14 t) fullShare (iblk m c 14 t) := by
  unfold Dat.leavesExact; rw [live 14 (by decide) (by decide) t, after0_14]
theorem leaves_15 (c : Dev nD) (t : Fin cfg0.N) : (dats m 0 c).leavesExact 15 t = owns (c : Thread nD τ) (ms0_15 t) fullShare (outAt_15 m c t) := by
  unfold Dat.leavesExact; rw [live 15 (by decide) (by decide) t, after0_15]
theorem leaves_16 (c : Dev nD) (t : Fin cfg0.N) : (dats m 0 c).leavesExact 16 t = owns (c : Thread nD τ) (ms0_16 t) fullShare (outAt_16 m c t) := by
  by_cases h : t.val % 2 = 0
  · unfold Dat.leavesExact; rw [(live_kv t h).1, after0_16]
  · unfold Dat.leavesExact; rw [(idle_kv t h).1.1, (idle_kv t h).2.1, after0_16]
theorem leaves_17 (c : Dev nD) (t : Fin cfg0.N) : (dats m 0 c).leavesExact 17 t = owns (c : Thread nD τ) (ms0_17 t) fullShare (outAt_17 m c t) := by
  by_cases h : t.val % 2 = 0
  · unfold Dat.leavesExact; rw [(live_kv t h).2, after0_17]
  · unfold Dat.leavesExact; rw [(idle_kv t h).1.2, (idle_kv t h).2.2, after0_17]
theorem leaves_18 (c : Dev nD) (t : Fin cfg0.N) : (dats m 0 c).leavesExact 18 t = owns (c : Thread nD τ) (ms0_18 t) fullShare (outAt_18 m c t) := by
  unfold Dat.leavesExact; rw [live 18 (by decide) (by decide) t, after0_18]
theorem leaves_19 (c : Dev nD) (t : Fin cfg0.N) : (dats m 0 c).leavesExact 19 t = owns (c : Thread nD τ) (ms0_19 t) fullShare (outAt_19 m c t) := by
  unfold Dat.leavesExact; rw [live 19 (by decide) (by decide) t, after0_19]
theorem leaves_20 (c : Dev nD) (t : Fin cfg0.N) : (dats m 0 c).leavesExact 20 t = owns (c : Thread nD τ) (ms0_20 t) fullShare (outAt_20 m c t) := by
  unfold Dat.leavesExact; rw [live 20 (by decide) (by decide) t, after0_20]
theorem leaves_21 (c : Dev nD) (t : Fin cfg0.N) : (dats m 0 c).leavesExact 21 t = owns (c : Thread nD τ) (ms0_21 t) fullShare (outAt_21 m c t) := by
  unfold Dat.leavesExact; rw [live 21 (by decide) (by decide) t, after0_21]
theorem leaves_22 (c : Dev nD) (t : Fin cfg0.N) : (dats m 0 c).leavesExact 22 t = owns (c : Thread nD τ) (ms0_22 t) fullShare (outAt_22 m c t) := by
  unfold Dat.leavesExact; rw [live 22 (by decide) (by decide) t, after0_22]

theorem bodyPost_eq (c : Dev nD) (t : Fin cfg0.N) : bodyPost m c t = bodyNamed m c t := by
  unfold bodyPost bodyNamed
  rw [show (dats m 0 c).owesAt () t.succ = (dats m 0 c).owesAt () t.castSucc from rfl,
    show (dats m 0 c).Φ t.succ = Phi m c (t.val + 1) t.isLt from rfl, Phi_succ]
  rw [leaves_0, leaves_1, leaves_2, leaves_3, leaves_4, leaves_5, leaves_6, leaves_7, leaves_8, leaves_9, leaves_10, leaves_11, leaves_12, leaves_13, leaves_14, leaves_15, leaves_16, leaves_17, leaves_18, leaves_19, leaves_20, leaves_21, leaves_22]

set_option maxHeartbeats 6400000 in
/-- The body at a batch's first point. -/
theorem body_A (c : Dev nD) (t : Fin cfg0.N) (h : t.val % 2 = 0) :
    bodyPre m c t ⊢ wp frame (wpE (defs₀ (F := F)) Variants.none c none) Set.univ (bodyAt0 t) (fun _ => bodyNamed m c t) := by
  unfold bodyPre bodyNamed bodyAt0
  simp only [before0_0, before0_1, before0_2, before0_3, before0_4, before0_5, before0_6, before0_7, before0_8, before0_9, before0_10, before0_11, before0_12, before0_13, before0_14]
  rw [show outAt_15 m c t = outA_15 m c t h from dif_pos h]
  rw [show outAt_16 m c t = outA_16 m c t h from outA_16_congr m c (fst_of_even t h) _ _]
  rw [show outAt_17 m c t = outA_17 m c t h from outA_17_congr m c (fst_of_even t h) _ _]
  rw [show outAt_18 m c t = outA_18 m c t h from dif_pos h]
  rw [show outAt_19 m c t = outA_19 m c t h from dif_pos h]
  rw [show outAt_20 m c t = outA_20 m c t h from dif_pos h]
  rw [show outAt_21 m c t = outA_21 m c t h from dif_pos h]
  rw [show outAt_22 m c t = outA_22 m c t h from dif_pos h]
  rw [show keyAt m c t = keyA m c t h from keyA_congr m c (fst_of_even t h) _ _,
    show valAt m c t = valA m c t h from valA_congr m c (fst_of_even t h) _ _]
  refine (sep_mono_left (Phi_forget m c t.castSucc.val (Nat.le_of_lt_succ t.castSucc.isLt))).trans ?_
  rw [PhiA0_eq]
  unfold outA_15 outA_16 outA_17 outA_18 outA_19 outA_20 outA_21 outA_22 keyA valA
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply ((pcsA m c t h).2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [HS0]; · iexact HS0
  isplitl [HS1]; · iexact HS1
  iintro ⟨H0, H1, H2, H3, H4, H5, H6, H7, H8, H9, H10, H11, H12, H13, H14, ⟨%e15, H15⟩, ⟨%e16, H16⟩, ⟨%e17, H17⟩, ⟨%e18, H18⟩, ⟨%e19, H19⟩, ⟨%e20, H20⟩, ⟨%e21, H21⟩, ⟨%e22, H22⟩, ⟨%es0, HS0⟩, ⟨%es1, HS1⟩⟩
  isplitl [HS0 HS1 Hg]
  · isplitl [HS0 HS1]
    · isplitl [HS0]
      · unfold owns; iexists _; isplitr
        swap; · iexact HS0
        ipureintro; exact View.read_writes_of_cover _ _ _ _ _ (cov_keyA m c t h)
      unfold owns; iexists _; isplitr
      swap; · iexact HS1
      ipureintro; exact View.read_writes_of_cover _ _ _ _ _ (cov_valA m c t h)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]
  · unfold owns; iexists _; isplitr
    swap; · iexact H15
    ipureintro; exact View.read_writes_of_cover _ _ _ _ _ (cov_outA_15 m c t h)
  isplitl [H16]
  · unfold owns; iexists _; isplitr
    swap; · iexact H16
    ipureintro; exact View.read_writes_of_cover _ _ _ _ _ (cov_outA_16 m c t h)
  isplitl [H17]
  · unfold owns; iexists _; isplitr
    swap; · iexact H17
    ipureintro; exact View.read_writes_of_cover _ _ _ _ _ (cov_outA_17 m c t h)
  isplitl [H18]
  · unfold owns; iexists _; isplitr
    swap; · iexact H18
    ipureintro; exact View.read_writes_of_cover _ _ _ _ _ (cov_outA_18 m c t h)
  isplitl [H19]
  · unfold owns; iexists _; isplitr
    swap; · iexact H19
    ipureintro; exact View.read_writes_of_cover _ _ _ _ _ (cov_outA_19 m c t h)
  isplitl [H20]
  · unfold owns; iexists _; isplitr
    swap; · iexact H20
    ipureintro; exact View.read_writes_of_cover _ _ _ _ _ (cov_outA_20 m c t h)
  isplitl [H21]
  · unfold owns; iexists _; isplitr
    swap; · iexact H21
    ipureintro; exact View.read_writes_of_cover _ _ _ _ _ (cov_outA_21 m c t h)
  unfold owns; iexists _; isplitr
  swap; · iexact H22
  ipureintro; exact View.read_writes_of_cover _ _ _ _ _ (cov_outA_22 m c t h)

set_option maxHeartbeats 6400000 in
/-- The body at a batch's second point. -/
theorem body_B (c : Dev nD) (t : Fin cfg0.N) (h : ¬ t.val % 2 = 0) :
    bodyPre m c t ⊢ wp frame (wpE (defs₀ (F := F)) Variants.none c none) Set.univ (bodyAt0 t) (fun _ => bodyNamed m c t) := by
  unfold bodyPre bodyNamed bodyAt0
  simp only [before0_0, before0_1, before0_2, before0_3, before0_4, before0_5, before0_6, before0_7, before0_8, before0_9, before0_10, before0_11, before0_12, before0_13, before0_14]
  simp only [before0_16 m c t h, before0_17 m c t h]
  rw [show (dats m 0 c).Φ t.castSucc = Phi m c t.castSucc.val (Nat.le_of_lt_succ t.castSucc.isLt) from rfl, Phi_odd m c t h t.castSucc.val _ rfl]
  rw [show outAt_15 m c t = outB_15 m c t h (keyAt m c t) (valAt m c t) from dif_neg h]
  rw [show outAt_18 m c t = outB_18 m c t h (keyAt m c t) (valAt m c t) from dif_neg h]
  rw [show outAt_19 m c t = outB_19 m c t h (keyAt m c t) (valAt m c t) from dif_neg h]
  rw [show outAt_20 m c t = outB_20 m c t h (keyAt m c t) (valAt m c t) from dif_neg h]
  rw [show outAt_21 m c t = outB_21 m c t h (keyAt m c t) (valAt m c t) from dif_neg h]
  rw [show outAt_22 m c t = outB_22 m c t h (keyAt m c t) (valAt m c t) from dif_neg h]
  unfold outB_15 outB_18 outB_19 outB_20 outB_21 outB_22
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply ((pcsB m c t h (keyAt m c t) (valAt m c t)).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H18]; · iexists _; iexact H18
  isplitl [H19]; · iexists _; iexact H19
  isplitl [H20]; · iexists _; iexact H20
  isplitl [H21]; · iexists _; iexact H21
  isplitl [H22]; · iexists _; iexact H22
  isplitl [HS0]; · iexact HS0
  isplitl [HS1]; · iexact HS1
  iintro ⟨H0, H1, H2, H3, H4, H5, H6, H7, H8, H9, H10, H11, H12, H13, H14, ⟨%e15, H15⟩, ⟨%e18, H18⟩, ⟨%e19, H19⟩, ⟨%e20, H20⟩, ⟨%e21, H21⟩, ⟨%e22, H22⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]
  · unfold owns; iexists _; isplitr
    swap; · iexact H15
    ipureintro; exact View.read_writes_of_cover _ _ _ _ _ (cov_outB_15 m c t h _ _)
  isplitl [H16]; · iexact H16
  isplitl [H17]; · iexact H17
  isplitl [H18]
  · unfold owns; iexists _; isplitr
    swap; · iexact H18
    ipureintro; exact View.read_writes_of_cover _ _ _ _ _ (cov_outB_18 m c t h _ _)
  isplitl [H19]
  · unfold owns; iexists _; isplitr
    swap; · iexact H19
    ipureintro; exact View.read_writes_of_cover _ _ _ _ _ (cov_outB_19 m c t h _ _)
  isplitl [H20]
  · unfold owns; iexists _; isplitr
    swap; · iexact H20
    ipureintro; exact View.read_writes_of_cover _ _ _ _ _ (cov_outB_20 m c t h _ _)
  isplitl [H21]
  · unfold owns; iexists _; isplitr
    swap; · iexact H21
    ipureintro; exact View.read_writes_of_cover _ _ _ _ _ (cov_outB_21 m c t h _ _)
  unfold owns; iexists _; isplitr
  swap; · iexact H22
  ipureintro; exact View.read_writes_of_cover _ _ _ _ _ (cov_outB_22 m c t h _ _)

/-- The body at any point. -/
theorem sound_body (c : Dev nD) (t : Fin cfg0.N) :
    bodyPre m c t ⊢ wp frame (wpE (defs₀ (F := F)) Variants.none c none) Set.univ (bodyAt0 t) (fun _ => bodyPost m c t) := by
  rw [bodyPost_eq]
  by_cases h : t.val % 2 = 0
  · exact body_A m c t h
  · exact body_B m c t h

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

set_option backward.isDefEq.respectTransparency.types false in
/-- Every fair execution of the program ends, with every array of the region at what the proof data says, every other
    buffer as the region found it, and every semaphore counter at zero. -/
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => Idealize.SL.BI.Entails.refl _) (hout := fun c => Phi_forget m c (Fin.last cfg0.N).val (Nat.le_of_lt_succ (Fin.last cfg0.N).isLt))

theorem run_main : θ_run defs (onTc (τ := τ) (main (F := F))) (s₀ m ρ) (Pipeline.FramePost cfgs (dats m) 0 (V m)) :=
  (θ_run defs _ _).mono (fun _ h => h.1) (run_quiet m ρ)

/-- The frame claim: the argument arrays end unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (frame_of m ρ (dats m) (A_eq m) (run_main m ρ)) ((θ_run defs _ _).mono (fun _ h => h.2) (run_quiet m ρ))

end Cert.KernelIdeal.Attn

end
-- ==== Proof.AttnSpec.lean ====
module

public import proofs.«01_k».proof.Proof.AttnFrame
public import Idealize.ShloMosaic.Lib.Pipeline.ValueKit

@[expose] public section

set_option maxRecDepth 16384

noncomputable section

namespace Cert.KernelIdeal.Attn

open Cert.KernelIdeal Cert.KernelIdeal.Gen
open Idealize.ShloMosaic Idealize.ShloMosaic.TcCoe Idealize.SL.Sem
open Idealize.ShloMosaic.Pipeline (Dat)

/-! ## The mathematics of one row of the cross-attention block, on plain functions of the column -/

/-- A row `x` divided by the root of its mean square (plus the small constant), times the weight row
`g`, at column `k`. -/
def nrm (x g : Fin 1024 → EReal) (k : Fin 1024) : EReal :=
  x k * Ideal.rsqrt (Ideal.div (∑ j, x j * x j) (Ideal.ofBits FTy.f32 0x44800000#32)
    + Ideal.ofBits FTy.f32 0x358637BD#32) * g k

/-- A row `x` times a matrix `w`, at column `e`. -/
def proj (x : Fin 1024 → EReal) (w : Fin 1024 → Fin 1024 → EReal) (e : Fin 1024) : EReal :=
  ∑ k, x k * w k e

/-- Column `d` of head `h` among the 1024 columns of four heads. -/
def col (h : Fin 4) (d : Fin 256) : Fin 1024 :=
  ⟨h.val * 256 + d.val, by have := h.isLt; have := d.isLt; omega⟩

/-- Head 0 begins at column 0. -/
theorem col_zero (d : Fin 256) : col 0 d = ⟨d.val, by have := d.isLt; omega⟩ :=
  Fin.ext (by simp only [col, Fin.val_zero]; omega)

/-- The scaled score of the query row `q` against memory row `j` in head `h`. -/
def score (q : Fin 1024 → EReal) (K : Fin 256 → Fin 1024 → EReal) (h : Fin 4) : Fin 256 → EReal :=
  fun j => (∑ d, q (col h d) * K j (col h d)) * Ideal.ofBits FTy.f32 0x3D800000#32

/-- The scores as a function of the memory row. -/
theorem score_eq (q : Fin 1024 → EReal) (K : Fin 256 → Fin 1024 → EReal) (h : Fin 4) :
    score q K h = fun j => (∑ d, q (col h d) * K j (col h d)) * Ideal.ofBits FTy.f32 0x3D800000#32 := rfl

/-- The largest of the scores, from minus infinity on. -/
def top (s : Fin 256 → EReal) : EReal :=
  Finset.fold max (Ideal.ofBits FTy.f32 0xFF800000#32) s Finset.univ

/-- The softmax weight of memory row `j` under the scores `s`. -/
def weight (s : Fin 256 → EReal) (j : Fin 256) : EReal :=
  Ideal.div (Ideal.exp (s j - top s)) (∑ n, Ideal.exp (s n - top s))

/-- Column `d` of head `h` of the attention output of query row `q`. -/
def headOut (q : Fin 1024 → EReal) (K U : Fin 256 → Fin 1024 → EReal) (h : Fin 4) (d : Fin 256) : EReal :=
  ∑ j, weight (score q K h) j * U j (col h d)

/-- The row with the attention output, projected by `w`, added to it, at column `e`. -/
def outRow (x q : Fin 1024 → EReal) (K U : Fin 256 → Fin 1024 → EReal)
    (w : Fin 1024 → Fin 1024 → EReal) (e : Fin 1024) : EReal :=
  x e + ∑ k : Fin 1024, headOut q K U ⟨k.val / 256, by have := k.isLt; omega⟩
    ⟨k.val % 256, Nat.mod_lt _ (by decide)⟩ * w k e

/-- Four head outputs laid side by side, projected and added to the row, are `outRow`. -/
theorem outRow_ladder (x q : Fin 1024 → EReal) (K U : Fin 256 → Fin 1024 → EReal)
    (w : Fin 1024 → Fin 1024 → EReal) (e : Fin 1024) (f : Fin 1024 → EReal)
    (h0 : ∀ k : Fin 1024, (h : k.val < 256) → f k = headOut q K U 0 ⟨k.val, h⟩)
    (h1 : ∀ k : Fin 1024, (h' : 256 ≤ k.val) → (h : k.val - 256 < 256) → f k = headOut q K U 1 ⟨k.val - 256, h⟩)
    (h2 : ∀ k : Fin 1024, (h' : 512 ≤ k.val) → (h : k.val - 256 - 256 < 256) →
      f k = headOut q K U 2 ⟨k.val - 256 - 256, h⟩)
    (h3 : ∀ k : Fin 1024, (h' : 768 ≤ k.val) → f k = headOut q K U 3 ⟨k.val - 256 - 256 - 256, by omega⟩) :
    x e + ∑ k, f k * w k e = outRow x q K U w e := by
  refine congrArg (x e + ·) (Finset.sum_congr rfl fun k _ => congrArg (· * w k e) ?_)
  have hk := k.isLt
  by_cases c0 : k.val < 256
  · rw [h0 k c0]; congr 1 <;> exact Fin.ext (by simp only [Fin.val_ofNat]; omega)
  by_cases c1 : k.val < 512
  · rw [h1 k (by omega) (by omega)]; congr 1 <;> exact Fin.ext (by simp only [Fin.val_ofNat]; omega)
  by_cases c2 : k.val < 768
  · rw [h2 k (by omega) (by omega)]; congr 1 <;> exact Fin.ext (by simp only [Fin.val_ofNat]; omega)
  · rw [h3 k (by omega)]; congr 1 <;> exact Fin.ext (by simp only [Fin.val_ofNat]; omega)

/-! ## The kernel's stage functions at one entry -/

/-- The normalized memory row. -/
theorem pay2_at (x : Vec Ideal S1x256x1024 .f32) (g : Vec Ideal S1x1024 .f32) (r : Fin 256) (k : Fin 1024) :
    k0_pay2 (F := Ideal) x g (ix2 r k) = nrm (fun l => x (ix3 0 r l)) (fun l => g (ix2 0 l)) k := by
  pointwise [k0_pay2]
  rfl

/-- The keys of one memory block. -/
theorem pay4_at (x : Vec Ideal S1x256x1024 .f32) (g : Vec Ideal S1x1024 .f32) (w : Vec Ideal S1024x1024 .bf16)
    (r : Fin 256) (e : Fin 1024) :
    k0_pay4 (F := Ideal) x g w (ix2 r e)
      = proj (nrm (fun l => x (ix3 0 r l)) (fun l => g (ix2 0 l))) (fun k e => w (ix2 k e)) e := by
  pointwise [k0_pay4, k0_pay3, k0_pay2]
  rfl

/-- The values of one memory block, from its normalized rows. -/
theorem pay11_at (y : FVec Ideal S256x1024 .f32) (w : Vec Ideal S1024x1024 .bf16) (r : Fin 256) (e : Fin 1024) :
    k0_pay11 (F := Ideal) y w (ix2 r e) = proj (fun l => y (ix2 r l)) (fun k e => w (ix2 k e)) e := by
  pointwise [k0_pay11, k0_pay10]
  rfl

/-- The queries of one block of rows. -/
theorem pay42_at (x : Vec Ideal S512x1024 .f32) (g : Vec Ideal S1x1024 .f32) (w : Vec Ideal S1024x1024 .bf16)
    (r : Fin 512) (e : Fin 1024) :
    k0_pay42 (F := Ideal) x g w (ix2 r e)
      = proj (nrm (fun l => x (ix2 r l)) (fun l => g (ix2 0 l))) (fun k e => w (ix2 k e)) e := by
  pointwise [k0_pay42]
  rfl

/-- The queries of one block of rows. -/
theorem pay48_at (x : Vec Ideal S512x1024 .f32) (g : Vec Ideal S1x1024 .f32) (w : Vec Ideal S1024x1024 .bf16)
    (r : Fin 512) (e : Fin 1024) :
    k0_pay48 (F := Ideal) x g w (ix2 r e)
      = proj (nrm (fun l => x (ix2 r l)) (fun l => g (ix2 0 l))) (fun k e => w (ix2 k e)) e := by
  pointwise [k0_pay48]
  rfl

/-- Head 0 of the first block of rows. -/
theorem first_head0 (u k : Vec Ideal S256x1024 .bf16) (q : FVec Ideal S512x1024 .f32) (r : Fin 512) (d : Fin 256) :
    k0_pay49 (F := Ideal) u (k0_pay44 k q) (ix2 r d)
      = headOut (fun e => q (ix2 r e)) (fun j e => k (ix2 j e)) (fun j e => u (ix2 j e)) 0 d := by
  pointwise [k0_pay49, k0_pay44, k0_pay43]
  simp only [headOut, weight, top, score_eq, col_zero]

/-- Head 1 of the first block of rows. -/
theorem first_head1 (u k : Vec Ideal S256x1024 .bf16) (q : FVec Ideal S512x1024 .f32) (r : Fin 512) (d : Fin 256) :
    k0_pay50 (F := Ideal) u (k0_pay45 k q) (ix2 r d)
      = headOut (fun e => q (ix2 r e)) (fun j e => k (ix2 j e)) (fun j e => u (ix2 j e)) 1 d := by
  pointwise [k0_pay50, k0_pay45, k0_pay43]
  rfl

/-- Head 2 of the first block of rows. -/
theorem first_head2 (u k : Vec Ideal S256x1024 .bf16) (q : FVec Ideal S512x1024 .f32) (r : Fin 512) (d : Fin 256) :
    k0_pay51 (F := Ideal) u (k0_pay46 k q) (ix2 r d)
      = headOut (fun e => q (ix2 r e)) (fun j e => k (ix2 j e)) (fun j e => u (ix2 j e)) 2 d := by
  pointwise [k0_pay51, k0_pay46, k0_pay43]
  rfl

/-- Head 3 of the first block of rows. -/
theorem first_head3 (u k : Vec Ideal S256x1024 .bf16) (q : FVec Ideal S512x1024 .f32) (r : Fin 512) (d : Fin 256) :
    k0_pay52 (F := Ideal) u (k0_pay47 k q) (ix2 r d)
      = headOut (fun e => q (ix2 r e)) (fun j e => k (ix2 j e)) (fun j e => u (ix2 j e)) 3 d := by
  pointwise [k0_pay52, k0_pay47, k0_pay43]
  rfl

/-- The first block of rows of the result. -/
theorem first_out (x : Vec Ideal S512x1024 .f32) (u k : Vec Ideal S256x1024 .bf16) (q : FVec Ideal S512x1024 .f32)
    (w : Vec Ideal S1024x1024 .bf16) (r : Fin 512) (e : Fin 1024) :
    k0_pay56 (F := Ideal) x (k0_pay49 u (k0_pay44 k q)) (k0_pay50 u (k0_pay45 k q)) (k0_pay51 u (k0_pay46 k q))
        (k0_pay52 u (k0_pay47 k q)) w (ix2 r e)
      = outRow (fun l => x (ix2 r l)) (fun e => q (ix2 r e)) (fun j e => k (ix2 j e)) (fun j e => u (ix2 j e))
          (fun k e => w (ix2 k e)) e := by
  pointwise [k0_pay56]
  refine outRow_ladder (fun l => x (ix2 r l)) _ _ _ (fun k e => w (ix2 k e)) e _ ?_ ?_ ?_ ?_
  · intro k h
    rw [dif_pos h]; exact first_head0 ..
  · intro k h' h
    rw [dif_neg (by omega), dif_pos h]; exact first_head1 ..
  · intro k h' h
    rw [dif_neg (by omega), dif_neg (by omega), dif_pos h]; exact first_head2 ..
  · intro k h'
    rw [dif_neg (by omega), dif_neg (by omega), dif_neg (by omega)]; exact first_head3 ..

/-- The second block of rows of the result, by the same formula. -/
theorem second_out (x : Vec Ideal S512x1024 .f32) (u k : Vec Ideal S256x1024 .bf16) (q : FVec Ideal S512x1024 .bf16)
    (w : Vec Ideal S1024x1024 .bf16) (r : Fin 512) (e : Fin 1024) :
    k0_pay59 (F := Ideal) u x (k0_pay54 k q) (k0_pay55 k q) (k0_pay57 k u (k0_pay53 q)) (k0_pay58 k q) w (ix2 r e)
      = outRow (fun l => x (ix2 r l)) (fun e => q (ix2 r e)) (fun j e => k (ix2 j e)) (fun j e => u (ix2 j e))
          (fun k e => w (ix2 k e)) e := by
  pointwise [k0_pay59, k0_pay54, k0_pay55, k0_pay57, k0_pay53, k0_pay58]
  refine outRow_ladder (fun l => x (ix2 r l)) (fun e => q (ix2 r e)) (fun j e => k (ix2 j e))
    (fun j e => u (ix2 j e)) (fun k e => w (ix2 k e)) e _ ?_ ?_ ?_ ?_
  · intro k h
    rw [dif_pos h]
    simp only [headOut, weight, top, score_eq, col_zero]
  · intro k h' h
    rw [dif_neg (by omega), dif_pos h]; rfl
  · intro k h' h
    rw [dif_neg (by omega), dif_neg (by omega), dif_pos h]; rfl
  · intro k h'
    rw [dif_neg (by omega), dif_neg (by omega), dif_neg (by omega)]; rfl

end Cert.KernelIdeal.Attn

end
-- ==== Proof.AttnCasts.lean ====
module

public import proofs.«01_k».proof.Proof.AttnSpec
public import Idealize.ShloMosaic.Lib.Pipeline.ValueKit

@[expose] public section

set_option maxRecDepth 16384

noncomputable section

namespace Cert.KernelIdeal.Attn

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

/-! ## What a point's output buffers hold, by the kernel's stage functions -/

/-- Output 20 after a point is input 12's block, cast. -/
theorem outA_20_eq (c : Dev nD) (t : Fin cfg0.N) (h : t.val % 2 = 0)  :
    outA_20 m c t h = k0_pay16 (F := Ideal) (iblk m c 12 t) := by
  unfold outA_20 pcsA
  frame_out

/-- Output 20 after a point is input 12's block, cast. -/
theorem outB_20_eq (c : Dev nD) (t : Fin cfg0.N) (h : ¬ t.val % 2 = 0) (k v : Vec Ideal S256x1024 .bf16) :
    outB_20 m c t h k v = k0_pay16 (F := Ideal) (iblk m c 12 t) := by
  unfold outB_20 pcsB
  frame_out

/-- Output 21 after a point is input 13's block, cast. -/
theorem outA_21_eq (c : Dev nD) (t : Fin cfg0.N) (h : t.val % 2 = 0)  :
    outA_21 m c t h = k0_pay17 (F := Ideal) (iblk m c 13 t) := by
  unfold outA_21 pcsA
  frame_out

/-- Output 21 after a point is input 13's block, cast. -/
theorem outB_21_eq (c : Dev nD) (t : Fin cfg0.N) (h : ¬ t.val % 2 = 0) (k v : Vec Ideal S256x1024 .bf16) :
    outB_21 m c t h k v = k0_pay17 (F := Ideal) (iblk m c 13 t) := by
  unfold outB_21 pcsB
  frame_out

/-- Output 22 after a point is input 14's block, cast. -/
theorem outA_22_eq (c : Dev nD) (t : Fin cfg0.N) (h : t.val % 2 = 0)  :
    outA_22 m c t h = k0_pay18 (F := Ideal) (iblk m c 14 t) := by
  unfold outA_22 pcsA
  frame_out

/-- Output 22 after a point is input 14's block, cast. -/
theorem outB_22_eq (c : Dev nD) (t : Fin cfg0.N) (h : ¬ t.val % 2 = 0) (k v : Vec Ideal S256x1024 .bf16) :
    outB_22 m c t h k v = k0_pay18 (F := Ideal) (iblk m c 14 t) := by
  unfold outB_22 pcsB
  frame_out

/-- The key buffer after a first point. -/
theorem keyA_eq (c : Dev nD) (t : Fin cfg0.N) (h : t.val % 2 = 0) :
    keyA m c t h = k0_pay4 (F := Ideal) (iblk m c 1 t) (iblk m c 2 t) (iblk m c 3 t) := by
  unfold keyA pcsA
  frame_out

/-- The value buffer after a first point. -/
theorem valA_eq (c : Dev nD) (t : Fin cfg0.N) (h : t.val % 2 = 0) :
    valA m c t h = k0_pay11 (F := Ideal) (k0_pay2 (iblk m c 1 t) (iblk m c 2 t)) (iblk m c 4 t) := by
  unfold valA pcsA
  frame_out

end Cert.KernelIdeal.Attn

end
-- ==== Proof.AttnBlocks.lean ====
module

public import proofs.«01_k».proof.Proof.AttnCasts
public import Idealize.ShloMosaic.Lib.Pipeline.ValueKit

@[expose] public section

set_option maxRecDepth 16384

noncomputable section

namespace Cert.KernelIdeal.Attn

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

/-! ## The arrays the host prepared, at one entry -/

/-- The buffer holds argument 3 without its leading unit axis. -/
theorem V1_at (c : Dev nD) (i j) : V m c main_v1 (ix2 i j) = m ((c.tc : Thread nD τ).loc main_arg3) (ix3 0 i j) := by
  entry_read
  pointwise

/-- The buffer holds argument 4 without its leading unit axis. -/
theorem V3_at (c : Dev nD) (i j) : V m c main_v3 (ix2 i j) = m ((c.tc : Thread nD τ).loc main_arg4) (ix3 0 i j) := by
  entry_read
  pointwise

/-- The buffer holds argument 6 without its leading unit axis. -/
theorem V5_at (c : Dev nD) (i j) : V m c main_v5 (ix2 i j) = m ((c.tc : Thread nD τ).loc main_arg6) (ix3 0 i j) := by
  entry_read
  pointwise

/-- The buffer holds argument 7 without its leading unit axis. -/
theorem V7_at (c : Dev nD) (i j) : V m c main_v7 (ix2 i j) = m ((c.tc : Thread nD τ).loc main_arg7) (ix3 0 i j) := by
  entry_read
  pointwise

/-- The buffer holds argument 12 without its leading unit axis. -/
theorem V16_at (c : Dev nD) (i j) : V m c main_v16 (ix2 i j) = m ((c.tc : Thread nD τ).loc main_arg12) (ix3 0 i j) := by
  entry_read
  pointwise

/-- The buffer holds argument 13 without its leading unit axis. -/
theorem V17_at (c : Dev nD) (i j) : V m c main_v17 (ix2 i j) = m ((c.tc : Thread nD τ).loc main_arg13) (ix3 0 i j) := by
  entry_read
  pointwise

/-- The buffer holds argument 14 without its leading unit axis. -/
theorem V18_at (c : Dev nD) (i j) : V m c main_v18 (ix2 i j) = m ((c.tc : Thread nD τ).loc main_arg14) (ix3 0 i j) := by
  entry_read
  pointwise

/-- The buffer holds argument 2 as one row. -/
theorem V9_at (c : Dev nD) (j) : V m c main_v9 (ix2 0 j) = m ((c.tc : Thread nD τ).loc main_arg2) (ix2 0 j) := by
  entry_read
  pointwise

/-- The buffer holds argument 5 as one row. -/
theorem V11_at (c : Dev nD) (j) : V m c main_v11 (ix2 0 j) = m ((c.tc : Thread nD τ).loc main_arg5) (ix2 0 j) := by
  entry_read
  pointwise

/-- The states by sample, channel and state column. -/
theorem V13_at (c : Dev nD) (s : Fin 128) (p : Fin 512) (n : Fin 128) : V m c main_v13 (ix3 s p n) = m ((c.tc : Thread nD τ).loc main_arg9) (ix5 0 s
    ⟨p.val / 64, by have := p.isLt; omega⟩ ⟨p.val % 64, by omega⟩ n) := by
  entry_read
  pointwise

/-- The decays, eight to a sample. -/
theorem V15_at (c : Dev nD) (i : Fin 1024) : V m c main_v15 (ix1 i) = m ((c.tc : Thread nD τ).loc main_arg8) (ix2
    ⟨i.val / 8, by have := i.isLt; omega⟩ ⟨i.val % 8, by omega⟩) := by
  entry_read
  pointwise

theorem N_eq : cfg0.N = 16 := rfl

/-! ## Which block of its array each window takes at a point -/

theorem idx0 : ∀ t : Fin cfg0.N, win0_0.index t = ![t.val, 0] := (by decide +kernel : ∀ t : Fin grid0.N, _)
theorem idx1 : ∀ t : Fin cfg0.N, win0_1.index t = ![t.val / 2, 0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0] := (by decide +kernel : ∀ t : Fin grid0.N, _)
theorem idx9 : ∀ t : Fin cfg0.N, win0_9.index t = ![t.val, 0, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![t.val, 0] := (by decide +kernel : ∀ t : Fin grid0.N, _)
theorem idx13 : ∀ t : Fin cfg0.N, win0_13.index t = ![t.val, 0] := (by decide +kernel : ∀ t : Fin grid0.N, _)
theorem idx14 : ∀ t : Fin cfg0.N, win0_14.index t = ![t.val, 0] := (by decide +kernel : ∀ t : Fin grid0.N, _)
theorem idx15 : ∀ t : Fin cfg0.N, win0_15.index t = ![t.val, 0] := (by decide +kernel : ∀ t : Fin grid0.N, _)
theorem idx16 : ∀ t : Fin cfg0.N, win0_16.index t = ![t.val / 2, 0, 0, 0] := (by decide +kernel : ∀ t : Fin grid0.N, _)
theorem idx17 : ∀ t : Fin cfg0.N, win0_17.index t = ![t.val / 2, 0, 0, 0] := (by decide +kernel : ∀ t : Fin grid0.N, _)
theorem idx18 : ∀ t : Fin cfg0.N, win0_18.index t = ![t.val, 0, 0] := (by decide +kernel : ∀ t : Fin grid0.N, _)
theorem idx19 : ∀ t : Fin cfg0.N, win0_19.index t = ![t.val, 0] := (by decide +kernel : ∀ t : Fin grid0.N, _)
theorem idx20 : ∀ t : Fin cfg0.N, win0_20.index t = ![t.val, 0] := (by decide +kernel : ∀ t : Fin grid0.N, _)
theorem idx21 : ∀ t : Fin cfg0.N, win0_21.index t = ![t.val, 0] := (by decide +kernel : ∀ t : Fin grid0.N, _)
theorem idx22 : ∀ t : Fin cfg0.N, win0_22.index t = ![t.val, 0] := (by decide +kernel : ∀ t : Fin grid0.N, _)

/-! ## A block's entry as an entry of the argument array -/

/-- The rows of the point. -/
theorem blk0 (c : Dev nD) (t : Fin cfg0.N) (i : Fin 1024) (j : Fin 1024) : iblk m c 0 t (ix2 i j) = m ((c.tc : Thread nD τ).loc main_arg0) (ix2 ⟨t.val * 1024 + i.val, by have := t.isLt; have := N_eq; have := i.isLt; omega⟩ j) := by
  refine Eq.trans (b := V m c main_arg0 (ix2 ⟨t.val * 1024 + i.val, by have := t.isLt; have := N_eq; have := i.isLt; omega⟩ j)) ?_ (congrFun (V_main_arg0 m c) _)
  blk_ext [iblk, idx0 t]

/-- The memory rows of the point's batch. -/
theorem blk1 (c : Dev nD) (t : Fin cfg0.N) (i : Fin 256) (j : Fin 1024) : iblk m c 1 t (ix3 0 i j) = m ((c.tc : Thread nD τ).loc main_arg1) (ix3 ⟨t.val / 2, by have := t.isLt; have := N_eq; omega⟩ i j) := by
  refine Eq.trans (b := V m c main_arg1 (ix3 ⟨t.val / 2, by have := t.isLt; have := N_eq; omega⟩ i j)) ?_ (congrFun (V_main_arg1 m c) _)
  blk_ext [iblk, idx1 t]

/-- The weight row. -/
theorem blk2 (c : Dev nD) (t : Fin cfg0.N) (j : Fin 1024) : iblk m c 2 t (ix2 0 j) = m ((c.tc : Thread nD τ).loc main_arg2) (ix2 0 j) := by
  refine Eq.trans (b := V m c main_v9 (ix2 0 j)) ?_ (V9_at m c j)
  blk_ext [iblk, idx2 t]

/-- The weight row. -/
theorem blk5 (c : Dev nD) (t : Fin cfg0.N) (j : Fin 1024) : iblk m c 5 t (ix2 0 j) = m ((c.tc : Thread nD τ).loc main_arg5) (ix2 0 j) := by
  refine Eq.trans (b := V m c main_v11 (ix2 0 j)) ?_ (V11_at m c j)
  blk_ext [iblk, idx5 t]

/-- The weight matrix. -/
theorem blk3 (c : Dev nD) (t : Fin cfg0.N) (i j : Fin 1024) : iblk m c 3 t (ix2 i j) = m ((c.tc : Thread nD τ).loc main_arg3) (ix3 0 i j) := by
  refine Eq.trans (b := V m c main_v1 (ix2 i j)) ?_ (V1_at m c i j)
  blk_ext [iblk, idx3 t]

/-- The weight matrix. -/
theorem blk4 (c : Dev nD) (t : Fin cfg0.N) (i j : Fin 1024) : iblk m c 4 t (ix2 i j) = m ((c.tc : Thread nD τ).loc main_arg4) (ix3 0 i j) := by
  refine Eq.trans (b := V m c main_v3 (ix2 i j)) ?_ (V3_at m c i j)
  blk_ext [iblk, idx4 t]

/-- The weight matrix. -/
theorem blk6 (c : Dev nD) (t : Fin cfg0.N) (i j : Fin 1024) : iblk m c 6 t (ix2 i j) = m ((c.tc : Thread nD τ).loc main_arg6) (ix3 0 i j) := by
  refine Eq.trans (b := V m c main_v5 (ix2 i j)) ?_ (V5_at m c i j)
  blk_ext [iblk, idx6 t]

/-- The weight matrix. -/
theorem blk7 (c : Dev nD) (t : Fin cfg0.N) (i j : Fin 1024) : iblk m c 7 t (ix2 i j) = m ((c.tc : Thread nD τ).loc main_arg7) (ix3 0 i j) := by
  refine Eq.trans (b := V m c main_v7 (ix2 i j)) ?_ (V7_at m c i j)
  blk_ext [iblk, idx7 t]

/-- The decays. -/
theorem blk8 (c : Dev nD) (t : Fin cfg0.N) (i : Fin 1024) : iblk m c 8 t (ix1 i) = m ((c.tc : Thread nD τ).loc main_arg8) (ix2 ⟨i.val / 8, by have := i.isLt; omega⟩ ⟨i.val % 8, by omega⟩) := by
  refine Eq.trans (b := V m c main_v15 (ix1 i)) ?_ (V15_at m c i)
  blk_ext [iblk, idx8 t]

/-- The states of the point's samples. -/
theorem blk9 (c : Dev nD) (t : Fin cfg0.N) (i : Fin 8) (p : Fin 512) (n : Fin 128) : iblk m c 9 t (ix3 i p n) = m ((c.tc : Thread nD τ).loc main_arg9) (ix5 0 ⟨t.val * 8 + i.val, by have := t.isLt; have := N_eq; have := i.isLt; omega⟩ ⟨p.val / 64, by have := p.isLt; omega⟩ ⟨p.val % 64, by omega⟩ n) := by
  refine Eq.trans (b := V m c main_v13 (ix3 ⟨t.val * 8 + i.val, by have := t.isLt; have := N_eq; have := i.isLt; omega⟩ p n)) ?_ (V13_at m c _ p n)
  blk_ext [iblk, idx9 t]

/-- The rows of the point's samples. -/
theorem blk10 (c : Dev nD) (t : Fin cfg0.N) (i : Fin 8) (p : Fin 512) : iblk m c 10 t (ix2 i p) = m ((c.tc : Thread nD τ).loc main_arg10) (ix2 ⟨t.val * 8 + i.val, by have := t.isLt; have := N_eq; have := i.isLt; omega⟩ p) := by
  refine Eq.trans (b := V m c main_arg10 (ix2 ⟨t.val * 8 + i.val, by have := t.isLt; have := N_eq; have := i.isLt; omega⟩ p)) ?_ (congrFun (V_main_arg10 m c) _)
  blk_ext [iblk, idx10 t]

/-- The rows of the point's samples. -/
theorem blk11 (c : Dev nD) (t : Fin cfg0.N) (i : Fin 8) (p : Fin 512) : iblk m c 11 t (ix2 i p) = m ((c.tc : Thread nD τ).loc main_arg11) (ix2 ⟨t.val * 8 + i.val, by have := t.isLt; have := N_eq; have := i.isLt; omega⟩ p) := by
  refine Eq.trans (b := V m c main_arg11 (ix2 ⟨t.val * 8 + i.val, by have := t.isLt; have := N_eq; have := i.isLt; omega⟩ p)) ?_ (congrFun (V_main_arg11 m c) _)
  blk_ext [iblk, idx11 t]

/-- The rows of the weight. -/
theorem blk12 (c : Dev nD) (t : Fin cfg0.N) (i : Fin 64) (j : Fin 2816) : iblk m c 12 t (ix2 i j) = m ((c.tc : Thread nD τ).loc main_arg12) (ix3 0 ⟨t.val * 64 + i.val, by have := t.isLt; have := N_eq; have := i.isLt; omega⟩ j) := by
  refine Eq.trans (b := V m c main_v16 (ix2 ⟨t.val * 64 + i.val, by have := t.isLt; have := N_eq; have := i.isLt; omega⟩ j)) ?_ (V16_at m c _ j)
  blk_ext [iblk, idx12 t]

/-- The rows of the weight. -/
theorem blk13 (c : Dev nD) (t : Fin cfg0.N) (i : Fin 64) (j : Fin 2816) : iblk m c 13 t (ix2 i j) = m ((c.tc : Thread nD τ).loc main_arg13) (ix3 0 ⟨t.val * 64 + i.val, by have := t.isLt; have := N_eq; have := i.isLt; omega⟩ j) := by
  refine Eq.trans (b := V m c main_v17 (ix2 ⟨t.val * 64 + i.val, by have := t.isLt; have := N_eq; have := i.isLt; omega⟩ j)) ?_ (V17_at m c _ j)
  blk_ext [iblk, idx13 t]

/-- The rows of the weight. -/
theorem blk14 (c : Dev nD) (t : Fin cfg0.N) (i : Fin 176) (j : Fin 1024) : iblk m c 14 t (ix2 i j) = m ((c.tc : Thread nD τ).loc main_arg14) (ix3 0 ⟨t.val * 176 + i.val, by have := t.isLt; have := N_eq; have := i.isLt; omega⟩ j) := by
  refine Eq.trans (b := V m c main_v18 (ix2 ⟨t.val * 176 + i.val, by have := t.isLt; have := N_eq; have := i.isLt; omega⟩ j)) ?_ (V18_at m c _ j)
  blk_ext [iblk, idx14 t]

end Cert.KernelIdeal.Attn

end
-- ==== Proof.AttnOut.lean ====
module

public import proofs.«01_k».proof.Proof.AttnCasts
public import Idealize.ShloMosaic.Lib.Pipeline.ReadBack
public import Idealize.ShloMosaic.Lib.Pipeline.ValueKit

@[expose] public section

set_option maxRecDepth 16384

noncomputable section

namespace Cert.KernelIdeal.Attn

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

/-- Row `i` of the attention block's result, from the point's rows `X`, the weight row `g`, the query matrix `wq`, the keys
`k`, the values `u` and the output matrix `w`. -/
def attRow (X : Vec Ideal S1024x1024 .f32) (g : Vec Ideal S1x1024 .f32) (wq : Vec Ideal S1024x1024 .bf16)
    (k u : Vec Ideal S256x1024 .bf16) (w : Vec Ideal S1024x1024 .bf16) (i e : Fin 1024) : EReal :=
  outRow (fun l => X (ix2 i l)) (proj (nrm (fun l => X (ix2 i l)) (fun l => g (ix2 0 l))) (fun k e => wq (ix2 k e)))
    (fun j e => k (ix2 j e)) (fun j e => u (ix2 j e)) (fun k e => w (ix2 k e)) e

/-- The first block of rows, read off the point's rows. -/
theorem first_block (X : Vec Ideal S1024x1024 .f32) (x : Vec Ideal S512x1024 .f32) (g : Vec Ideal S1x1024 .f32)
    (wq : Vec Ideal S1024x1024 .bf16) (k u : Vec Ideal S256x1024 .bf16) (w : Vec Ideal S1024x1024 .bf16)
    (r : Fin 512) (i e : Fin 1024) (hx : ∀ l, x (ix2 r l) = X (ix2 i l)) :
    k0_pay56 (F := Ideal) x (k0_pay49 u (k0_pay44 k (k0_pay42 x g wq))) (k0_pay50 u (k0_pay45 k (k0_pay42 x g wq)))
      (k0_pay51 u (k0_pay46 k (k0_pay42 x g wq))) (k0_pay52 u (k0_pay47 k (k0_pay42 x g wq))) w (ix2 r e)
      = attRow X g wq k u w i e := by
  refine (first_out ..).trans ?_
  simp only [pay42_at, hx]
  rfl

/-- The second block of rows likewise. -/
theorem second_block (X : Vec Ideal S1024x1024 .f32) (x : Vec Ideal S512x1024 .f32) (g : Vec Ideal S1x1024 .f32)
    (wq : Vec Ideal S1024x1024 .bf16) (k u : Vec Ideal S256x1024 .bf16) (w : Vec Ideal S1024x1024 .bf16)
    (r : Fin 512) (i e : Fin 1024) (hx : ∀ l, x (ix2 r l) = X (ix2 i l)) :
    k0_pay59 (F := Ideal) u x (k0_pay54 k (k0_pay48 x g wq)) (k0_pay55 k (k0_pay48 x g wq))
      (k0_pay57 k u (k0_pay53 (k0_pay48 x g wq))) (k0_pay58 k (k0_pay48 x g wq)) w (ix2 r e)
      = attRow X g wq k u w i e := by
  refine (second_out ..).trans ?_
  simp only [pay48_at, hx]
  rfl

/-- The result rows a point of this kind stores. -/
theorem outA_15_at (c : Dev nD) (t : Fin cfg0.N) (h : t.val % 2 = 0)  (i e : Fin 1024) :
    outA_15 m c t h (ix2 i e) = attRow (iblk m c 0 t) (iblk m c 5 t) (iblk m c 6 t) (k0_pay4 (iblk m c 1 t) (iblk m c 2 t) (iblk m c 3 t)) (k0_pay11 (k0_pay2 (iblk m c 1 t) (iblk m c 2 t)) (iblk m c 4 t)) (iblk m c 7 t) i e := by
  unfold outA_15 pcsA
  frame_out
  canon_tiles x h
  · obtain ⟨r, l, rfl⟩ : ∃ (r : Fin 512) (l : Fin 1024), x = ix2 r l := ⟨x 0, x 1, (ix2_eta x).symm⟩
    obtain rfl : e = l := Fin.ext h1
    refine second_block (iblk m c 0 t) _ (iblk m c 5 t) (iblk m c 6 t) (k0_pay4 (iblk m c 1 t) (iblk m c 2 t) (iblk m c 3 t)) (k0_pay11 (k0_pay2 (iblk m c 1 t) (iblk m c 2 t)) (iblk m c 4 t)) (iblk m c 7 t) r _ e ?_
    intro a
    refine View.ld_unit_apply_of _ _ _ _ _ _ fun b => ?_
    fin_cases b
    · exact h0
    · exact (Nat.zero_add _).symm
  · obtain ⟨r, l, rfl⟩ : ∃ (r : Fin 512) (l : Fin 1024), x = ix2 r l := ⟨x 0, x 1, (ix2_eta x).symm⟩
    obtain rfl : e = l := Fin.ext h1
    refine first_block (iblk m c 0 t) _ (iblk m c 5 t) (iblk m c 6 t) (k0_pay4 (iblk m c 1 t) (iblk m c 2 t) (iblk m c 3 t)) (k0_pay11 (k0_pay2 (iblk m c 1 t) (iblk m c 2 t)) (iblk m c 4 t)) (iblk m c 7 t) r _ e ?_
    intro a
    refine View.ld_unit_apply_of _ _ _ _ _ _ fun b => ?_
    fin_cases b
    · exact h0.trans (Nat.zero_add _).symm
    · exact (Nat.zero_add _).symm

/-- The result rows a point of this kind stores. -/
theorem outB_15_at (c : Dev nD) (t : Fin cfg0.N) (h : ¬ t.val % 2 = 0) (k v : Vec Ideal S256x1024 .bf16) (i e : Fin 1024) :
    outB_15 m c t h k v (ix2 i e) = attRow (iblk m c 0 t) (iblk m c 5 t) (iblk m c 6 t) k v (iblk m c 7 t) i e := by
  unfold outB_15 pcsB
  frame_out
  canon_tiles x h
  · obtain ⟨r, l, rfl⟩ : ∃ (r : Fin 512) (l : Fin 1024), x = ix2 r l := ⟨x 0, x 1, (ix2_eta x).symm⟩
    simp only [read_unread_whole]
    obtain rfl : e = l := Fin.ext h1
    refine second_block (iblk m c 0 t) _ (iblk m c 5 t) (iblk m c 6 t) k v (iblk m c 7 t) r _ e ?_
    intro a
    refine View.ld_unit_apply_of _ _ _ _ _ _ fun b => ?_
    fin_cases b
    · exact h0
    · exact (Nat.zero_add _).symm
  · obtain ⟨r, l, rfl⟩ : ∃ (r : Fin 512) (l : Fin 1024), x = ix2 r l := ⟨x 0, x 1, (ix2_eta x).symm⟩
    simp only [read_unread_whole]
    obtain rfl : e = l := Fin.ext h1
    refine first_block (iblk m c 0 t) _ (iblk m c 5 t) (iblk m c 6 t) k v (iblk m c 7 t) r _ e ?_
    intro a
    refine View.ld_unit_apply_of _ _ _ _ _ _ fun b => ?_
    fin_cases b
    · exact h0.trans (Nat.zero_add _).symm
    · exact (Nat.zero_add _).symm

end Cert.KernelIdeal.Attn

end
-- ==== Proof.AttnRef.lean ====
module

public import proofs.«01_k».proof.Proof.AttnSpec
public import proofs.«01_k».proof.Proof.Gen.ReferenceIdeal.Read

@[expose] public section

set_option maxRecDepth 16384

noncomputable section

namespace Cert.KernelIdeal.Attn

open Cert.ReferenceIdeal Cert.ReferenceIdeal.Read Cert.ReferenceIdeal.Gen
open Idealize.ShloMosaic Idealize.ShloMosaic.TcCoe Idealize.SL.Sem
open Idealize.ShloMosaic.Pipeline (Dat)

/-! The reference's stages at one entry, on plain functions of the column. -/

/-- The largest entry along the last axis of a rank-4 array, from the initial value on. -/
theorem host_max {n0 n1 n2 n3 : ℕ} {u : Shape} (op : EReal → EReal → EReal)
    [Std.Commutative op] [Std.Associative op] (h : (⟨4, ![n0, n1, n2, n3]⟩ : Shape).ReducesTo [3] ⟨3, ![n0, n1, n2]⟩)
    (hu : 0 < u.numel) (v : (⟨4, ![n0, n1, n2, n3]⟩ : Shape).Idx → EReal) (init : u.Idx → EReal)
    (i : Fin n0) (j : Fin n1) (k : Fin n2) :
    Host.reduce op v init h hu (ix3 i j k)
      = Finset.fold op (init (Shape.Idx.first hu)) (fun l => v (ix4 i j k l)) Finset.univ :=
  (Host.reduce_eq_fold _ _ _ _ _ _).trans (Shape.ReducesTo.fold_fiber_r4_a3 h (ix3 i j k) _ _ _)

/-- The maximum of the fold's start and the fold is the fold. -/
theorem max_fold {ι : Type} (s : Finset ι) (b : EReal) (f : ι → EReal) :
    max b (Finset.fold max b f s) = Finset.fold max b f s :=
  max_eq_right ((Finset.le_fold_max b).mpr (Or.inl le_rfl))

/-- The key rows of batch `b`. -/
def kRow (x1 : (⟨S8x256x1024, .f32⟩ : BufTy).Contents (Elt Ideal)) (x2 : (⟨S1x1024, .f32⟩ : BufTy).Contents (Elt Ideal)) (x3 : (⟨S1x1024x1024, .f32⟩ : BufTy).Contents (Elt Ideal)) (b : Fin 8) (j : Fin 256) : Fin 1024 → EReal :=
  proj (nrm (fun l => x1 (ix3 b j l)) (fun l => x2 (ix2 0 l))) (fun k e => x3 (ix3 0 k e))

/-- Token `t` of batch `b` among the 16384 rows. -/
def tok (b : Fin 8) (t : Fin 2048) : Fin 16384 :=
  ⟨b.val * 2048 + t.val, by have := b.isLt; have := t.isLt; omega⟩

/-- The query row of row `i`. -/
def qRow (x0 : (⟨S16384x1024, .f32⟩ : BufTy).Contents (Elt Ideal)) (x5 : (⟨S1x1024, .f32⟩ : BufTy).Contents (Elt Ideal)) (x6 : (⟨S1x1024x1024, .f32⟩ : BufTy).Contents (Elt Ideal)) (i : Fin 16384) : Fin 1024 → EReal :=
  proj (nrm (fun l => x0 (ix2 i l)) (fun l => x5 (ix2 0 l))) (fun k e => x6 (ix3 0 k e))

/-- The normalized memory rows. -/
theorem ref_mem (x1 : (⟨S8x256x1024, .f32⟩ : BufTy).Contents (Elt Ideal)) (x2 : (⟨S1x1024, .f32⟩ : BufTy).Contents (Elt Ideal)) (b : Fin 8) (j : Fin 256) (k : Fin 1024) :
    val_main_v13 (F := Ideal) x1 x2 (ix3 b j k) = nrm (fun l => x1 (ix3 b j l)) (fun l => x2 (ix2 0 l)) k := by
  pointwise [val_main_v0, val_main_v1, val_main_v2, val_main_v3, val_main_v4, val_main_v5, val_main_v6, val_main_v7, val_main_v8, val_main_v9, val_main_v10, val_main_v11, val_main_v12, val_main_v13, val_main_cst, val_main_cst_0, val_main_cst_1]
  rfl

/-- The key heads. -/
theorem ref_key (x1 : (⟨S8x256x1024, .f32⟩ : BufTy).Contents (Elt Ideal)) (x2 : (⟨S1x1024, .f32⟩ : BufTy).Contents (Elt Ideal)) (x3 : (⟨S1x1024x1024, .f32⟩ : BufTy).Contents (Elt Ideal)) (b : Fin 8) (j : Fin 256) (h : Fin 4) (d : Fin 256) :
    val_main_v16 (F := Ideal) x1 x2 x3 (ix4 b j h d) = kRow x1 x2 x3 b j (col h d) := by
  pointwise [val_main_v14, val_main_v15, val_main_v16]
  simp only [ref_mem]
  rfl

/-- The value heads. -/
theorem ref_val (x1 : (⟨S8x256x1024, .f32⟩ : BufTy).Contents (Elt Ideal)) (x2 : (⟨S1x1024, .f32⟩ : BufTy).Contents (Elt Ideal)) (x4 : (⟨S1x1024x1024, .f32⟩ : BufTy).Contents (Elt Ideal)) (b : Fin 8) (j : Fin 256) (h : Fin 4) (d : Fin 256) :
    val_main_v19 (F := Ideal) x1 x2 x4 (ix4 b j h d) = kRow x1 x2 x4 b j (col h d) := by
  pointwise [val_main_v17, val_main_v18, val_main_v19]
  simp only [ref_mem]
  rfl

/-- The query heads. -/
theorem ref_q (x0 : (⟨S16384x1024, .f32⟩ : BufTy).Contents (Elt Ideal)) (x5 : (⟨S1x1024, .f32⟩ : BufTy).Contents (Elt Ideal)) (x6 : (⟨S1x1024x1024, .f32⟩ : BufTy).Contents (Elt Ideal)) (b : Fin 8) (t : Fin 2048) (h : Fin 4) (d : Fin 256) :
    val_main_v37 (F := Ideal) x0 x5 x6 (ix4 b t h d) = qRow x0 x5 x6 (tok b t) (col h d) := by
  pointwise [val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_cst_2, val_main_cst_3, val_main_cst_4]
  rfl

/-- The scaled scores. -/
theorem ref_score (x0 : (⟨S16384x1024, .f32⟩ : BufTy).Contents (Elt Ideal)) (x1 : (⟨S8x256x1024, .f32⟩ : BufTy).Contents (Elt Ideal)) (x2 : (⟨S1x1024, .f32⟩ : BufTy).Contents (Elt Ideal)) (x3 : (⟨S1x1024x1024, .f32⟩ : BufTy).Contents (Elt Ideal)) (x5 : (⟨S1x1024, .f32⟩ : BufTy).Contents (Elt Ideal)) (x6 : (⟨S1x1024x1024, .f32⟩ : BufTy).Contents (Elt Ideal)) (b : Fin 8) (h : Fin 4) (t : Fin 2048) (j : Fin 256) :
    val_main_v40 (F := Ideal) x0 x1 x2 x3 x5 x6 (ix4 b h t j)
      = score (qRow x0 x5 x6 (tok b t)) (kRow x1 x2 x3 b) h j := by
  pointwise [val_main_v38, val_main_v39, val_main_v40, val_main_cst_5]
  simp only [ref_q, ref_key]
  rfl

end Cert.KernelIdeal.Attn

end
-- ==== Proof.AttnRefOut.lean ====
module

public import proofs.«01_k».proof.Proof.AttnRef
public import proofs.«01_k».proof.Proof.Gen.ReferenceIdeal.Read

@[expose] public section

set_option maxRecDepth 16384

noncomputable section

namespace Cert.KernelIdeal.Attn

open Cert.ReferenceIdeal Cert.ReferenceIdeal.Read Cert.ReferenceIdeal.Gen
open Idealize.ShloMosaic Idealize.ShloMosaic.TcCoe Idealize.SL.Sem
open Idealize.ShloMosaic.Pipeline (Dat)

/-- The maximum over the last axis, as the fold of the maximum. -/
theorem max_last (v : FVec Ideal S8x4x2048x256 .f32) (init : FVec Ideal S_ .f32) (b : Fin 8) (h : Fin 4) (t : Fin 2048) :
    Host.reduce (FloatOps.maximumf (F := Ideal) (φ := .f32)) v init reducesTo_S8x4x2048x256_S8x4x2048_d3 h_S_ (ix3 b h t)
      = Finset.fold (FloatOps.maximumf (F := Ideal) (φ := .f32)) (init (Shape.Idx.first h_S_)) (fun l => v (ix4 b h t l)) Finset.univ :=
  host_max (FloatOps.maximumf (F := Ideal) (φ := .f32)) reducesTo_S8x4x2048x256_S8x4x2048_d3 h_S_ v init b h t

theorem max_last' (x0 : (⟨S16384x1024, .f32⟩ : BufTy).Contents (Elt Ideal)) (x1 : (⟨S8x256x1024, .f32⟩ : BufTy).Contents (Elt Ideal)) (x2 : (⟨S1x1024, .f32⟩ : BufTy).Contents (Elt Ideal)) (x3 : (⟨S1x1024x1024, .f32⟩ : BufTy).Contents (Elt Ideal)) (x5 : (⟨S1x1024, .f32⟩ : BufTy).Contents (Elt Ideal)) (x6 : (⟨S1x1024x1024, .f32⟩ : BufTy).Contents (Elt Ideal)) (b : Fin 8) (h : Fin 4) (t : Fin 2048) :
    val_main_v41 (F := Ideal) x0 x1 x2 x3 x5 x6 (ix3 b h t) =
    Finset.fold (FloatOps.maximumf (F := Ideal) (φ := .f32)) (val_main_cst_6 (F := Ideal) (Shape.Idx.first h_S_)) (fun l => val_main_v40 (F := Ideal) x0 x1 x2 x3 x5 x6 (ix4 b h t l)) Finset.univ :=
  max_last (val_main_v40 (F := Ideal) x0 x1 x2 x3 x5 x6) (val_main_cst_6 (F := Ideal)) b h t

/-- The fold of the maximum over the scores. -/
theorem ref_max (x0 : (⟨S16384x1024, .f32⟩ : BufTy).Contents (Elt Ideal)) (x1 : (⟨S8x256x1024, .f32⟩ : BufTy).Contents (Elt Ideal)) (x2 : (⟨S1x1024, .f32⟩ : BufTy).Contents (Elt Ideal)) (x3 : (⟨S1x1024x1024, .f32⟩ : BufTy).Contents (Elt Ideal)) (x5 : (⟨S1x1024, .f32⟩ : BufTy).Contents (Elt Ideal)) (x6 : (⟨S1x1024x1024, .f32⟩ : BufTy).Contents (Elt Ideal)) (b : Fin 8) (h : Fin 4) (t : Fin 2048) :
    val_main_v41 (F := Ideal) x0 x1 x2 x3 x5 x6 (ix3 b h t)
      = top (score (qRow x0 x5 x6 (tok b t)) (kRow x1 x2 x3 b) h) := by
  rw [max_last']
  simp only [ref_score]
  pointwise [val_main_cst_6, top]

/-- The largest score, once more against minus infinity. -/
theorem ref_top (x0 : (⟨S16384x1024, .f32⟩ : BufTy).Contents (Elt Ideal)) (x1 : (⟨S8x256x1024, .f32⟩ : BufTy).Contents (Elt Ideal)) (x2 : (⟨S1x1024, .f32⟩ : BufTy).Contents (Elt Ideal)) (x3 : (⟨S1x1024x1024, .f32⟩ : BufTy).Contents (Elt Ideal)) (x5 : (⟨S1x1024, .f32⟩ : BufTy).Contents (Elt Ideal)) (x6 : (⟨S1x1024x1024, .f32⟩ : BufTy).Contents (Elt Ideal)) (b : Fin 8) (h : Fin 4) (t : Fin 2048) :
    val_main_v43 (F := Ideal) x0 x1 x2 x3 x5 x6 (ix3 b h t)
      = top (score (qRow x0 x5 x6 (tok b t)) (kRow x1 x2 x3 b) h) := by
  rw [val_main_v43_apply, ref_max, val_main_v42_apply, val_main_cst_7_apply]
  exact max_fold Finset.univ _ _

/-- The softmax weights. -/
theorem ref_weight (x0 : (⟨S16384x1024, .f32⟩ : BufTy).Contents (Elt Ideal)) (x1 : (⟨S8x256x1024, .f32⟩ : BufTy).Contents (Elt Ideal)) (x2 : (⟨S1x1024, .f32⟩ : BufTy).Contents (Elt Ideal)) (x3 : (⟨S1x1024x1024, .f32⟩ : BufTy).Contents (Elt Ideal)) (x5 : (⟨S1x1024, .f32⟩ : BufTy).Contents (Elt Ideal)) (x6 : (⟨S1x1024x1024, .f32⟩ : BufTy).Contents (Elt Ideal)) (b : Fin 8) (h : Fin 4) (t : Fin 2048) (j : Fin 256) :
    val_main_v51 (F := Ideal) x0 x1 x2 x3 x5 x6 (ix4 b h t j)
      = weight (score (qRow x0 x5 x6 (tok b t)) (kRow x1 x2 x3 b) h) j := by
  pointwise [val_main_v44, val_main_v45, val_main_v46, val_main_v47, val_main_v48, val_main_v49, val_main_v50, val_main_v51, val_main_cst_8]
  simp only [ref_score, ref_top]
  rfl

/-- The attention output by head. -/
theorem ref_head (x0 : (⟨S16384x1024, .f32⟩ : BufTy).Contents (Elt Ideal)) (x1 : (⟨S8x256x1024, .f32⟩ : BufTy).Contents (Elt Ideal)) (x2 : (⟨S1x1024, .f32⟩ : BufTy).Contents (Elt Ideal)) (x3 : (⟨S1x1024x1024, .f32⟩ : BufTy).Contents (Elt Ideal)) (x4 : (⟨S1x1024x1024, .f32⟩ : BufTy).Contents (Elt Ideal)) (x5 : (⟨S1x1024, .f32⟩ : BufTy).Contents (Elt Ideal)) (x6 : (⟨S1x1024x1024, .f32⟩ : BufTy).Contents (Elt Ideal)) (b : Fin 8) (t : Fin 2048) (h : Fin 4) (d : Fin 256) :
    val_main_v53 (F := Ideal) x0 x1 x2 x3 x4 x5 x6 (ix4 b t h d)
      = headOut (qRow x0 x5 x6 (tok b t)) (kRow x1 x2 x3 b) (kRow x1 x2 x4 b) h d := by
  pointwise [val_main_v52, val_main_v53]
  simp only [ref_weight, ref_val]
  exact Finset.sum_congr rfl fun j _ => mul_comm _ _

/-- The block's result. -/
theorem ref_out (x0 : (⟨S16384x1024, .f32⟩ : BufTy).Contents (Elt Ideal)) (x1 : (⟨S8x256x1024, .f32⟩ : BufTy).Contents (Elt Ideal)) (x2 : (⟨S1x1024, .f32⟩ : BufTy).Contents (Elt Ideal)) (x3 : (⟨S1x1024x1024, .f32⟩ : BufTy).Contents (Elt Ideal)) (x4 : (⟨S1x1024x1024, .f32⟩ : BufTy).Contents (Elt Ideal)) (x5 : (⟨S1x1024, .f32⟩ : BufTy).Contents (Elt Ideal)) (x6 : (⟨S1x1024x1024, .f32⟩ : BufTy).Contents (Elt Ideal)) (x7 : (⟨S1x1024x1024, .f32⟩ : BufTy).Contents (Elt Ideal)) (b : Fin 8) (t : Fin 2048) (e : Fin 1024) :
    val_main_v77 (F := Ideal) x0 x1 x2 x3 x4 x5 x6 x7 (ix2 (tok b t) e)
      = outRow (fun l => x0 (ix2 (tok b t) l)) (qRow x0 x5 x6 (tok b t)) (kRow x1 x2 x3 b) (kRow x1 x2 x4 b) (fun k e => x7 (ix3 0 k e)) e := by
  pointwise [val_main_v54, val_main_v55, val_main_v56, val_main_v57, val_main_v20, val_main_v77]
  simp only [ref_head]
  refine congrArg (x0 (ix2 (tok b t) e) + ·) (Finset.sum_congr rfl fun k _ => ?_)
  have hb : (⟨(tok b t).val / 2048, by have := (tok b t).isLt; omega⟩ : Fin 8) = b :=
    Fin.ext (by have := t.isLt; simp only [tok]; omega)
  have ht : (⟨(tok b t).val % 2048, by omega⟩ : Fin 2048) = t :=
    Fin.ext (by have := t.isLt; simp only [tok]; omega)
  rw [hb, ht]

end Cert.KernelIdeal.Attn

end
-- ==== Proof.AttnFinal.lean ====
module

public import proofs.«01_k».proof.Proof.AttnBlocks
public import proofs.«01_k».proof.Proof.AttnOut
public import proofs.«01_k».proof.Proof.AttnRefOut
public import Idealize.ShloMosaic.Lib.Pipeline.ValueKit

@[expose] public section

set_option maxRecDepth 16384

noncomputable section

namespace Cert.KernelIdeal.Attn

open Cert.KernelIdeal Cert.KernelIdeal.Gen
open Idealize.ShloMosaic Idealize.ShloMosaic.TcCoe Idealize.SL.Sem
open Idealize.ShloMosaic.Pipeline (Dat)

open Cert.ReferenceIdeal.Read
variable (m : (ℓ : Loc nD τ sig) → Buf (Elt Ideal) ℓ)

/-! ## The result arrays after the run are the reference's -/

theorem emb20 (t : Fin cfg0.N) (i : Fin 64) (j : Fin 2816) :
    (win0_20.blk t).view.emb (ix2 i j) = ix2 ⟨t.val * 64 + i.val, by have := t.isLt; have := N_eq; have := i.isLt; omega⟩ j := by
  blk_ext [idx20 t]

theorem outAt_20_eq (c : Dev nD) (t : Fin cfg0.N) : outAt_20 m c t = k0_pay16 (F := Ideal) (iblk m c 12 t) := by
  unfold outAt_20
  split
  · exact outA_20_eq m c t _
  · exact outB_20_eq m c t _ _ _

/-- Output 20 is the cast weight. -/
theorem final_20 (c : Dev nD) : (dats m 0 c).arrAt 20 (cfgs 0).N = val_main_v81 (F := Ideal) (m ((c.tc : Thread nD τ).loc main_arg12)) := by
  refine (dats m 0 c).arrAt_eq_of_covers 20 _ (by decide +kernel) fun t hf y => ?_
  blk_simp
  rw [after0_20, outAt_20_eq]
  obtain ⟨i, j, rfl⟩ : ∃ (i : Fin 64) (j : Fin 2816), y = ix2 i j := ⟨y 0, y 1, (ix2_eta y).symm⟩
  rw [emb20]
  pointwise [k0_pay16, val_main_v81, val_main_v80]
  exact blk12 m c t i j

theorem emb21 (t : Fin cfg0.N) (i : Fin 64) (j : Fin 2816) :
    (win0_21.blk t).view.emb (ix2 i j) = ix2 ⟨t.val * 64 + i.val, by have := t.isLt; have := N_eq; have := i.isLt; omega⟩ j := by
  blk_ext [idx21 t]

theorem outAt_21_eq (c : Dev nD) (t : Fin cfg0.N) : outAt_21 m c t = k0_pay17 (F := Ideal) (iblk m c 13 t) := by
  unfold outAt_21
  split
  · exact outA_21_eq m c t _
  · exact outB_21_eq m c t _ _ _

/-- Output 21 is the cast weight. -/
theorem final_21 (c : Dev nD) : (dats m 0 c).arrAt 21 (cfgs 0).N = val_main_v83 (F := Ideal) (m ((c.tc : Thread nD τ).loc main_arg13)) := by
  refine (dats m 0 c).arrAt_eq_of_covers 21 _ (by decide +kernel) fun t hf y => ?_
  blk_simp
  rw [after0_21, outAt_21_eq]
  obtain ⟨i, j, rfl⟩ : ∃ (i : Fin 64) (j : Fin 2816), y = ix2 i j := ⟨y 0, y 1, (ix2_eta y).symm⟩
  rw [emb21]
  pointwise [k0_pay17, val_main_v83, val_main_v82]
  exact blk13 m c t i j

theorem emb22 (t : Fin cfg0.N) (i : Fin 176) (j : Fin 1024) :
    (win0_22.blk t).view.emb (ix2 i j) = ix2 ⟨t.val * 176 + i.val, by have := t.isLt; have := N_eq; have := i.isLt; omega⟩ j := by
  blk_ext [idx22 t]

theorem outAt_22_eq (c : Dev nD) (t : Fin cfg0.N) : outAt_22 m c t = k0_pay18 (F := Ideal) (iblk m c 14 t) := by
  unfold outAt_22
  split
  · exact outA_22_eq m c t _
  · exact outB_22_eq m c t _ _ _

/-- Output 22 is the cast weight. -/
theorem final_22 (c : Dev nD) : (dats m 0 c).arrAt 22 (cfgs 0).N = val_main_v85 (F := Ideal) (m ((c.tc : Thread nD τ).loc main_arg14)) := by
  refine (dats m 0 c).arrAt_eq_of_covers 22 _ (by decide +kernel) fun t hf y => ?_
  blk_simp
  rw [after0_22, outAt_22_eq]
  obtain ⟨i, j, rfl⟩ : ∃ (i : Fin 176) (j : Fin 1024), y = ix2 i j := ⟨y 0, y 1, (ix2_eta y).symm⟩
  rw [emb22]
  pointwise [k0_pay18, val_main_v85, val_main_v84]
  exact blk14 m c t i j

/-- The keys of a point's batch. -/
theorem key_at (c : Dev nD) (t : Fin cfg0.N) (j : Fin 256) (e : Fin 1024) :
    k0_pay4 (F := Ideal) (iblk m c 1 t) (iblk m c 2 t) (iblk m c 3 t) (ix2 j e)
      = kRow (m ((c.tc : Thread nD τ).loc main_arg1)) (m ((c.tc : Thread nD τ).loc main_arg2)) (m ((c.tc : Thread nD τ).loc main_arg3)) ⟨t.val / 2, by have := t.isLt; have := N_eq; omega⟩ j e := by
  rw [pay4_at]
  simp only [blk1, blk2, blk3]
  rfl

/-- The values of a point's batch. -/
theorem val_at (c : Dev nD) (t : Fin cfg0.N) (j : Fin 256) (e : Fin 1024) :
    k0_pay11 (F := Ideal) (k0_pay2 (iblk m c 1 t) (iblk m c 2 t)) (iblk m c 4 t) (ix2 j e)
      = kRow (m ((c.tc : Thread nD τ).loc main_arg1)) (m ((c.tc : Thread nD τ).loc main_arg2)) (m ((c.tc : Thread nD τ).loc main_arg4)) ⟨t.val / 2, by have := t.isLt; have := N_eq; omega⟩ j e := by
  rw [pay11_at]
  simp only [pay2_at, blk1, blk2, blk4]
  rfl

/-! The four heads of a key block, entry by entry. -/

theorem kHead0 (x : Vec Ideal S1x256x1024 .f32) (g : Vec Ideal S1x1024 .f32) (w : Vec Ideal S1024x1024 .bf16)
    (j : Fin 256) (d : Fin 256) : k0_pay5 (F := Ideal) x g w (ix4 0 j 0 d) = k0_pay4 (F := Ideal) x g w (ix2 j (col 0 d)) := by
  rw [show col 0 d = ⟨0 + d.val, by have := d.isLt; omega⟩ from Fin.ext (by simp [col])]
  pointwise [k0_pay3, k0_pay4, k0_pay5, k0_pay6, k0_pay7, k0_pay8, k0_pay9]

theorem kHead1 (x : Vec Ideal S1x256x1024 .f32) (g : Vec Ideal S1x1024 .f32) (w : Vec Ideal S1024x1024 .bf16)
    (j : Fin 256) (d : Fin 256) : k0_pay6 (F := Ideal) x g w (ix4 0 j 0 d) = k0_pay4 (F := Ideal) x g w (ix2 j (col 1 d)) := by
  rw [show col 1 d = ⟨256 + d.val, by have := d.isLt; omega⟩ from Fin.ext (by simp [col])]
  pointwise [k0_pay3, k0_pay4, k0_pay5, k0_pay6, k0_pay7, k0_pay8, k0_pay9]

theorem kHead2 (x : Vec Ideal S1x256x1024 .f32) (g : Vec Ideal S1x1024 .f32) (w : Vec Ideal S1024x1024 .bf16)
    (j : Fin 256) (d : Fin 256) : k0_pay8 (F := Ideal) (k0_pay7 x g w) (ix4 0 j 0 d) = k0_pay4 (F := Ideal) x g w (ix2 j (col 2 d)) := by
  rw [show col 2 d = ⟨512 + d.val, by have := d.isLt; omega⟩ from Fin.ext (by simp [col])]
  pointwise [k0_pay3, k0_pay4, k0_pay5, k0_pay6, k0_pay7, k0_pay8, k0_pay9]

theorem kHead3 (x : Vec Ideal S1x256x1024 .f32) (g : Vec Ideal S1x1024 .f32) (w : Vec Ideal S1024x1024 .bf16)
    (j : Fin 256) (d : Fin 256) : k0_pay9 (F := Ideal) (k0_pay3 x g w) (ix4 0 j 0 d) = k0_pay4 (F := Ideal) x g w (ix2 j (col 3 d)) := by
  rw [show col 3 d = ⟨768 + d.val, by have := d.isLt; omega⟩ from Fin.ext (by simp [col])]
  pointwise [k0_pay3, k0_pay4, k0_pay5, k0_pay6, k0_pay7, k0_pay8, k0_pay9]

end Cert.KernelIdeal.Attn

end
-- ==== Proof.AttnRows.lean ====
module

public import proofs.«01_k».proof.Proof.AttnFinal
public import Idealize.ShloMosaic.Lib.Pipeline.ValueKit

@[expose] public section

set_option maxRecDepth 16384

noncomputable section

namespace Cert.KernelIdeal.Attn

open Cert.KernelIdeal Cert.KernelIdeal.Gen
open Idealize.ShloMosaic Idealize.ShloMosaic.TcCoe Idealize.SL.Sem
open Idealize.ShloMosaic.Pipeline (Dat)

open Cert.ReferenceIdeal.Read
variable (m : (ℓ : Loc nD τ sig) → Buf (Elt Ideal) ℓ)

/-! The four heads of a value block, entry by entry. -/

theorem vHead0 (y : FVec Ideal S256x1024 .bf16) (w : Vec Ideal S1024x1024 .bf16)
    (j : Fin 256) (d : Fin 256) : k0_pay12 (F := Ideal) y w (ix4 0 j 0 d) = k0_pay11 (F := Ideal) y w (ix2 j (col 0 d)) := by
  rw [show col 0 d = ⟨0 + d.val, by have := d.isLt; omega⟩ from Fin.ext (by simp [col])]
  pointwise [k0_pay10, k0_pay11, k0_pay12, k0_pay13, k0_pay14, k0_pay15, k0_pay19]

theorem vHead1 (y : FVec Ideal S256x1024 .bf16) (w : Vec Ideal S1024x1024 .bf16)
    (j : Fin 256) (d : Fin 256) : k0_pay13 (F := Ideal) y w (ix4 0 j 0 d) = k0_pay11 (F := Ideal) y w (ix2 j (col 1 d)) := by
  rw [show col 1 d = ⟨256 + d.val, by have := d.isLt; omega⟩ from Fin.ext (by simp [col])]
  pointwise [k0_pay10, k0_pay11, k0_pay12, k0_pay13, k0_pay14, k0_pay15, k0_pay19]

theorem vHead2 (y : FVec Ideal S256x1024 .bf16) (w : Vec Ideal S1024x1024 .bf16)
    (j : Fin 256) (d : Fin 256) : k0_pay14 (F := Ideal) y w (ix4 0 j 0 d) = k0_pay11 (F := Ideal) y w (ix2 j (col 2 d)) := by
  rw [show col 2 d = ⟨512 + d.val, by have := d.isLt; omega⟩ from Fin.ext (by simp [col])]
  pointwise [k0_pay10, k0_pay11, k0_pay12, k0_pay13, k0_pay14, k0_pay15, k0_pay19]

theorem vHead3 (y : FVec Ideal S256x1024 .bf16) (w : Vec Ideal S1024x1024 .bf16)
    (j : Fin 256) (d : Fin 256) : k0_pay19 (F := Ideal) (k0_pay15 y w) (ix4 0 j 0 d) = k0_pay11 (F := Ideal) y w (ix2 j (col 3 d)) := by
  rw [show col 3 d = ⟨768 + d.val, by have := d.isLt; omega⟩ from Fin.ext (by simp [col])]
  pointwise [k0_pay10, k0_pay11, k0_pay12, k0_pay13, k0_pay14, k0_pay15, k0_pay19]

/-- The keys a first point stores, by head. -/
theorem outA_16_at (c : Dev nD) (t : Fin cfg0.N) (h : t.val % 2 = 0) (j : Fin 256) (n : Fin 4) (d : Fin 256) :
    outA_16 m c t h (ix4 0 j n d) = k0_pay4 (F := Ideal) (iblk m c 1 t) (iblk m c 2 t) (iblk m c 3 t) (ix2 j (col n d)) := by
  unfold outA_16 pcsA
  frame_out
  canon_tiles x h
  · obtain ⟨a, j', b, d', rfl⟩ : ∃ (a : Fin 1) (j' : Fin 256) (b : Fin 1) (d' : Fin 256), x = ix4 a j' b d' :=
      ⟨x 0, x 1, x 2, x 3, (ix4_eta x).symm⟩
    obtain rfl : a = 0 := Subsingleton.elim _ _
    obtain rfl : b = 0 := Subsingleton.elim _ _
    obtain rfl : j = j' := Fin.ext h1
    obtain rfl : d = d' := Fin.ext h3
    obtain rfl : n = 3 := Fin.ext h2
    exact kHead3 ..
  · obtain ⟨a, j', b, d', rfl⟩ : ∃ (a : Fin 1) (j' : Fin 256) (b : Fin 1) (d' : Fin 256), x = ix4 a j' b d' :=
      ⟨x 0, x 1, x 2, x 3, (ix4_eta x).symm⟩
    obtain rfl : a = 0 := Subsingleton.elim _ _
    obtain rfl : b = 0 := Subsingleton.elim _ _
    obtain rfl : j = j' := Fin.ext h1
    obtain rfl : d = d' := Fin.ext h3
    obtain rfl : n = 2 := Fin.ext h2
    exact kHead2 ..
  · obtain ⟨a, j', b, d', rfl⟩ : ∃ (a : Fin 1) (j' : Fin 256) (b : Fin 1) (d' : Fin 256), x = ix4 a j' b d' :=
      ⟨x 0, x 1, x 2, x 3, (ix4_eta x).symm⟩
    obtain rfl : a = 0 := Subsingleton.elim _ _
    obtain rfl : b = 0 := Subsingleton.elim _ _
    obtain rfl : j = j' := Fin.ext h1
    obtain rfl : d = d' := Fin.ext h3
    obtain rfl : n = 1 := Fin.ext h2
    exact kHead1 ..
  · obtain ⟨a, j', b, d', rfl⟩ : ∃ (a : Fin 1) (j' : Fin 256) (b : Fin 1) (d' : Fin 256), x = ix4 a j' b d' :=
      ⟨x 0, x 1, x 2, x 3, (ix4_eta x).symm⟩
    obtain rfl : a = 0 := Subsingleton.elim _ _
    obtain rfl : b = 0 := Subsingleton.elim _ _
    obtain rfl : j = j' := Fin.ext h1
    obtain rfl : d = d' := Fin.ext h3
    obtain rfl : n = 0 := Fin.ext h2
    exact kHead0 ..

theorem emb16 (t : Fin cfg0.N) (j : Fin 256) (n : Fin 4) (d : Fin 256) :
    (win0_16.blk t).view.emb (ix4 0 j n d) = ix4 ⟨t.val / 2, by have := t.isLt; have := N_eq; omega⟩ j n d := by
  blk_ext [idx16 t]

/-- Output 16 is the reference's keys by head. -/
theorem final_16 (c : Dev nD) : (dats m 0 c).arrAt 16 (cfgs 0).N = val_main_v16 (F := Ideal) (m ((c.tc : Thread nD τ).loc main_arg1)) (m ((c.tc : Thread nD τ).loc main_arg2)) (m ((c.tc : Thread nD τ).loc main_arg3)) := by
  refine (dats m 0 c).arrAt_eq_of_covers 16 _ (by decide +kernel) fun t hf y => ?_
  blk_simp
  rw [after0_16]
  obtain ⟨a, j, n, d, rfl⟩ : ∃ (a : Fin 1) (j : Fin 256) (n : Fin 4) (d : Fin 256), y = ix4 a j n d :=
    ⟨y 0, y 1, y 2, y 3, (ix4_eta y).symm⟩
  obtain rfl : a = 0 := Subsingleton.elim _ _
  rw [emb16, ref_key, outAt_16, outA_16_at, key_at]
  congr 1
  exact Fin.ext (by simp only [fst]; omega)

/-- The values a first point stores, by head. -/
theorem outA_17_at (c : Dev nD) (t : Fin cfg0.N) (h : t.val % 2 = 0) (j : Fin 256) (n : Fin 4) (d : Fin 256) :
    outA_17 m c t h (ix4 0 j n d) = k0_pay11 (F := Ideal) (k0_pay2 (iblk m c 1 t) (iblk m c 2 t)) (iblk m c 4 t) (ix2 j (col n d)) := by
  unfold outA_17 pcsA
  frame_out
  canon_tiles x h
  · obtain ⟨a, j', b, d', rfl⟩ : ∃ (a : Fin 1) (j' : Fin 256) (b : Fin 1) (d' : Fin 256), x = ix4 a j' b d' :=
      ⟨x 0, x 1, x 2, x 3, (ix4_eta x).symm⟩
    obtain rfl : a = 0 := Subsingleton.elim _ _
    obtain rfl : b = 0 := Subsingleton.elim _ _
    obtain rfl : j = j' := Fin.ext h1
    obtain rfl : d = d' := Fin.ext h3
    obtain rfl : n = 3 := Fin.ext h2
    exact vHead3 ..
  · obtain ⟨a, j', b, d', rfl⟩ : ∃ (a : Fin 1) (j' : Fin 256) (b : Fin 1) (d' : Fin 256), x = ix4 a j' b d' :=
      ⟨x 0, x 1, x 2, x 3, (ix4_eta x).symm⟩
    obtain rfl : a = 0 := Subsingleton.elim _ _
    obtain rfl : b = 0 := Subsingleton.elim _ _
    obtain rfl : j = j' := Fin.ext h1
    obtain rfl : d = d' := Fin.ext h3
    obtain rfl : n = 2 := Fin.ext h2
    exact vHead2 ..
  · obtain ⟨a, j', b, d', rfl⟩ : ∃ (a : Fin 1) (j' : Fin 256) (b : Fin 1) (d' : Fin 256), x = ix4 a j' b d' :=
      ⟨x 0, x 1, x 2, x 3, (ix4_eta x).symm⟩
    obtain rfl : a = 0 := Subsingleton.elim _ _
    obtain rfl : b = 0 := Subsingleton.elim _ _
    obtain rfl : j = j' := Fin.ext h1
    obtain rfl : d = d' := Fin.ext h3
    obtain rfl : n = 1 := Fin.ext h2
    exact vHead1 ..
  · obtain ⟨a, j', b, d', rfl⟩ : ∃ (a : Fin 1) (j' : Fin 256) (b : Fin 1) (d' : Fin 256), x = ix4 a j' b d' :=
      ⟨x 0, x 1, x 2, x 3, (ix4_eta x).symm⟩
    obtain rfl : a = 0 := Subsingleton.elim _ _
    obtain rfl : b = 0 := Subsingleton.elim _ _
    obtain rfl : j = j' := Fin.ext h1
    obtain rfl : d = d' := Fin.ext h3
    obtain rfl : n = 0 := Fin.ext h2
    exact vHead0 ..

theorem emb17 (t : Fin cfg0.N) (j : Fin 256) (n : Fin 4) (d : Fin 256) :
    (win0_17.blk t).view.emb (ix4 0 j n d) = ix4 ⟨t.val / 2, by have := t.isLt; have := N_eq; omega⟩ j n d := by
  blk_ext [idx17 t]

/-- Output 17 is the reference's values by head. -/
theorem final_17 (c : Dev nD) : (dats m 0 c).arrAt 17 (cfgs 0).N = val_main_v19 (F := Ideal) (m ((c.tc : Thread nD τ).loc main_arg1)) (m ((c.tc : Thread nD τ).loc main_arg2)) (m ((c.tc : Thread nD τ).loc main_arg4)) := by
  refine (dats m 0 c).arrAt_eq_of_covers 17 _ (by decide +kernel) fun t hf y => ?_
  blk_simp
  rw [after0_17]
  obtain ⟨a, j, n, d, rfl⟩ : ∃ (a : Fin 1) (j : Fin 256) (n : Fin 4) (d : Fin 256), y = ix4 a j n d :=
    ⟨y 0, y 1, y 2, y 3, (ix4_eta y).symm⟩
  obtain rfl : a = 0 := Subsingleton.elim _ _
  rw [emb17, ref_val, outAt_17, outA_17_at, val_at]
  congr 1
  exact Fin.ext (by simp only [fst]; omega)

/-- Row `i` of a point's result is the reference's row. -/
theorem attRow_eq (c : Dev nD) (t : Fin cfg0.N) (k u : Vec Ideal S256x1024 .bf16)
    (hk : ∀ j e, k (ix2 j e) = kRow (m ((c.tc : Thread nD τ).loc main_arg1)) (m ((c.tc : Thread nD τ).loc main_arg2)) (m ((c.tc : Thread nD τ).loc main_arg3)) ⟨t.val / 2, by have := t.isLt; have := N_eq; omega⟩ j e)
    (hu : ∀ j e, u (ix2 j e) = kRow (m ((c.tc : Thread nD τ).loc main_arg1)) (m ((c.tc : Thread nD τ).loc main_arg2)) (m ((c.tc : Thread nD τ).loc main_arg4)) ⟨t.val / 2, by have := t.isLt; have := N_eq; omega⟩ j e) (i e : Fin 1024) :
    attRow (iblk m c 0 t) (iblk m c 5 t) (iblk m c 6 t) k u (iblk m c 7 t) i e
      = val_main_v77 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
          (ix2 ⟨t.val * 1024 + i.val, by have := t.isLt; have := N_eq; have := i.isLt; omega⟩ e) := by
  rw [show (⟨t.val * 1024 + i.val, by have := t.isLt; have := N_eq; have := i.isLt; omega⟩ : Fin 16384)
    = tok ⟨t.val / 2, by have := t.isLt; have := N_eq; omega⟩ ⟨t.val % 2 * 1024 + i.val, by have := i.isLt; omega⟩ from Fin.ext (by simp only [tok]; omega)]
  rw [ref_out]
  rw [show tok ⟨t.val / 2, by have := t.isLt; have := N_eq; omega⟩ ⟨t.val % 2 * 1024 + i.val, by have := i.isLt; omega⟩
    = (⟨t.val * 1024 + i.val, by have := t.isLt; have := N_eq; have := i.isLt; omega⟩ : Fin 16384) from Fin.ext (by simp only [tok]; omega)]
  unfold attRow
  simp only [hk, hu, blk0, blk5, blk6, blk7]
  rfl

theorem emb15 (t : Fin cfg0.N) (i : Fin 1024) (j : Fin 1024) :
    (win0_15.blk t).view.emb (ix2 i j) = ix2 ⟨t.val * 1024 + i.val, by have := t.isLt; have := N_eq; have := i.isLt; omega⟩ j := by
  blk_ext [idx15 t]

/-- The point at which a batch's keys and values are made lies in the same batch. -/
theorem fst_half (t : Fin cfg0.N) : (fst t).val / 2 = t.val / 2 := by
  simp only [fst]; omega

/-- Output 15 is the reference's rows with the attention output added. -/
theorem final_15 (c : Dev nD) : (dats m 0 c).arrAt 15 (cfgs 0).N
    = val_main_v77 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (dats m 0 c).arrAt_eq_of_covers 15 _ (by decide +kernel) fun t hf y => ?_
  blk_simp
  rw [after0_15]
  obtain ⟨i, e, rfl⟩ : ∃ (i : Fin 1024) (e : Fin 1024), y = ix2 i e := ⟨y 0, y 1, (ix2_eta y).symm⟩
  rw [emb15]
  unfold outAt_15
  split
  · rw [outA_15_at]
    exact attRow_eq m c t _ _ (key_at m c t) (val_at m c t) i e
  · rw [outB_15_at]
    refine attRow_eq m c t _ _ (fun j e => ?_) (fun j e => ?_) i e
    · rw [keyAt, keyA_eq, key_at]
      congr 1
      exact Fin.ext (fst_half t)
    · rw [valAt, valA_eq, val_at]
      congr 1
      exact Fin.ext (fst_half t)

end Cert.KernelIdeal.Attn

end
-- ==== Proof.AttnState.lean ====
module

public import proofs.«01_k».proof.Proof.AttnCasts
public import proofs.«01_k».proof.Proof.Gen.ReferenceIdeal.Read
public import Idealize.ShloMosaic.Lib.Pipeline.ValueKit

@[expose] public section

set_option maxRecDepth 16384

noncomputable section

namespace Cert.KernelIdeal.Attn

open Cert.KernelIdeal Cert.KernelIdeal.Gen
open Idealize.ShloMosaic Idealize.ShloMosaic.TcCoe Idealize.SL.Sem
open Idealize.ShloMosaic.Pipeline (Dat)
open Cert.ReferenceIdeal.Read (val_main_v58 val_main_v59 val_main_v60 val_main_v61 val_main_v62 val_main_v63 val_main_v64 val_main_v65 val_main_v66 val_main_v67 val_main_v68 val_main_v69 val_main_v70 val_main_v71 val_main_v72 val_main_v73 val_main_v74 val_main_v75 val_main_v76 val_main_v78 val_main_v79)

/-! ## One step of the sample states: the mathematics, the kernel's stages, the reference's stages -/

/-- Entry `(P, n)` of the new state of sample `s`: the old one times the decay of its head, plus row times column. -/
def stNew (x8 : Vec Ideal S128x128 .f32) (x9 : Vec Ideal S1x128x8x64x128 .f32) (x10 x11 : Vec Ideal S128x512 .f32)
    (s : Fin 128) (p : Fin 512) (n : Fin 128) : EReal :=
  x9 (ix5 0 s ⟨p.val / 256 * 4 + p.val / 64 % 4, by have := p.isLt; omega⟩ ⟨p.val % 64, by omega⟩ n)
      * x8 (ix2 s ⟨p.val / 256 * 4 + p.val / 64 % 4, by have := p.isLt; omega⟩)
    + x10 (ix2 s p) * x11 (ix2 s ⟨p.val / 256 * 128 + n.val, by have := p.isLt; have := n.isLt; omega⟩)

/-- Entry `P` of the row of sample `s`: the new state against the sample's third vector. -/
def stOut (x8 : Vec Ideal S128x128 .f32) (x9 : Vec Ideal S1x128x8x64x128 .f32) (x10 x11 : Vec Ideal S128x512 .f32)
    (s : Fin 128) (p : Fin 512) : EReal :=
  ∑ n : Fin 128, x11 (ix2 s ⟨256 + (p.val / 256 * 128 + n.val), by have := p.isLt; have := n.isLt; omega⟩)
    * stNew x8 x9 x10 x11 s p n

/-- The reference's new states. -/
theorem ref_state (x8 : Vec Ideal S128x128 .f32) (x9 : Vec Ideal S1x128x8x64x128 .f32) (x10 x11 : Vec Ideal S128x512 .f32)
    (s : Fin 128) (p : Fin 512) (n : Fin 128) :
    val_main_v78 (F := Ideal) x8 x9 x10 x11 (ix3 s p n) = stNew x8 x9 x10 x11 s p n := by
  pointwise [val_main_v78, val_main_v75, val_main_v74, val_main_v73, val_main_v72, val_main_v71, val_main_v70, val_main_v69, val_main_v68, val_main_v67, val_main_v66, val_main_v65, val_main_v62, val_main_v61, val_main_v60, val_main_v59, val_main_v58]
  rfl

/-- The reference's rows. -/
theorem ref_row (x8 : Vec Ideal S128x128 .f32) (x9 : Vec Ideal S1x128x8x64x128 .f32) (x10 x11 : Vec Ideal S128x512 .f32)
    (s : Fin 128) (p : Fin 512) :
    val_main_v79 (F := Ideal) x8 x9 x10 x11 (ix2 s p) = stOut x8 x9 x10 x11 s p := by
  pointwise [val_main_v79, val_main_v76, val_main_v64, val_main_v63, val_main_v75, val_main_v74, val_main_v73, val_main_v72, val_main_v71, val_main_v70, val_main_v69, val_main_v68, val_main_v67, val_main_v66, val_main_v65, val_main_v62, val_main_v61, val_main_v60, val_main_v59, val_main_v58]
  rfl

/-- The update of one sample's states in the first group: its row times its column, the other samples masked off. -/
def upd0 (i : BitVec 32) (x b : Vec Ideal S8x512 .f32) : FVec Ideal S256x128 .f32 :=
  matmul (φ₁ := .f32) (φ₂ := .f32) dot_S8x256_S8x128_S256x128_0_0_1_1_n_n none (extractStridedSlice S8x256 ![0, 0] x slices_S8x512_o0_0_S8x256)
    (select (cmpi .eq (iota .tc S8x128 32 [0] iota_S8x128_d0_w32) (broadcast S8x128 i))
      (extractStridedSlice S8x128 ![0, 0] b slices_S8x512_o0_0_S8x128)
      (broadcast S8x128 (Scalar.ofBits .f32 0x00000000#32))) (constant S256x128 .f32 0x00000000#32)

/-- The same in the second group. -/
def upd1 (i : BitVec 32) (x b : Vec Ideal S8x512 .f32) : FVec Ideal S256x128 .f32 :=
  matmul (φ₁ := .f32) (φ₂ := .f32) dot_S8x256_S8x128_S256x128_0_0_1_1_n_n none (extractStridedSlice S8x256 ![0, 256] x slices_S8x512_o0_256_S8x256)
    (select (cmpi .eq (iota .tc S8x128 32 [0] iota_S8x128_d0_w32) (broadcast S8x128 i))
      (extractStridedSlice S8x128 ![0, 128] b slices_S8x512_o0_128_S8x128)
      (broadcast S8x128 (Scalar.ofBits .f32 0x00000000#32))) (constant S256x128 .f32 0x00000000#32)

/-- The new states of one sample in one group: four heads, each times its decay, plus the update. -/
def newTile (u : FVec Ideal S256x128 .f32) (d0 d1 d2 d3 : Elt Ideal .f32) (h0 h1 h2 h3 : Vec Ideal S1x64x128 .f32) :
    FVec Ideal S256x128 .f32 :=
  concatenate S256x128 0
    [⟨S64x128, addf (mulf (shapeCast S64x128 h0 shapeCasts_S1x64x128_S64x128) (broadcast S64x128 d0)) (extractStridedSlice S64x128 ![0, 0] u slices_S256x128_o0_0_S64x128)⟩,
     ⟨S64x128, addf (mulf (shapeCast S64x128 h1 shapeCasts_S1x64x128_S64x128) (broadcast S64x128 d1)) (extractStridedSlice S64x128 ![64, 0] u slices_S256x128_o64_0_S64x128)⟩,
     ⟨S64x128, addf (mulf (shapeCast S64x128 h2 shapeCasts_S1x64x128_S64x128) (broadcast S64x128 d2)) (extractStridedSlice S64x128 ![128, 0] u slices_S256x128_o128_0_S64x128)⟩,
     ⟨S64x128, addf (mulf (shapeCast S64x128 h3 shapeCasts_S1x64x128_S64x128) (broadcast S64x128 d3)) (extractStridedSlice S64x128 ![192, 0] u slices_S256x128_o192_0_S64x128)⟩]
    concatenates_S64x128_S64x128_S64x128_S64x128_S256x128_d0

/-- One sample's part of the output rows in the first group: its vector, the other samples masked off, against its states. -/
def yPart0 (i : BitVec 32) (b : Vec Ideal S8x512 .f32) (w : FVec Ideal S256x128 .f32) : FVec Ideal S8x256 .f32 :=
  matmul dot_S8x128_S256x128_S8x256_1_1_0_0_n_n none
    (truncf .bf16 (select (cmpi .eq (iota .tc S8x128 32 [0] iota_S8x128_d0_w32) (broadcast S8x128 i))
      (extractStridedSlice S8x128 ![0, 256] b slices_S8x512_o0_256_S8x128)
      (broadcast S8x128 (Scalar.ofBits (F := Ideal) .f32 0x00000000#32))) bitsLt_bf16_f32)
    (truncf .bf16 w bitsLt_bf16_f32) (constant S8x256 .f32 0x00000000#32)

/-- The same in the second group. -/
def yPart1 (i : BitVec 32) (b : Vec Ideal S8x512 .f32) (w : FVec Ideal S256x128 .f32) : FVec Ideal S8x256 .f32 :=
  matmul dot_S8x128_S256x128_S8x256_1_1_0_0_n_n none
    (truncf .bf16 (select (cmpi .eq (iota .tc S8x128 32 [0] iota_S8x128_d0_w32) (broadcast S8x128 i))
      (extractStridedSlice S8x128 ![0, 384] b slices_S8x512_o0_384_S8x128)
      (broadcast S8x128 (Scalar.ofBits (F := Ideal) .f32 0x00000000#32))) bitsLt_bf16_f32)
    (truncf .bf16 w bitsLt_bf16_f32) (constant S8x256 .f32 0x00000000#32)

/-- A masked choice between two samples. -/
theorem pick (r k : Fin 8) (a b : EReal) :
    Scalar.select (IntOp.cmpi CmpIPredicate.eq (BitVec.ofNat 32 r.val) (BitVec.ofNat 32 k.val)) a b = if r = k then a else b := by
  have h : ∀ r k : Fin 8, IntOp.cmpi CmpIPredicate.eq (BitVec.ofNat 32 r.val) (BitVec.ofNat 32 k.val) = if r = k then 1#1 else 0#1 := by
    decide
  rw [h]
  split <;> rfl

/-- The masked product is the sample's own row times its own column. -/
theorem upd0_at (k : Fin 8) (x b : Vec Ideal S8x512 .f32) (p : Fin 256) (n : Fin 128) :
    upd0 (BitVec.ofNat 32 k.val) x b (ix2 p n)
      = x (ix2 k ⟨p.val, by have := p.isLt; omega⟩) * b (ix2 k ⟨n.val, by have := n.isLt; omega⟩) := by
  pointwise [upd0]
  simp only [pick]
  rw [Finset.sum_ite_eq' Finset.univ k]
  exact if_pos (Finset.mem_univ k)

/-- The masked product is the sample's own row times its own column. -/
theorem upd1_at (k : Fin 8) (x b : Vec Ideal S8x512 .f32) (p : Fin 256) (n : Fin 128) :
    upd1 (BitVec.ofNat 32 k.val) x b (ix2 p n)
      = x (ix2 k ⟨256 + p.val, by have := p.isLt; omega⟩) * b (ix2 k ⟨128 + n.val, by have := n.isLt; omega⟩) := by
  pointwise [upd1]
  simp only [pick]
  rw [Finset.sum_ite_eq' Finset.univ k]
  exact if_pos (Finset.mem_univ k)

/-- Entry `(p, n)` of the new states, from what the four heads' blocks and decays hold. -/
theorem newTile_at (u : FVec Ideal S256x128 .f32) (d0 d1 d2 d3 : Elt Ideal .f32) (h0 h1 h2 h3 : Vec Ideal S1x64x128 .f32)
    (D : Fin 4 → EReal) (H : Fin 256 → Fin 128 → EReal)
    (e0 : d0 = D 0) (e1 : d1 = D 1) (e2 : d2 = D 2) (e3 : d3 = D 3)
    (f0 : ∀ (q : Fin 64) (n : Fin 128), h0 (ix3 0 q n) = H ⟨q.val, by have := q.isLt; omega⟩ n)
    (f1 : ∀ (q : Fin 64) (n : Fin 128), h1 (ix3 0 q n) = H ⟨64 + q.val, by have := q.isLt; omega⟩ n)
    (f2 : ∀ (q : Fin 64) (n : Fin 128), h2 (ix3 0 q n) = H ⟨128 + q.val, by have := q.isLt; omega⟩ n)
    (f3 : ∀ (q : Fin 64) (n : Fin 128), h3 (ix3 0 q n) = H ⟨192 + q.val, by have := q.isLt; omega⟩ n)
    (p : Fin 256) (n : Fin 128) :
    newTile u d0 d1 d2 d3 h0 h1 h2 h3 (ix2 p n) = H p n * D ⟨p.val / 64, by have := p.isLt; omega⟩ + u (ix2 p n) := by
  subst e0 e1 e2 e3
  have hp := p.isLt
  pointwise [newTile]
  simp only [f0, f1, f2, f3]
  by_cases c0 : p.val < 64
  · rw [dif_pos c0, show (⟨p.val / 64, by omega⟩ : Fin 4) = 0 from Fin.ext (by simp only [Fin.val_ofNat]; omega)]
  rw [dif_neg c0]
  by_cases c1 : p.val - 64 < 64
  · rw [dif_pos c1, show (⟨p.val / 64, by omega⟩ : Fin 4) = 1 from Fin.ext (by simp only [Fin.val_ofNat]; omega)]
    have e : (⟨64 + (p.val - 64), by omega⟩ : Fin 256) = p := Fin.ext (by simp only []; omega)
    rw [e]
  rw [dif_neg c1]
  by_cases c2 : p.val - 64 - 64 < 64
  · rw [dif_pos c2, show (⟨p.val / 64, by omega⟩ : Fin 4) = 2 from Fin.ext (by simp only [Fin.val_ofNat]; omega)]
    have e : (⟨128 + (p.val - 64 - 64), by omega⟩ : Fin 256) = p := Fin.ext (by simp only []; omega)
    rw [e]
  rw [dif_neg c2, show (⟨p.val / 64, by omega⟩ : Fin 4) = 3 from Fin.ext (by simp only [Fin.val_ofNat]; omega)]
  have e : (⟨192 + (p.val - 64 - 64 - 64), by omega⟩ : Fin 256) = p := Fin.ext (by simp only []; omega)
  rw [e]

/-- A sample's part holds its row, and zero on the other rows. -/
theorem yPart0_at (k : Fin 8) (b : Vec Ideal S8x512 .f32) (w : FVec Ideal S256x128 .f32) (r : Fin 8) (p : Fin 256) :
    yPart0 (BitVec.ofNat 32 k.val) b w (ix2 r p)
      = if r = k then ∑ n : Fin 128, b (ix2 r ⟨256 + n.val, by have := n.isLt; omega⟩) * w (ix2 p n) else 0 := by
  pointwise [yPart0]
  simp only [pick]
  split
  · rfl
  · exact Finset.sum_const_zero

/-- A sample's part holds its row, and zero on the other rows. -/
theorem yPart1_at (k : Fin 8) (b : Vec Ideal S8x512 .f32) (w : FVec Ideal S256x128 .f32) (r : Fin 8) (p : Fin 256) :
    yPart1 (BitVec.ofNat 32 k.val) b w (ix2 r p)
      = if r = k then ∑ n : Fin 128, b (ix2 r ⟨384 + n.val, by have := n.isLt; omega⟩) * w (ix2 p n) else 0 := by
  pointwise [yPart1]
  simp only [pick]
  split
  · rfl
  · exact Finset.sum_const_zero

/-- Of eight masked terms only the row's own counts. -/
theorem sum_picked (r : Fin 8) (f : Fin 8 → EReal) :
    (if r = 0 then f 0 else 0) + (if r = 1 then f 1 else 0) + (if r = 2 then f 2 else 0) + (if r = 3 then f 3 else 0)
      + (if r = 4 then f 4 else 0) + (if r = 5 then f 5 else 0) + (if r = 6 then f 6 else 0) + (if r = 7 then f 7 else 0)
      = f r := by
  fin_cases r <;> simp

/-- A leading unit axis changes no entry. -/
theorem lift_at (w : FVec Ideal S256x128 .f32) (p : Fin 256) (n : Fin 128) :
    shapeCast S1x256x128 w shapeCasts_S256x128_S1x256x128 (ix3 0 p n) = w (ix2 p n) := by
  pointwise

/-- A sample's vector, read from column `o` on, against a row of states. -/
def part (b : Vec Ideal S8x512 .f32) (o : ℕ) (ho : o ≤ 384) (k : Fin 8) (f : Fin 128 → EReal) : EReal :=
  ∑ n : Fin 128, b (ix2 k ⟨o + n.val, by have := n.isLt; omega⟩) * f n

/-- A sample's part, from the states it is taken against. -/
theorem y0_of (k : ℕ) (hk : k < 8) (b : Vec Ideal S8x512 .f32) (w : FVec Ideal S256x128 .f32) (f : Fin 256 → Fin 128 → EReal)
    (hw : ∀ p n, w (ix2 p n) = f p n) (r : Fin 8) (p : Fin 256) :
    yPart0 (BitVec.ofNat 32 k) b w (ix2 r p) = if r = ⟨k, hk⟩ then part b 256 (by decide) ⟨k, hk⟩ (f p) else 0 := by
  refine (yPart0_at ⟨k, hk⟩ b w r p).trans ?_
  simp only [hw]
  split
  · subst r
    rfl
  · rfl

/-- A sample's part, from the states it is taken against. -/
theorem y1_of (k : ℕ) (hk : k < 8) (b : Vec Ideal S8x512 .f32) (w : FVec Ideal S256x128 .f32) (f : Fin 256 → Fin 128 → EReal)
    (hw : ∀ p n, w (ix2 p n) = f p n) (r : Fin 8) (p : Fin 256) :
    yPart1 (BitVec.ofNat 32 k) b w (ix2 r p) = if r = ⟨k, hk⟩ then part b 384 (by decide) ⟨k, hk⟩ (f p) else 0 := by
  refine (yPart1_at ⟨k, hk⟩ b w r p).trans ?_
  simp only [hw]
  split
  · subst r
    rfl
  · rfl

/-- Eight parts added up. -/
def sum8 (y0 y1 y2 y3 y4 y5 y6 y7 : FVec Ideal S8x256 .f32) : FVec Ideal S8x256 .f32 :=
  addf (addf (addf (addf (addf (addf (addf y0 y1) y2) y3) y4) y5) y6) y7

/-- The output rows: the two groups' sums of parts side by side; row `r` is sample `r`'s own part. -/
theorem rows_at (y0 y1 y2 y3 y4 y5 y6 y7 z0 z1 z2 z3 z4 z5 z6 z7 : FVec Ideal S8x256 .f32) (f g : Fin 8 → Fin 256 → EReal)
    (hy0 : ∀ r p, y0 (ix2 r p) = if r = 0 then f 0 p else 0)
    (hy1 : ∀ r p, y1 (ix2 r p) = if r = 1 then f 1 p else 0)
    (hy2 : ∀ r p, y2 (ix2 r p) = if r = 2 then f 2 p else 0)
    (hy3 : ∀ r p, y3 (ix2 r p) = if r = 3 then f 3 p else 0)
    (hy4 : ∀ r p, y4 (ix2 r p) = if r = 4 then f 4 p else 0)
    (hy5 : ∀ r p, y5 (ix2 r p) = if r = 5 then f 5 p else 0)
    (hy6 : ∀ r p, y6 (ix2 r p) = if r = 6 then f 6 p else 0)
    (hy7 : ∀ r p, y7 (ix2 r p) = if r = 7 then f 7 p else 0)
    (hz0 : ∀ r p, z0 (ix2 r p) = if r = 0 then g 0 p else 0)
    (hz1 : ∀ r p, z1 (ix2 r p) = if r = 1 then g 1 p else 0)
    (hz2 : ∀ r p, z2 (ix2 r p) = if r = 2 then g 2 p else 0)
    (hz3 : ∀ r p, z3 (ix2 r p) = if r = 3 then g 3 p else 0)
    (hz4 : ∀ r p, z4 (ix2 r p) = if r = 4 then g 4 p else 0)
    (hz5 : ∀ r p, z5 (ix2 r p) = if r = 5 then g 5 p else 0)
    (hz6 : ∀ r p, z6 (ix2 r p) = if r = 6 then g 6 p else 0)
    (hz7 : ∀ r p, z7 (ix2 r p) = if r = 7 then g 7 p else 0)
    (r : Fin 8) (p : Fin 512) :
    k0_pay1 (sum8 y0 y1 y2 y3 y4 y5 y6 y7) (sum8 z0 z1 z2 z3 z4 z5 z6 z7) (ix2 r p)
      = if h : p.val < 256 then f r ⟨p.val, h⟩ else g r ⟨p.val - 256, by have := p.isLt; omega⟩ := by
  pointwise [k0_pay1, sum8]
  simp only [hy0, hz0, hy1, hz1, hy2, hz2, hy3, hz3, hy4, hz4, hy5, hz5, hy6, hz6, hy7, hz7]
  by_cases h : p.val < 256
  · rw [dif_pos h, dif_pos h]
    exact sum_picked r fun k => f k ⟨p.val, h⟩
  · rw [dif_neg h, dif_neg h]
    exact sum_picked r fun k => g k ⟨p.val - 256, by have := p.isLt; omega⟩

end Cert.KernelIdeal.Attn

end
-- ==== Proof.AttnTiles.lean ====
module

public import proofs.«01_k».proof.Proof.AttnState
public import proofs.«01_k».proof.Proof.AttnBlocks
public import Idealize.ShloMosaic.Lib.Pipeline.ReadBack
public import Idealize.ShloMosaic.Lib.Pipeline.ValueKit

@[expose] public section

set_option maxRecDepth 16384

noncomputable section

namespace Cert.KernelIdeal.Attn

open Cert.KernelIdeal Cert.KernelIdeal.Gen
open Idealize.ShloMosaic Idealize.ShloMosaic.TcCoe Idealize.SL.Sem
open Idealize.ShloMosaic.Pipeline (Dat)
open Cert.ReferenceIdeal.Read (val_main_v78 val_main_v79)

variable (m : (ℓ : Loc nD τ sig) → Buf (Elt Ideal) ℓ)

/-- Where the decay of a sample's head lies among the point's decays. -/
theorem off_dec : ∀ (t : Fin cfg0.N) (i k : Fin 8),
    k0_off1 (grid0.coords t) (BitVec.ofNat 32 i.val) (BitVec.ofNat 32 k.val) 0 = t.val * 64 + i.val * 8 + k.val :=
  (by decide +kernel : ∀ (t : Fin grid0.N) (i k : Fin 8), _)

/-- The decay read for head `k` of sample `i`. -/
theorem dec_ld (c : Dev nD) (t : Fin cfg0.N) (i k : ℕ) (hi : i < 8) (hk : k < 8)
    (a : ∀ b, k0_off1 (grid0.coords t) (BitVec.ofNat 32 i) (BitVec.ofNat 32 k) b + (![1] : Fin 1 → ℕ) b ≤ S1024.size b)
    (a' : 0 < (Shape.mk 1 ![1]).numel) :
    View.ld (iblk m c 8 t) (Rect.unit (s := S1024) (k0_off1 (grid0.coords t) (BitVec.ofNat 32 i) (BitVec.ofNat 32 k)) ![1] a) (Shape.Idx.first a')
      = (m ((c.tc : Thread nD τ).loc main_arg8)) (ix2 ⟨t.val * 8 + i, by have := t.isLt; have := N_eq; omega⟩ ⟨k, by omega⟩) := by
  have hN := N_eq
  have ht := t.isLt
  refine (View.ld_unit_apply_of _ _ _ _ _ (ix1 ⟨t.val * 64 + i * 8 + k, by omega⟩) fun b => ?_).trans ?_
  · fin_cases b
    have e := off_dec t ⟨i, hi⟩ ⟨k, hk⟩
    simp only [] at e
    exact e.symm
  · rw [blk8]
    congr 2 <;> exact Fin.ext (by simp only []; omega)

/-- A head's block of old states. -/
theorem old_ld (c : Dev nD) (t : Fin cfg0.N) (i o : ℕ) (a : ∀ b, (![i, o, 0] : Fin 3 → ℕ) b + (![1, 64, 128] : Fin 3 → ℕ) b ≤ S8x512x128.size b)
    (q : Fin 64) (n : Fin 128) (I : Fin 8) (O : Fin 512) (hI : I.val = i) (hO : O.val = o + q.val) :
    View.ld (iblk m c 9 t) (Rect.unit (s := S8x512x128) ![i, o, 0] ![1, 64, 128] a) (ix3 0 q n) = iblk m c 9 t (ix3 I O n) := by
  refine View.ld_unit_apply_of _ _ _ _ _ _ fun b => ?_
  fin_cases b
  · exact hI
  · exact hO
  · exact (Nat.zero_add _).symm

/-- Group 0 of sample `i`: the kernel's new states are the mathematics' ones. -/
theorem tile0_at (c : Dev nD) (t : Fin cfg0.N) (i : ℕ) (hi : i < 8)
    (a0 : ∀ b, k0_off1 (grid0.coords t) (BitVec.ofNat 32 i) 0#32 b + (![1] : Fin 1 → ℕ) b ≤ S1024.size b)
    (a1 : ∀ b, k0_off1 (grid0.coords t) (BitVec.ofNat 32 i) 1#32 b + (![1] : Fin 1 → ℕ) b ≤ S1024.size b)
    (a2 : ∀ b, k0_off1 (grid0.coords t) (BitVec.ofNat 32 i) 2#32 b + (![1] : Fin 1 → ℕ) b ≤ S1024.size b)
    (a3 : ∀ b, k0_off1 (grid0.coords t) (BitVec.ofNat 32 i) 3#32 b + (![1] : Fin 1 → ℕ) b ≤ S1024.size b)
    (b0 : ∀ b, (![i, 0, 0] : Fin 3 → ℕ) b + (![1, 64, 128] : Fin 3 → ℕ) b ≤ S8x512x128.size b)
    (b1 : ∀ b, (![i, 64, 0] : Fin 3 → ℕ) b + (![1, 64, 128] : Fin 3 → ℕ) b ≤ S8x512x128.size b)
    (b2 : ∀ b, (![i, 128, 0] : Fin 3 → ℕ) b + (![1, 64, 128] : Fin 3 → ℕ) b ≤ S8x512x128.size b)
    (b3 : ∀ b, (![i, 192, 0] : Fin 3 → ℕ) b + (![1, 64, 128] : Fin 3 → ℕ) b ≤ S8x512x128.size b)
    (u0 u1 u2 u3 : 0 < (Shape.mk 1 ![1]).numel)
    (p : Fin 256) (n : Fin 128) :
    newTile (upd0 (BitVec.ofNat 32 i) (iblk m c 10 t) (iblk m c 11 t))
      (View.ld (iblk m c 8 t) (Rect.unit (s := S1024) (k0_off1 (grid0.coords t) (BitVec.ofNat 32 i) 0#32) ![1] a0) (Shape.Idx.first u0))
      (View.ld (iblk m c 8 t) (Rect.unit (s := S1024) (k0_off1 (grid0.coords t) (BitVec.ofNat 32 i) 1#32) ![1] a1) (Shape.Idx.first u1))
      (View.ld (iblk m c 8 t) (Rect.unit (s := S1024) (k0_off1 (grid0.coords t) (BitVec.ofNat 32 i) 2#32) ![1] a2) (Shape.Idx.first u2))
      (View.ld (iblk m c 8 t) (Rect.unit (s := S1024) (k0_off1 (grid0.coords t) (BitVec.ofNat 32 i) 3#32) ![1] a3) (Shape.Idx.first u3))
      (View.ld (iblk m c 9 t) (Rect.unit (s := S8x512x128) ![i, 0, 0] ![1, 64, 128] b0))
      (View.ld (iblk m c 9 t) (Rect.unit (s := S8x512x128) ![i, 64, 0] ![1, 64, 128] b1))
      (View.ld (iblk m c 9 t) (Rect.unit (s := S8x512x128) ![i, 128, 0] ![1, 64, 128] b2))
      (View.ld (iblk m c 9 t) (Rect.unit (s := S8x512x128) ![i, 192, 0] ![1, 64, 128] b3))
      (ix2 p n) = stNew (m ((c.tc : Thread nD τ).loc main_arg8)) (m ((c.tc : Thread nD τ).loc main_arg9)) (m ((c.tc : Thread nD τ).loc main_arg10)) (m ((c.tc : Thread nD τ).loc main_arg11)) ⟨t.val * 8 + i, by have := t.isLt; have := N_eq; omega⟩ ⟨p.val, by have := p.isLt; omega⟩ n := by
  have hN := N_eq
  have ht := t.isLt
  have hp := p.isLt
  refine (newTile_at _ _ _ _ _ _ _ _ _ (fun k => (m ((c.tc : Thread nD τ).loc main_arg8)) (ix2 ⟨t.val * 8 + i, by have := t.isLt; have := N_eq; omega⟩ ⟨k.val, by have := k.isLt; omega⟩))
    (fun q n => iblk m c 9 t (ix3 ⟨i, hi⟩ ⟨q.val, by have := q.isLt; omega⟩ n))
    (dec_ld m c t i 0 hi (by decide) a0 u0) (dec_ld m c t i 1 hi (by decide) a1 u1) (dec_ld m c t i 2 hi (by decide) a2 u2) (dec_ld m c t i 3 hi (by decide) a3 u3)
    (fun q n => old_ld m c t i 0 b0 q n ⟨i, hi⟩ _ rfl (by first | rfl | (simp only []; omega)))
    (fun q n => old_ld m c t i 64 b1 q n ⟨i, hi⟩ _ rfl (by first | rfl | (simp only []; omega)))
    (fun q n => old_ld m c t i 128 b2 q n ⟨i, hi⟩ _ rfl (by first | rfl | (simp only []; omega)))
    (fun q n => old_ld m c t i 192 b3 q n ⟨i, hi⟩ _ rfl (by first | rfl | (simp only []; omega))) p n).trans ?_
  rw [upd0_at ⟨i, hi⟩]
  simp only [blk9, blk10, blk11]
  unfold stNew
  congr 1
  · congr 2
    · congr 1 <;> exact Fin.ext (by simp only []; omega)
    · congr 1; exact Fin.ext (by simp only []; omega)
  · congr 2; congr 1; exact Fin.ext (by simp only []; omega)

/-- Group 1 of sample `i`: the kernel's new states are the mathematics' ones. -/
theorem tile1_at (c : Dev nD) (t : Fin cfg0.N) (i : ℕ) (hi : i < 8)
    (a0 : ∀ b, k0_off1 (grid0.coords t) (BitVec.ofNat 32 i) 4#32 b + (![1] : Fin 1 → ℕ) b ≤ S1024.size b)
    (a1 : ∀ b, k0_off1 (grid0.coords t) (BitVec.ofNat 32 i) 5#32 b + (![1] : Fin 1 → ℕ) b ≤ S1024.size b)
    (a2 : ∀ b, k0_off1 (grid0.coords t) (BitVec.ofNat 32 i) 6#32 b + (![1] : Fin 1 → ℕ) b ≤ S1024.size b)
    (a3 : ∀ b, k0_off1 (grid0.coords t) (BitVec.ofNat 32 i) 7#32 b + (![1] : Fin 1 → ℕ) b ≤ S1024.size b)
    (b0 : ∀ b, (![i, 256, 0] : Fin 3 → ℕ) b + (![1, 64, 128] : Fin 3 → ℕ) b ≤ S8x512x128.size b)
    (b1 : ∀ b, (![i, 320, 0] : Fin 3 → ℕ) b + (![1, 64, 128] : Fin 3 → ℕ) b ≤ S8x512x128.size b)
    (b2 : ∀ b, (![i, 384, 0] : Fin 3 → ℕ) b + (![1, 64, 128] : Fin 3 → ℕ) b ≤ S8x512x128.size b)
    (b3 : ∀ b, (![i, 448, 0] : Fin 3 → ℕ) b + (![1, 64, 128] : Fin 3 → ℕ) b ≤ S8x512x128.size b)
    (u0 u1 u2 u3 : 0 < (Shape.mk 1 ![1]).numel)
    (p : Fin 256) (n : Fin 128) :
    newTile (upd1 (BitVec.ofNat 32 i) (iblk m c 10 t) (iblk m c 11 t))
      (View.ld (iblk m c 8 t) (Rect.unit (s := S1024) (k0_off1 (grid0.coords t) (BitVec.ofNat 32 i) 4#32) ![1] a0) (Shape.Idx.first u0))
      (View.ld (iblk m c 8 t) (Rect.unit (s := S1024) (k0_off1 (grid0.coords t) (BitVec.ofNat 32 i) 5#32) ![1] a1) (Shape.Idx.first u1))
      (View.ld (iblk m c 8 t) (Rect.unit (s := S1024) (k0_off1 (grid0.coords t) (BitVec.ofNat 32 i) 6#32) ![1] a2) (Shape.Idx.first u2))
      (View.ld (iblk m c 8 t) (Rect.unit (s := S1024) (k0_off1 (grid0.coords t) (BitVec.ofNat 32 i) 7#32) ![1] a3) (Shape.Idx.first u3))
      (View.ld (iblk m c 9 t) (Rect.unit (s := S8x512x128) ![i, 256, 0] ![1, 64, 128] b0))
      (View.ld (iblk m c 9 t) (Rect.unit (s := S8x512x128) ![i, 320, 0] ![1, 64, 128] b1))
      (View.ld (iblk m c 9 t) (Rect.unit (s := S8x512x128) ![i, 384, 0] ![1, 64, 128] b2))
      (View.ld (iblk m c 9 t) (Rect.unit (s := S8x512x128) ![i, 448, 0] ![1, 64, 128] b3))
      (ix2 p n) = stNew (m ((c.tc : Thread nD τ).loc main_arg8)) (m ((c.tc : Thread nD τ).loc main_arg9)) (m ((c.tc : Thread nD τ).loc main_arg10)) (m ((c.tc : Thread nD τ).loc main_arg11)) ⟨t.val * 8 + i, by have := t.isLt; have := N_eq; omega⟩ ⟨256 + p.val, by have := p.isLt; omega⟩ n := by
  have hN := N_eq
  have ht := t.isLt
  have hp := p.isLt
  refine (newTile_at _ _ _ _ _ _ _ _ _ (fun k => (m ((c.tc : Thread nD τ).loc main_arg8)) (ix2 ⟨t.val * 8 + i, by have := t.isLt; have := N_eq; omega⟩ ⟨4 + k.val, by have := k.isLt; omega⟩))
    (fun q n => iblk m c 9 t (ix3 ⟨i, hi⟩ ⟨256 + q.val, by have := q.isLt; omega⟩ n))
    (dec_ld m c t i 4 hi (by decide) a0 u0) (dec_ld m c t i 5 hi (by decide) a1 u1) (dec_ld m c t i 6 hi (by decide) a2 u2) (dec_ld m c t i 7 hi (by decide) a3 u3)
    (fun q n => old_ld m c t i 256 b0 q n ⟨i, hi⟩ _ rfl (by first | rfl | (simp only []; omega)))
    (fun q n => old_ld m c t i 320 b1 q n ⟨i, hi⟩ _ rfl (by first | rfl | (simp only []; omega)))
    (fun q n => old_ld m c t i 384 b2 q n ⟨i, hi⟩ _ rfl (by first | rfl | (simp only []; omega)))
    (fun q n => old_ld m c t i 448 b3 q n ⟨i, hi⟩ _ rfl (by first | rfl | (simp only []; omega))) p n).trans ?_
  rw [upd1_at ⟨i, hi⟩]
  simp only [blk9, blk10, blk11]
  unfold stNew
  congr 1
  · congr 2
    · congr 1 <;> exact Fin.ext (by simp only []; omega)
    · congr 1; exact Fin.ext (by simp only []; omega)
  · congr 2; congr 1; exact Fin.ext (by simp only []; omega)

/-- The new states a point stores, from the point's sample and column. -/
def stAt (c : Dev nD) (t : Fin cfg0.N) (i : Fin 8) (p : Fin 512) (n : Fin 128) : EReal :=
  stNew (m ((c.tc : Thread nD τ).loc main_arg8)) (m ((c.tc : Thread nD τ).loc main_arg9)) (m ((c.tc : Thread nD τ).loc main_arg10)) (m ((c.tc : Thread nD τ).loc main_arg11)) ⟨t.val * 8 + i.val, by have := t.isLt; have := N_eq; have := i.isLt; omega⟩ p n

end Cert.KernelIdeal.Attn

end
-- ==== Proof.AttnStates.lean ====
module

public import proofs.«01_k».proof.Proof.AttnTiles

@[expose] public section

set_option maxRecDepth 16384

noncomputable section

namespace Cert.KernelIdeal.Attn

open Cert.KernelIdeal Cert.KernelIdeal.Gen
open Idealize.ShloMosaic Idealize.ShloMosaic.TcCoe Idealize.SL.Sem
open Idealize.ShloMosaic.Pipeline (Dat)
open Cert.ReferenceIdeal.Read (val_main_v78 val_main_v79)

variable (m : (ℓ : Loc nD τ sig) → Buf (Elt Ideal) ℓ)

/-- The new states a point of this kind stores. -/
theorem outA_18_at (c : Dev nD) (t : Fin cfg0.N) (h : t.val % 2 = 0) (i : Fin 8) (p : Fin 512) (n : Fin 128) :
    outA_18 m c t h (ix3 i p n) = stAt m c t i p n := by
  unfold outA_18 pcsA
  frame_out
  canon_tiles x h
  · obtain ⟨x0, x1, x2, rfl⟩ : ∃ (x0 : Fin 1) (x1 : Fin 256) (x2 : Fin 128), x = ix3 x0 x1 x2 := ⟨x 0, x 1, x 2, (ix3_eta x).symm⟩
    obtain rfl : x0 = 0 := Subsingleton.elim _ _
    obtain rfl : i = 7 := Fin.ext h0
    obtain rfl : n = x2 := Fin.ext h2
    refine (lift_at _ x1 n).trans ((tile1_at m c t 7 (by decide) _ _ _ _ _ _ _ _ _ _ _ _ x1 n).trans ?_)
    exact congrArg (fun q => stAt m c t 7 q n) (Fin.ext h1.symm)
  · obtain ⟨x0, x1, x2, rfl⟩ : ∃ (x0 : Fin 1) (x1 : Fin 256) (x2 : Fin 128), x = ix3 x0 x1 x2 := ⟨x 0, x 1, x 2, (ix3_eta x).symm⟩
    obtain rfl : x0 = 0 := Subsingleton.elim _ _
    obtain rfl : i = 7 := Fin.ext h0
    obtain rfl : n = x2 := Fin.ext h2
    refine (lift_at _ x1 n).trans ((tile0_at m c t 7 (by decide) _ _ _ _ _ _ _ _ _ _ _ _ x1 n).trans ?_)
    exact congrArg (fun q => stAt m c t 7 q n) (Fin.ext h1.symm)
  · obtain ⟨x0, x1, x2, rfl⟩ : ∃ (x0 : Fin 1) (x1 : Fin 256) (x2 : Fin 128), x = ix3 x0 x1 x2 := ⟨x 0, x 1, x 2, (ix3_eta x).symm⟩
    obtain rfl : x0 = 0 := Subsingleton.elim _ _
    obtain rfl : i = 6 := Fin.ext h0
    obtain rfl : n = x2 := Fin.ext h2
    refine (lift_at _ x1 n).trans ((tile1_at m c t 6 (by decide) _ _ _ _ _ _ _ _ _ _ _ _ x1 n).trans ?_)
    exact congrArg (fun q => stAt m c t 6 q n) (Fin.ext h1.symm)
  · obtain ⟨x0, x1, x2, rfl⟩ : ∃ (x0 : Fin 1) (x1 : Fin 256) (x2 : Fin 128), x = ix3 x0 x1 x2 := ⟨x 0, x 1, x 2, (ix3_eta x).symm⟩
    obtain rfl : x0 = 0 := Subsingleton.elim _ _
    obtain rfl : i = 6 := Fin.ext h0
    obtain rfl : n = x2 := Fin.ext h2
    refine (lift_at _ x1 n).trans ((tile0_at m c t 6 (by decide) _ _ _ _ _ _ _ _ _ _ _ _ x1 n).trans ?_)
    exact congrArg (fun q => stAt m c t 6 q n) (Fin.ext h1.symm)
  · obtain ⟨x0, x1, x2, rfl⟩ : ∃ (x0 : Fin 1) (x1 : Fin 256) (x2 : Fin 128), x = ix3 x0 x1 x2 := ⟨x 0, x 1, x 2, (ix3_eta x).symm⟩
    obtain rfl : x0 = 0 := Subsingleton.elim _ _
    obtain rfl : i = 5 := Fin.ext h0
    obtain rfl : n = x2 := Fin.ext h2
    refine (lift_at _ x1 n).trans ((tile1_at m c t 5 (by decide) _ _ _ _ _ _ _ _ _ _ _ _ x1 n).trans ?_)
    exact congrArg (fun q => stAt m c t 5 q n) (Fin.ext h1.symm)
  · obtain ⟨x0, x1, x2, rfl⟩ : ∃ (x0 : Fin 1) (x1 : Fin 256) (x2 : Fin 128), x = ix3 x0 x1 x2 := ⟨x 0, x 1, x 2, (ix3_eta x).symm⟩
    obtain rfl : x0 = 0 := Subsingleton.elim _ _
    obtain rfl : i = 5 := Fin.ext h0
    obtain rfl : n = x2 := Fin.ext h2
    refine (lift_at _ x1 n).trans ((tile0_at m c t 5 (by decide) _ _ _ _ _ _ _ _ _ _ _ _ x1 n).trans ?_)
    exact congrArg (fun q => stAt m c t 5 q n) (Fin.ext h1.symm)
  · obtain ⟨x0, x1, x2, rfl⟩ : ∃ (x0 : Fin 1) (x1 : Fin 256) (x2 : Fin 128), x = ix3 x0 x1 x2 := ⟨x 0, x 1, x 2, (ix3_eta x).symm⟩
    obtain rfl : x0 = 0 := Subsingleton.elim _ _
    obtain rfl : i = 4 := Fin.ext h0
    obtain rfl : n = x2 := Fin.ext h2
    refine (lift_at _ x1 n).trans ((tile1_at m c t 4 (by decide) _ _ _ _ _ _ _ _ _ _ _ _ x1 n).trans ?_)
    exact congrArg (fun q => stAt m c t 4 q n) (Fin.ext h1.symm)
  · obtain ⟨x0, x1, x2, rfl⟩ : ∃ (x0 : Fin 1) (x1 : Fin 256) (x2 : Fin 128), x = ix3 x0 x1 x2 := ⟨x 0, x 1, x 2, (ix3_eta x).symm⟩
    obtain rfl : x0 = 0 := Subsingleton.elim _ _
    obtain rfl : i = 4 := Fin.ext h0
    obtain rfl : n = x2 := Fin.ext h2
    refine (lift_at _ x1 n).trans ((tile0_at m c t 4 (by decide) _ _ _ _ _ _ _ _ _ _ _ _ x1 n).trans ?_)
    exact congrArg (fun q => stAt m c t 4 q n) (Fin.ext h1.symm)
  · obtain ⟨x0, x1, x2, rfl⟩ : ∃ (x0 : Fin 1) (x1 : Fin 256) (x2 : Fin 128), x = ix3 x0 x1 x2 := ⟨x 0, x 1, x 2, (ix3_eta x).symm⟩
    obtain rfl : x0 = 0 := Subsingleton.elim _ _
    obtain rfl : i = 3 := Fin.ext h0
    obtain rfl : n = x2 := Fin.ext h2
    refine (lift_at _ x1 n).trans ((tile1_at m c t 3 (by decide) _ _ _ _ _ _ _ _ _ _ _ _ x1 n).trans ?_)
    exact congrArg (fun q => stAt m c t 3 q n) (Fin.ext h1.symm)
  · obtain ⟨x0, x1, x2, rfl⟩ : ∃ (x0 : Fin 1) (x1 : Fin 256) (x2 : Fin 128), x = ix3 x0 x1 x2 := ⟨x 0, x 1, x 2, (ix3_eta x).symm⟩
    obtain rfl : x0 = 0 := Subsingleton.elim _ _
    obtain rfl : i = 3 := Fin.ext h0
    obtain rfl : n = x2 := Fin.ext h2
    refine (lift_at _ x1 n).trans ((tile0_at m c t 3 (by decide) _ _ _ _ _ _ _ _ _ _ _ _ x1 n).trans ?_)
    exact congrArg (fun q => stAt m c t 3 q n) (Fin.ext h1.symm)
  · obtain ⟨x0, x1, x2, rfl⟩ : ∃ (x0 : Fin 1) (x1 : Fin 256) (x2 : Fin 128), x = ix3 x0 x1 x2 := ⟨x 0, x 1, x 2, (ix3_eta x).symm⟩
    obtain rfl : x0 = 0 := Subsingleton.elim _ _
    obtain rfl : i = 2 := Fin.ext h0
    obtain rfl : n = x2 := Fin.ext h2
    refine (lift_at _ x1 n).trans ((tile1_at m c t 2 (by decide) _ _ _ _ _ _ _ _ _ _ _ _ x1 n).trans ?_)
    exact congrArg (fun q => stAt m c t 2 q n) (Fin.ext h1.symm)
  · obtain ⟨x0, x1, x2, rfl⟩ : ∃ (x0 : Fin 1) (x1 : Fin 256) (x2 : Fin 128), x = ix3 x0 x1 x2 := ⟨x 0, x 1, x 2, (ix3_eta x).symm⟩
    obtain rfl : x0 = 0 := Subsingleton.elim _ _
    obtain rfl : i = 2 := Fin.ext h0
    obtain rfl : n = x2 := Fin.ext h2
    refine (lift_at _ x1 n).trans ((tile0_at m c t 2 (by decide) _ _ _ _ _ _ _ _ _ _ _ _ x1 n).trans ?_)
    exact congrArg (fun q => stAt m c t 2 q n) (Fin.ext h1.symm)
  · obtain ⟨x0, x1, x2, rfl⟩ : ∃ (x0 : Fin 1) (x1 : Fin 256) (x2 : Fin 128), x = ix3 x0 x1 x2 := ⟨x 0, x 1, x 2, (ix3_eta x).symm⟩
    obtain rfl : x0 = 0 := Subsingleton.elim _ _
    obtain rfl : i = 1 := Fin.ext h0
    obtain rfl : n = x2 := Fin.ext h2
    refine (lift_at _ x1 n).trans ((tile1_at m c t 1 (by decide) _ _ _ _ _ _ _ _ _ _ _ _ x1 n).trans ?_)
    exact congrArg (fun q => stAt m c t 1 q n) (Fin.ext h1.symm)
  · obtain ⟨x0, x1, x2, rfl⟩ : ∃ (x0 : Fin 1) (x1 : Fin 256) (x2 : Fin 128), x = ix3 x0 x1 x2 := ⟨x 0, x 1, x 2, (ix3_eta x).symm⟩
    obtain rfl : x0 = 0 := Subsingleton.elim _ _
    obtain rfl : i = 1 := Fin.ext h0
    obtain rfl : n = x2 := Fin.ext h2
    refine (lift_at _ x1 n).trans ((tile0_at m c t 1 (by decide) _ _ _ _ _ _ _ _ _ _ _ _ x1 n).trans ?_)
    exact congrArg (fun q => stAt m c t 1 q n) (Fin.ext h1.symm)
  · obtain ⟨x0, x1, x2, rfl⟩ : ∃ (x0 : Fin 1) (x1 : Fin 256) (x2 : Fin 128), x = ix3 x0 x1 x2 := ⟨x 0, x 1, x 2, (ix3_eta x).symm⟩
    obtain rfl : x0 = 0 := Subsingleton.elim _ _
    obtain rfl : i = 0 := Fin.ext h0
    obtain rfl : n = x2 := Fin.ext h2
    refine (lift_at _ x1 n).trans ((tile1_at m c t 0 (by decide) _ _ _ _ _ _ _ _ _ _ _ _ x1 n).trans ?_)
    exact congrArg (fun q => stAt m c t 0 q n) (Fin.ext h1.symm)
  · obtain ⟨x0, x1, x2, rfl⟩ : ∃ (x0 : Fin 1) (x1 : Fin 256) (x2 : Fin 128), x = ix3 x0 x1 x2 := ⟨x 0, x 1, x 2, (ix3_eta x).symm⟩
    obtain rfl : x0 = 0 := Subsingleton.elim _ _
    obtain rfl : i = 0 := Fin.ext h0
    obtain rfl : n = x2 := Fin.ext h2
    refine (lift_at _ x1 n).trans ((tile0_at m c t 0 (by decide) _ _ _ _ _ _ _ _ _ _ _ _ x1 n).trans ?_)
    exact congrArg (fun q => stAt m c t 0 q n) (Fin.ext h1.symm)

/-- The new states a point of this kind stores. -/
theorem outB_18_at (c : Dev nD) (t : Fin cfg0.N) (h : ¬ t.val % 2 = 0) (k v : Vec Ideal S256x1024 .bf16) (i : Fin 8) (p : Fin 512) (n : Fin 128) :
    outB_18 m c t h k v (ix3 i p n) = stAt m c t i p n := by
  unfold outB_18 pcsB
  frame_out
  canon_tiles x h
  · obtain ⟨x0, x1, x2, rfl⟩ : ∃ (x0 : Fin 1) (x1 : Fin 256) (x2 : Fin 128), x = ix3 x0 x1 x2 := ⟨x 0, x 1, x 2, (ix3_eta x).symm⟩
    obtain rfl : x0 = 0 := Subsingleton.elim _ _
    obtain rfl : i = 7 := Fin.ext h0
    obtain rfl : n = x2 := Fin.ext h2
    refine (lift_at _ x1 n).trans ((tile1_at m c t 7 (by decide) _ _ _ _ _ _ _ _ _ _ _ _ x1 n).trans ?_)
    exact congrArg (fun q => stAt m c t 7 q n) (Fin.ext h1.symm)
  · obtain ⟨x0, x1, x2, rfl⟩ : ∃ (x0 : Fin 1) (x1 : Fin 256) (x2 : Fin 128), x = ix3 x0 x1 x2 := ⟨x 0, x 1, x 2, (ix3_eta x).symm⟩
    obtain rfl : x0 = 0 := Subsingleton.elim _ _
    obtain rfl : i = 7 := Fin.ext h0
    obtain rfl : n = x2 := Fin.ext h2
    refine (lift_at _ x1 n).trans ((tile0_at m c t 7 (by decide) _ _ _ _ _ _ _ _ _ _ _ _ x1 n).trans ?_)
    exact congrArg (fun q => stAt m c t 7 q n) (Fin.ext h1.symm)
  · obtain ⟨x0, x1, x2, rfl⟩ : ∃ (x0 : Fin 1) (x1 : Fin 256) (x2 : Fin 128), x = ix3 x0 x1 x2 := ⟨x 0, x 1, x 2, (ix3_eta x).symm⟩
    obtain rfl : x0 = 0 := Subsingleton.elim _ _
    obtain rfl : i = 6 := Fin.ext h0
    obtain rfl : n = x2 := Fin.ext h2
    refine (lift_at _ x1 n).trans ((tile1_at m c t 6 (by decide) _ _ _ _ _ _ _ _ _ _ _ _ x1 n).trans ?_)
    exact congrArg (fun q => stAt m c t 6 q n) (Fin.ext h1.symm)
  · obtain ⟨x0, x1, x2, rfl⟩ : ∃ (x0 : Fin 1) (x1 : Fin 256) (x2 : Fin 128), x = ix3 x0 x1 x2 := ⟨x 0, x 1, x 2, (ix3_eta x).symm⟩
    obtain rfl : x0 = 0 := Subsingleton.elim _ _
    obtain rfl : i = 6 := Fin.ext h0
    obtain rfl : n = x2 := Fin.ext h2
    refine (lift_at _ x1 n).trans ((tile0_at m c t 6 (by decide) _ _ _ _ _ _ _ _ _ _ _ _ x1 n).trans ?_)
    exact congrArg (fun q => stAt m c t 6 q n) (Fin.ext h1.symm)
  · obtain ⟨x0, x1, x2, rfl⟩ : ∃ (x0 : Fin 1) (x1 : Fin 256) (x2 : Fin 128), x = ix3 x0 x1 x2 := ⟨x 0, x 1, x 2, (ix3_eta x).symm⟩
    obtain rfl : x0 = 0 := Subsingleton.elim _ _
    obtain rfl : i = 5 := Fin.ext h0
    obtain rfl : n = x2 := Fin.ext h2
    refine (lift_at _ x1 n).trans ((tile1_at m c t 5 (by decide) _ _ _ _ _ _ _ _ _ _ _ _ x1 n).trans ?_)
    exact congrArg (fun q => stAt m c t 5 q n) (Fin.ext h1.symm)
  · obtain ⟨x0, x1, x2, rfl⟩ : ∃ (x0 : Fin 1) (x1 : Fin 256) (x2 : Fin 128), x = ix3 x0 x1 x2 := ⟨x 0, x 1, x 2, (ix3_eta x).symm⟩
    obtain rfl : x0 = 0 := Subsingleton.elim _ _
    obtain rfl : i = 5 := Fin.ext h0
    obtain rfl : n = x2 := Fin.ext h2
    refine (lift_at _ x1 n).trans ((tile0_at m c t 5 (by decide) _ _ _ _ _ _ _ _ _ _ _ _ x1 n).trans ?_)
    exact congrArg (fun q => stAt m c t 5 q n) (Fin.ext h1.symm)
  · obtain ⟨x0, x1, x2, rfl⟩ : ∃ (x0 : Fin 1) (x1 : Fin 256) (x2 : Fin 128), x = ix3 x0 x1 x2 := ⟨x 0, x 1, x 2, (ix3_eta x).symm⟩
    obtain rfl : x0 = 0 := Subsingleton.elim _ _
    obtain rfl : i = 4 := Fin.ext h0
    obtain rfl : n = x2 := Fin.ext h2
    refine (lift_at _ x1 n).trans ((tile1_at m c t 4 (by decide) _ _ _ _ _ _ _ _ _ _ _ _ x1 n).trans ?_)
    exact congrArg (fun q => stAt m c t 4 q n) (Fin.ext h1.symm)
  · obtain ⟨x0, x1, x2, rfl⟩ : ∃ (x0 : Fin 1) (x1 : Fin 256) (x2 : Fin 128), x = ix3 x0 x1 x2 := ⟨x 0, x 1, x 2, (ix3_eta x).symm⟩
    obtain rfl : x0 = 0 := Subsingleton.elim _ _
    obtain rfl : i = 4 := Fin.ext h0
    obtain rfl : n = x2 := Fin.ext h2
    refine (lift_at _ x1 n).trans ((tile0_at m c t 4 (by decide) _ _ _ _ _ _ _ _ _ _ _ _ x1 n).trans ?_)
    exact congrArg (fun q => stAt m c t 4 q n) (Fin.ext h1.symm)
  · obtain ⟨x0, x1, x2, rfl⟩ : ∃ (x0 : Fin 1) (x1 : Fin 256) (x2 : Fin 128), x = ix3 x0 x1 x2 := ⟨x 0, x 1, x 2, (ix3_eta x).symm⟩
    obtain rfl : x0 = 0 := Subsingleton.elim _ _
    obtain rfl : i = 3 := Fin.ext h0
    obtain rfl : n = x2 := Fin.ext h2
    refine (lift_at _ x1 n).trans ((tile1_at m c t 3 (by decide) _ _ _ _ _ _ _ _ _ _ _ _ x1 n).trans ?_)
    exact congrArg (fun q => stAt m c t 3 q n) (Fin.ext h1.symm)
  · obtain ⟨x0, x1, x2, rfl⟩ : ∃ (x0 : Fin 1) (x1 : Fin 256) (x2 : Fin 128), x = ix3 x0 x1 x2 := ⟨x 0, x 1, x 2, (ix3_eta x).symm⟩
    obtain rfl : x0 = 0 := Subsingleton.elim _ _
    obtain rfl : i = 3 := Fin.ext h0
    obtain rfl : n = x2 := Fin.ext h2
    refine (lift_at _ x1 n).trans ((tile0_at m c t 3 (by decide) _ _ _ _ _ _ _ _ _ _ _ _ x1 n).trans ?_)
    exact congrArg (fun q => stAt m c t 3 q n) (Fin.ext h1.symm)
  · obtain ⟨x0, x1, x2, rfl⟩ : ∃ (x0 : Fin 1) (x1 : Fin 256) (x2 : Fin 128), x = ix3 x0 x1 x2 := ⟨x 0, x 1, x 2, (ix3_eta x).symm⟩
    obtain rfl : x0 = 0 := Subsingleton.elim _ _
    obtain rfl : i = 2 := Fin.ext h0
    obtain rfl : n = x2 := Fin.ext h2
    refine (lift_at _ x1 n).trans ((tile1_at m c t 2 (by decide) _ _ _ _ _ _ _ _ _ _ _ _ x1 n).trans ?_)
    exact congrArg (fun q => stAt m c t 2 q n) (Fin.ext h1.symm)
  · obtain ⟨x0, x1, x2, rfl⟩ : ∃ (x0 : Fin 1) (x1 : Fin 256) (x2 : Fin 128), x = ix3 x0 x1 x2 := ⟨x 0, x 1, x 2, (ix3_eta x).symm⟩
    obtain rfl : x0 = 0 := Subsingleton.elim _ _
    obtain rfl : i = 2 := Fin.ext h0
    obtain rfl : n = x2 := Fin.ext h2
    refine (lift_at _ x1 n).trans ((tile0_at m c t 2 (by decide) _ _ _ _ _ _ _ _ _ _ _ _ x1 n).trans ?_)
    exact congrArg (fun q => stAt m c t 2 q n) (Fin.ext h1.symm)
  · obtain ⟨x0, x1, x2, rfl⟩ : ∃ (x0 : Fin 1) (x1 : Fin 256) (x2 : Fin 128), x = ix3 x0 x1 x2 := ⟨x 0, x 1, x 2, (ix3_eta x).symm⟩
    obtain rfl : x0 = 0 := Subsingleton.elim _ _
    obtain rfl : i = 1 := Fin.ext h0
    obtain rfl : n = x2 := Fin.ext h2
    refine (lift_at _ x1 n).trans ((tile1_at m c t 1 (by decide) _ _ _ _ _ _ _ _ _ _ _ _ x1 n).trans ?_)
    exact congrArg (fun q => stAt m c t 1 q n) (Fin.ext h1.symm)
  · obtain ⟨x0, x1, x2, rfl⟩ : ∃ (x0 : Fin 1) (x1 : Fin 256) (x2 : Fin 128), x = ix3 x0 x1 x2 := ⟨x 0, x 1, x 2, (ix3_eta x).symm⟩
    obtain rfl : x0 = 0 := Subsingleton.elim _ _
    obtain rfl : i = 1 := Fin.ext h0
    obtain rfl : n = x2 := Fin.ext h2
    refine (lift_at _ x1 n).trans ((tile0_at m c t 1 (by decide) _ _ _ _ _ _ _ _ _ _ _ _ x1 n).trans ?_)
    exact congrArg (fun q => stAt m c t 1 q n) (Fin.ext h1.symm)
  · obtain ⟨x0, x1, x2, rfl⟩ : ∃ (x0 : Fin 1) (x1 : Fin 256) (x2 : Fin 128), x = ix3 x0 x1 x2 := ⟨x 0, x 1, x 2, (ix3_eta x).symm⟩
    obtain rfl : x0 = 0 := Subsingleton.elim _ _
    obtain rfl : i = 0 := Fin.ext h0
    obtain rfl : n = x2 := Fin.ext h2
    refine (lift_at _ x1 n).trans ((tile1_at m c t 0 (by decide) _ _ _ _ _ _ _ _ _ _ _ _ x1 n).trans ?_)
    exact congrArg (fun q => stAt m c t 0 q n) (Fin.ext h1.symm)
  · obtain ⟨x0, x1, x2, rfl⟩ : ∃ (x0 : Fin 1) (x1 : Fin 256) (x2 : Fin 128), x = ix3 x0 x1 x2 := ⟨x 0, x 1, x 2, (ix3_eta x).symm⟩
    obtain rfl : x0 = 0 := Subsingleton.elim _ _
    obtain rfl : i = 0 := Fin.ext h0
    obtain rfl : n = x2 := Fin.ext h2
    refine (lift_at _ x1 n).trans ((tile0_at m c t 0 (by decide) _ _ _ _ _ _ _ _ _ _ _ _ x1 n).trans ?_)
    exact congrArg (fun q => stAt m c t 0 q n) (Fin.ext h1.symm)

theorem emb18 (t : Fin cfg0.N) (i : Fin 8) (p : Fin 512) (n : Fin 128) :
    (win0_18.blk t).view.emb (ix3 i p n) = ix3 ⟨t.val * 8 + i.val, by have := t.isLt; have := N_eq; have := i.isLt; omega⟩ p n := by
  blk_ext [idx18 t]

/-- Output 18 is the reference's new states. -/
theorem final_18 (c : Dev nD) : (dats m 0 c).arrAt 18 (cfgs 0).N = val_main_v78 (F := Ideal) (m ((c.tc : Thread nD τ).loc main_arg8)) (m ((c.tc : Thread nD τ).loc main_arg9)) (m ((c.tc : Thread nD τ).loc main_arg10)) (m ((c.tc : Thread nD τ).loc main_arg11)) := by
  refine (dats m 0 c).arrAt_eq_of_covers 18 _ (by decide +kernel) fun t hf y => ?_
  blk_simp
  rw [after0_18]
  obtain ⟨i, p, n, rfl⟩ : ∃ (i : Fin 8) (p : Fin 512) (n : Fin 128), y = ix3 i p n := ⟨y 0, y 1, y 2, (ix3_eta y).symm⟩
  rw [emb18, ref_state]
  unfold outAt_18
  split
  · exact outA_18_at m c t _ i p n
  · exact outB_18_at m c t _ _ _ i p n

end Cert.KernelIdeal.Attn

end
-- ==== Proof.AttnStateRows.lean ====
module

public import proofs.«01_k».proof.Proof.AttnTiles

@[expose] public section

set_option maxRecDepth 16384

noncomputable section

namespace Cert.KernelIdeal.Attn

open Cert.KernelIdeal Cert.KernelIdeal.Gen
open Idealize.ShloMosaic Idealize.ShloMosaic.TcCoe Idealize.SL.Sem
open Idealize.ShloMosaic.Pipeline (Dat)
open Cert.ReferenceIdeal.Read (val_main_v78 val_main_v79)

variable (m : (ℓ : Loc nD τ sig) → Buf (Elt Ideal) ℓ)

/-- The two groups' rows side by side are the mathematics' row. -/
theorem rows_eq (c : Dev nD) (t : Fin cfg0.N) (i : Fin 8) (p : Fin 512) :
    (if h : p.val < 256 then part (iblk m c 11 t) 256 (by decide) i (stAt m c t i ⟨p.val, by omega⟩)
      else part (iblk m c 11 t) 384 (by decide) i (stAt m c t i ⟨256 + (p.val - 256), by have := p.isLt; omega⟩))
      = stOut (m ((c.tc : Thread nD τ).loc main_arg8)) (m ((c.tc : Thread nD τ).loc main_arg9)) (m ((c.tc : Thread nD τ).loc main_arg10)) (m ((c.tc : Thread nD τ).loc main_arg11)) ⟨t.val * 8 + i.val, by have := t.isLt; have := N_eq; have := i.isLt; omega⟩ p := by
  have hp := p.isLt
  unfold stOut part
  simp only [blk11]
  split
  · refine Finset.sum_congr rfl fun n _ => ?_
    refine congrArg₂ (· * ·) ?_ rfl
    congr 2
    exact Fin.ext (by simp only []; omega)
  · refine Finset.sum_congr rfl fun n _ => ?_
    refine congrArg₂ (· * ·) ?_ ?_
    · congr 2
      exact Fin.ext (by simp only []; omega)
    · exact congrArg (fun q => stAt m c t i q n) (Fin.ext (by simp only []; omega))

/-- The rows a point of this kind stores. -/
theorem outA_19_at (c : Dev nD) (t : Fin cfg0.N) (h : t.val % 2 = 0) (i : Fin 8) (p : Fin 512) :
    outA_19 m c t h (ix2 i p) = stOut (m ((c.tc : Thread nD τ).loc main_arg8)) (m ((c.tc : Thread nD τ).loc main_arg9)) (m ((c.tc : Thread nD τ).loc main_arg10)) (m ((c.tc : Thread nD τ).loc main_arg11)) ⟨t.val * 8 + i.val, by have := t.isLt; have := N_eq; have := i.isLt; omega⟩ p := by
  unfold outA_19 pcsA
  frame_out
  refine (rows_at _ _ _ _ _ _ _ _ _ _ _ _ _ _ _ _
    (fun k p => part (iblk m c 11 t) 256 (by decide) k (stAt m c t k ⟨p.val, by have := p.isLt; omega⟩))
    (fun k p => part (iblk m c 11 t) 384 (by decide) k (stAt m c t k ⟨256 + p.val, by have := p.isLt; omega⟩))
    (y0_of 0 (by decide) (iblk m c 11 t) _ _ (fun p n => tile0_at m c t 0 (by decide) _ _ _ _ _ _ _ _ _ _ _ _ p n))
    (y0_of 1 (by decide) (iblk m c 11 t) _ _ (fun p n => tile0_at m c t 1 (by decide) _ _ _ _ _ _ _ _ _ _ _ _ p n))
    (y0_of 2 (by decide) (iblk m c 11 t) _ _ (fun p n => tile0_at m c t 2 (by decide) _ _ _ _ _ _ _ _ _ _ _ _ p n))
    (y0_of 3 (by decide) (iblk m c 11 t) _ _ (fun p n => tile0_at m c t 3 (by decide) _ _ _ _ _ _ _ _ _ _ _ _ p n))
    (y0_of 4 (by decide) (iblk m c 11 t) _ _ (fun p n => tile0_at m c t 4 (by decide) _ _ _ _ _ _ _ _ _ _ _ _ p n))
    (y0_of 5 (by decide) (iblk m c 11 t) _ _ (fun p n => tile0_at m c t 5 (by decide) _ _ _ _ _ _ _ _ _ _ _ _ p n))
    (y0_of 6 (by decide) (iblk m c 11 t) _ _ (fun p n => tile0_at m c t 6 (by decide) _ _ _ _ _ _ _ _ _ _ _ _ p n))
    (y0_of 7 (by decide) (iblk m c 11 t) _ _ (fun p n => tile0_at m c t 7 (by decide) _ _ _ _ _ _ _ _ _ _ _ _ p n))
    (y1_of 0 (by decide) (iblk m c 11 t) _ _ (fun p n => tile1_at m c t 0 (by decide) _ _ _ _ _ _ _ _ _ _ _ _ p n))
    (y1_of 1 (by decide) (iblk m c 11 t) _ _ (fun p n => tile1_at m c t 1 (by decide) _ _ _ _ _ _ _ _ _ _ _ _ p n))
    (y1_of 2 (by decide) (iblk m c 11 t) _ _ (fun p n => tile1_at m c t 2 (by decide) _ _ _ _ _ _ _ _ _ _ _ _ p n))
    (y1_of 3 (by decide) (iblk m c 11 t) _ _ (fun p n => tile1_at m c t 3 (by decide) _ _ _ _ _ _ _ _ _ _ _ _ p n))
    (y1_of 4 (by decide) (iblk m c 11 t) _ _ (fun p n => tile1_at m c t 4 (by decide) _ _ _ _ _ _ _ _ _ _ _ _ p n))
    (y1_of 5 (by decide) (iblk m c 11 t) _ _ (fun p n => tile1_at m c t 5 (by decide) _ _ _ _ _ _ _ _ _ _ _ _ p n))
    (y1_of 6 (by decide) (iblk m c 11 t) _ _ (fun p n => tile1_at m c t 6 (by decide) _ _ _ _ _ _ _ _ _ _ _ _ p n))
    (y1_of 7 (by decide) (iblk m c 11 t) _ _ (fun p n => tile1_at m c t 7 (by decide) _ _ _ _ _ _ _ _ _ _ _ _ p n)) i p).trans ?_
  exact rows_eq m c t i p

/-- The rows a point of this kind stores. -/
theorem outB_19_at (c : Dev nD) (t : Fin cfg0.N) (h : ¬ t.val % 2 = 0) (k v : Vec Ideal S256x1024 .bf16) (i : Fin 8) (p : Fin 512) :
    outB_19 m c t h k v (ix2 i p) = stOut (m ((c.tc : Thread nD τ).loc main_arg8)) (m ((c.tc : Thread nD τ).loc main_arg9)) (m ((c.tc : Thread nD τ).loc main_arg10)) (m ((c.tc : Thread nD τ).loc main_arg11)) ⟨t.val * 8 + i.val, by have := t.isLt; have := N_eq; have := i.isLt; omega⟩ p := by
  unfold outB_19 pcsB
  frame_out
  refine (rows_at _ _ _ _ _ _ _ _ _ _ _ _ _ _ _ _
    (fun k p => part (iblk m c 11 t) 256 (by decide) k (stAt m c t k ⟨p.val, by have := p.isLt; omega⟩))
    (fun k p => part (iblk m c 11 t) 384 (by decide) k (stAt m c t k ⟨256 + p.val, by have := p.isLt; omega⟩))
    (y0_of 0 (by decide) (iblk m c 11 t) _ _ (fun p n => tile0_at m c t 0 (by decide) _ _ _ _ _ _ _ _ _ _ _ _ p n))
    (y0_of 1 (by decide) (iblk m c 11 t) _ _ (fun p n => tile0_at m c t 1 (by decide) _ _ _ _ _ _ _ _ _ _ _ _ p n))
    (y0_of 2 (by decide) (iblk m c 11 t) _ _ (fun p n => tile0_at m c t 2 (by decide) _ _ _ _ _ _ _ _ _ _ _ _ p n))
    (y0_of 3 (by decide) (iblk m c 11 t) _ _ (fun p n => tile0_at m c t 3 (by decide) _ _ _ _ _ _ _ _ _ _ _ _ p n))
    (y0_of 4 (by decide) (iblk m c 11 t) _ _ (fun p n => tile0_at m c t 4 (by decide) _ _ _ _ _ _ _ _ _ _ _ _ p n))
    (y0_of 5 (by decide) (iblk m c 11 t) _ _ (fun p n => tile0_at m c t 5 (by decide) _ _ _ _ _ _ _ _ _ _ _ _ p n))
    (y0_of 6 (by decide) (iblk m c 11 t) _ _ (fun p n => tile0_at m c t 6 (by decide) _ _ _ _ _ _ _ _ _ _ _ _ p n))
    (y0_of 7 (by decide) (iblk m c 11 t) _ _ (fun p n => tile0_at m c t 7 (by decide) _ _ _ _ _ _ _ _ _ _ _ _ p n))
    (y1_of 0 (by decide) (iblk m c 11 t) _ _ (fun p n => tile1_at m c t 0 (by decide) _ _ _ _ _ _ _ _ _ _ _ _ p n))
    (y1_of 1 (by decide) (iblk m c 11 t) _ _ (fun p n => tile1_at m c t 1 (by decide) _ _ _ _ _ _ _ _ _ _ _ _ p n))
    (y1_of 2 (by decide) (iblk m c 11 t) _ _ (fun p n => tile1_at m c t 2 (by decide) _ _ _ _ _ _ _ _ _ _ _ _ p n))
    (y1_of 3 (by decide) (iblk m c 11 t) _ _ (fun p n => tile1_at m c t 3 (by decide) _ _ _ _ _ _ _ _ _ _ _ _ p n))
    (y1_of 4 (by decide) (iblk m c 11 t) _ _ (fun p n => tile1_at m c t 4 (by decide) _ _ _ _ _ _ _ _ _ _ _ _ p n))
    (y1_of 5 (by decide) (iblk m c 11 t) _ _ (fun p n => tile1_at m c t 5 (by decide) _ _ _ _ _ _ _ _ _ _ _ _ p n))
    (y1_of 6 (by decide) (iblk m c 11 t) _ _ (fun p n => tile1_at m c t 6 (by decide) _ _ _ _ _ _ _ _ _ _ _ _ p n))
    (y1_of 7 (by decide) (iblk m c 11 t) _ _ (fun p n => tile1_at m c t 7 (by decide) _ _ _ _ _ _ _ _ _ _ _ _ p n)) i p).trans ?_
  exact rows_eq m c t i p

theorem emb19 (t : Fin cfg0.N) (i : Fin 8) (p : Fin 512) :
    (win0_19.blk t).view.emb (ix2 i p) = ix2 ⟨t.val * 8 + i.val, by have := t.isLt; have := N_eq; have := i.isLt; omega⟩ p := by
  blk_ext [idx19 t]

/-- Output 19 is the reference's rows. -/
theorem final_19 (c : Dev nD) : (dats m 0 c).arrAt 19 (cfgs 0).N = val_main_v79 (F := Ideal) (m ((c.tc : Thread nD τ).loc main_arg8)) (m ((c.tc : Thread nD τ).loc main_arg9)) (m ((c.tc : Thread nD τ).loc main_arg10)) (m ((c.tc : Thread nD τ).loc main_arg11)) := by
  refine (dats m 0 c).arrAt_eq_of_covers 19 _ (by decide +kernel) fun t hf y => ?_
  blk_simp
  rw [after0_19]
  obtain ⟨i, p, rfl⟩ : ∃ (i : Fin 8) (p : Fin 512), y = ix2 i p := ⟨y 0, y 1, (ix2_eta y).symm⟩
  rw [emb19, ref_row]
  unfold outAt_19
  split
  · exact outA_19_at m c t _ i p
  · exact outB_19_at m c t _ _ _ i p

end Cert.KernelIdeal.Attn

end
-- ==== Proof.AttnClaims.lean ====
/- What the run of each program leaves: the kernel's eight results at the reference's stages of the kernel's own
   arguments, the reference's eight results at the same stages of its arguments, and the reference's frame. -/
module

public import proofs.«01_k».proof.Defs
public import proofs.«01_k».proof.Proof.AttnFinal
public import proofs.«01_k».proof.Proof.AttnRows
public import proofs.«01_k».proof.Proof.AttnStates
public import proofs.«01_k».proof.Proof.AttnStateRows
public import proofs.«01_k».proof.Proof.Gen.ReferenceIdeal.Run
public import proofs.«01_k».proof.Proof.Gen.ReferenceIdeal.Read
public import Idealize.ShloMosaic.Adequacy
public import Idealize.ShloMosaic.Init

@[expose] public section

set_option maxRecDepth 16384

noncomputable section

namespace Cert.AttnClaims

open Idealize.ShloMosaic Idealize.SL.Sem

/-- Equal arguments give equal values of the stage. -/
theorem at77 {x0 y0 : (⟨Cert.ReferenceIdeal.S16384x1024, .f32⟩ : BufTy).Contents (Elt Ideal)} {x1 y1 : (⟨Cert.ReferenceIdeal.S8x256x1024, .f32⟩ : BufTy).Contents (Elt Ideal)} {x2 y2 : (⟨Cert.ReferenceIdeal.S1x1024, .f32⟩ : BufTy).Contents (Elt Ideal)} {x3 y3 : (⟨Cert.ReferenceIdeal.S1x1024x1024, .f32⟩ : BufTy).Contents (Elt Ideal)} {x4 y4 : (⟨Cert.ReferenceIdeal.S1x1024x1024, .f32⟩ : BufTy).Contents (Elt Ideal)} {x5 y5 : (⟨Cert.ReferenceIdeal.S1x1024, .f32⟩ : BufTy).Contents (Elt Ideal)} {x6 y6 : (⟨Cert.ReferenceIdeal.S1x1024x1024, .f32⟩ : BufTy).Contents (Elt Ideal)} {x7 y7 : (⟨Cert.ReferenceIdeal.S1x1024x1024, .f32⟩ : BufTy).Contents (Elt Ideal)} (e0 : x0 = y0) (e1 : x1 = y1) (e2 : x2 = y2) (e3 : x3 = y3) (e4 : x4 = y4) (e5 : x5 = y5) (e6 : x6 = y6) (e7 : x7 = y7) :
    Cert.ReferenceIdeal.Read.val_main_v77 (F := Ideal) x0 x1 x2 x3 x4 x5 x6 x7 = Cert.ReferenceIdeal.Read.val_main_v77 (F := Ideal) y0 y1 y2 y3 y4 y5 y6 y7 := by
  subst e0 e1 e2 e3 e4 e5 e6 e7; rfl

/-- Equal arguments give equal values of the stage. -/
theorem at16 {x1 y1 : (⟨Cert.ReferenceIdeal.S8x256x1024, .f32⟩ : BufTy).Contents (Elt Ideal)} {x2 y2 : (⟨Cert.ReferenceIdeal.S1x1024, .f32⟩ : BufTy).Contents (Elt Ideal)} {x3 y3 : (⟨Cert.ReferenceIdeal.S1x1024x1024, .f32⟩ : BufTy).Contents (Elt Ideal)} (e1 : x1 = y1) (e2 : x2 = y2) (e3 : x3 = y3) :
    Cert.ReferenceIdeal.Read.val_main_v16 (F := Ideal) x1 x2 x3 = Cert.ReferenceIdeal.Read.val_main_v16 (F := Ideal) y1 y2 y3 := by
  subst e1 e2 e3; rfl

/-- Equal arguments give equal values of the stage. -/
theorem at19 {x1 y1 : (⟨Cert.ReferenceIdeal.S8x256x1024, .f32⟩ : BufTy).Contents (Elt Ideal)} {x2 y2 : (⟨Cert.ReferenceIdeal.S1x1024, .f32⟩ : BufTy).Contents (Elt Ideal)} {x4 y4 : (⟨Cert.ReferenceIdeal.S1x1024x1024, .f32⟩ : BufTy).Contents (Elt Ideal)} (e1 : x1 = y1) (e2 : x2 = y2) (e4 : x4 = y4) :
    Cert.ReferenceIdeal.Read.val_main_v19 (F := Ideal) x1 x2 x4 = Cert.ReferenceIdeal.Read.val_main_v19 (F := Ideal) y1 y2 y4 := by
  subst e1 e2 e4; rfl

/-- Equal arguments give equal values of the stage. -/
theorem at78 {x8 y8 : (⟨Cert.ReferenceIdeal.S128x128, .f32⟩ : BufTy).Contents (Elt Ideal)} {x9 y9 : (⟨Cert.ReferenceIdeal.S1x128x8x64x128, .f32⟩ : BufTy).Contents (Elt Ideal)} {x10 y10 : (⟨Cert.ReferenceIdeal.S128x512, .f32⟩ : BufTy).Contents (Elt Ideal)} {x11 y11 : (⟨Cert.ReferenceIdeal.S128x512, .f32⟩ : BufTy).Contents (Elt Ideal)} (e8 : x8 = y8) (e9 : x9 = y9) (e10 : x10 = y10) (e11 : x11 = y11) :
    Cert.ReferenceIdeal.Read.val_main_v78 (F := Ideal) x8 x9 x10 x11 = Cert.ReferenceIdeal.Read.val_main_v78 (F := Ideal) y8 y9 y10 y11 := by
  subst e8 e9 e10 e11; rfl

/-- Equal arguments give equal values of the stage. -/
theorem at79 {x8 y8 : (⟨Cert.ReferenceIdeal.S128x128, .f32⟩ : BufTy).Contents (Elt Ideal)} {x9 y9 : (⟨Cert.ReferenceIdeal.S1x128x8x64x128, .f32⟩ : BufTy).Contents (Elt Ideal)} {x10 y10 : (⟨Cert.ReferenceIdeal.S128x512, .f32⟩ : BufTy).Contents (Elt Ideal)} {x11 y11 : (⟨Cert.ReferenceIdeal.S128x512, .f32⟩ : BufTy).Contents (Elt Ideal)} (e8 : x8 = y8) (e9 : x9 = y9) (e10 : x10 = y10) (e11 : x11 = y11) :
    Cert.ReferenceIdeal.Read.val_main_v79 (F := Ideal) x8 x9 x10 x11 = Cert.ReferenceIdeal.Read.val_main_v79 (F := Ideal) y8 y9 y10 y11 := by
  subst e8 e9 e10 e11; rfl

/-- Equal arguments give equal values of the stage. -/
theorem at81 {x12 y12 : (⟨Cert.ReferenceIdeal.S1x1024x2816, .f32⟩ : BufTy).Contents (Elt Ideal)} (e12 : x12 = y12) :
    Cert.ReferenceIdeal.Read.val_main_v81 (F := Ideal) x12 = Cert.ReferenceIdeal.Read.val_main_v81 (F := Ideal) y12 := by
  subst e12; rfl

/-- Equal arguments give equal values of the stage. -/
theorem at83 {x13 y13 : (⟨Cert.ReferenceIdeal.S1x1024x2816, .f32⟩ : BufTy).Contents (Elt Ideal)} (e13 : x13 = y13) :
    Cert.ReferenceIdeal.Read.val_main_v83 (F := Ideal) x13 = Cert.ReferenceIdeal.Read.val_main_v83 (F := Ideal) y13 := by
  subst e13; rfl

/-- Equal arguments give equal values of the stage. -/
theorem at85 {x14 y14 : (⟨Cert.ReferenceIdeal.S1x2816x1024, .f32⟩ : BufTy).Contents (Elt Ideal)} (e14 : x14 = y14) :
    Cert.ReferenceIdeal.Read.val_main_v85 (F := Ideal) x14 = Cert.ReferenceIdeal.Read.val_main_v85 (F := Ideal) y14 := by
  subst e14; rfl

/-- The reference leaves its arguments unchanged and every counter at zero. -/
theorem reference_quiet : Cert.quiescent_ReferenceIdeal (hReferenceIdeal := Cert.ReferenceIdeal.Gen.facts) := fun m g _ =>
  (θ_run _ _ _).mono (fun r h => ⟨fun c => (h c).2.2.2.2.2.2.2.2, Idealize.ShloMosaic.sem_eq_zero_of_no_sems (by decide) r.2⟩)
    (Cert.ReferenceIdeal.Value.run (F := Ideal) m g)

set_option maxHeartbeats 4000000 in
/-- Every execution of the kernel over the extended reals and every execution of the reference, started on equal
    arguments, end with the eight results equal and the arguments unchanged. -/
theorem results_equal : Cert.algebraic_KernelIdeal_ReferenceIdeal (hKernelIdeal := Cert.KernelIdeal.Gen.facts) (hReferenceIdeal := Cert.ReferenceIdeal.Gen.facts) := by
  intro m g m' g' _ hargs
  refine ⟨fun c => Cert.ReferenceIdeal.Read.val_main_v77 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.ReferenceIdeal.Read.val_main_v16 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.ReferenceIdeal.Read.val_main_v19 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)),
    fun c => Cert.ReferenceIdeal.Read.val_main_v78 (F := Ideal) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.ReferenceIdeal.Read.val_main_v79 (F := Ideal) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.ReferenceIdeal.Read.val_main_v81 (F := Ideal) (m ((c.tc : Thread Cert.KernelIdeal.nD Cert.KernelIdeal.τ).loc Cert.KernelIdeal.main_arg12)),
    fun c => Cert.ReferenceIdeal.Read.val_main_v83 (F := Ideal) (m ((c.tc : Thread Cert.KernelIdeal.nD Cert.KernelIdeal.τ).loc Cert.KernelIdeal.main_arg13)),
    fun c => Cert.ReferenceIdeal.Read.val_main_v85 (F := Ideal) (m ((c.tc : Thread Cert.KernelIdeal.nD Cert.KernelIdeal.τ).loc Cert.KernelIdeal.main_arg14)), ?_, ?_⟩
  · refine (θ_run _ _ _).mono (fun r h c => ?_) (θ_run_and (Cert.KernelIdeal.Attn.run_main m g) (Cert.KernelIdeal.Attn.frame m g))
    exact ⟨((h.1 c).1 15).trans (Cert.KernelIdeal.Attn.final_15 m c), ((h.1 c).1 16).trans (Cert.KernelIdeal.Attn.final_16 m c), ((h.1 c).1 17).trans (Cert.KernelIdeal.Attn.final_17 m c), ((h.1 c).1 18).trans (Cert.KernelIdeal.Attn.final_18 m c), ((h.1 c).1 19).trans (Cert.KernelIdeal.Attn.final_19 m c), ((h.1 c).1 20).trans (Cert.KernelIdeal.Attn.final_20 m c), ((h.1 c).1 21).trans (Cert.KernelIdeal.Attn.final_21 m c), ((h.1 c).1 22).trans (Cert.KernelIdeal.Attn.final_22 m c), h.2.1 c⟩
  · refine (θ_run _ _ _).mono (fun r h c => ?_) (Cert.ReferenceIdeal.Value.run (F := Ideal) m' g')
    have hk := hargs c
    have hc := h c
    exact ⟨(hc.1.trans (Cert.ReferenceIdeal.Read.val_main_v77_eq m' c)).trans (at77 hk.1 hk.2.1 hk.2.2.1 hk.2.2.2.1 hk.2.2.2.2.1 hk.2.2.2.2.2.1 hk.2.2.2.2.2.2.1 hk.2.2.2.2.2.2.2.1),
      (hc.2.1.trans (Cert.ReferenceIdeal.Read.val_main_v16_eq (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)))).trans (at16 hk.2.1 hk.2.2.1 hk.2.2.2.1),
      (hc.2.2.1.trans (Cert.ReferenceIdeal.Read.val_main_v19_eq (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg4)))).trans (at19 hk.2.1 hk.2.2.1 hk.2.2.2.2.1),
      (hc.2.2.2.1.trans (Cert.ReferenceIdeal.Read.val_main_v78_eq (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)))).trans (at78 hk.2.2.2.2.2.2.2.2.1 hk.2.2.2.2.2.2.2.2.2.1 hk.2.2.2.2.2.2.2.2.2.2.1 hk.2.2.2.2.2.2.2.2.2.2.2.1),
      (hc.2.2.2.2.1.trans (Cert.ReferenceIdeal.Read.val_main_v79_eq (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)))).trans (at79 hk.2.2.2.2.2.2.2.2.1 hk.2.2.2.2.2.2.2.2.2.1 hk.2.2.2.2.2.2.2.2.2.2.1 hk.2.2.2.2.2.2.2.2.2.2.2.1),
      (hc.2.2.2.2.2.1.trans (Cert.ReferenceIdeal.Read.val_main_v81_eq (m' ((c.tc : Thread Cert.ReferenceIdeal.nD Cert.ReferenceIdeal.τ).loc Cert.ReferenceIdeal.main_arg12)))).trans (at81 hk.2.2.2.2.2.2.2.2.2.2.2.2.1),
      (hc.2.2.2.2.2.2.1.trans (Cert.ReferenceIdeal.Read.val_main_v83_eq (m' ((c.tc : Thread Cert.ReferenceIdeal.nD Cert.ReferenceIdeal.τ).loc Cert.ReferenceIdeal.main_arg13)))).trans (at83 hk.2.2.2.2.2.2.2.2.2.2.2.2.2.1),
      (hc.2.2.2.2.2.2.2.1.trans (Cert.ReferenceIdeal.Read.val_main_v85_eq (m' ((c.tc : Thread Cert.ReferenceIdeal.nD Cert.ReferenceIdeal.τ).loc Cert.ReferenceIdeal.main_arg14)))).trans (at85 hk.2.2.2.2.2.2.2.2.2.2.2.2.2.2), hc.2.2.2.2.2.2.2.2⟩

end Cert.AttnClaims

end
-- ==== Proof.FfnSetup.lean ====
module

public import proofs.«01_k».proof.Proof.Gen.Kernel2Ideal.Frame
public import proofs.«01_k».proof.Proof.Gen.Kernel2Ideal.Skeleton
public import Idealize.ShloMosaic.Lib.Pipeline.TableIdle
public import Idealize.ShloMosaic.Lib.Claim

@[expose] public section

set_option maxRecDepth 16384

noncomputable section

namespace Cert.Kernel2Ideal.Ffn

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## Which conditionals a point takes -/

/-- The first point starts block 0; -/
abbrev cond1 (i : grid0.Coords) : Prop := (Scalar.cmpi .ne (Scalar.extui (Scalar.cmpi .eq (BitVec.ofNat 32 (i 0).val) 0#32)) 0#32) = 1#1
/-- a point with a block after its own starts that one; -/
abbrev cond2 (i : grid0.Coords) : Prop := k0_cond2 i = 1#1
/-- a point with a block of its own computes it; -/
abbrev cond3 (i : grid0.Coords) : Prop := k0_cond3 i = 1#1
/-- the last point computes the samples' part. -/
abbrev cond4 (i : grid0.Coords) : Prop := k0_cond4 i = 1#1

theorem cond1_iff : ∀ t : Fin grid0.N, cond1 (grid0.coords t) ↔ t.val = 0 := by decide +kernel
theorem cond2_iff : ∀ t : Fin grid0.N, cond2 (grid0.coords t) ↔ t.val < 31 := by decide +kernel
theorem cond3_iff : ∀ t : Fin grid0.N, cond3 (grid0.coords t) ↔ t.val < 32 := by decide +kernel
theorem cond4_iff : ∀ t : Fin grid0.N, cond4 (grid0.coords t) ↔ t.val = 32 := by decide +kernel

/-! ## The buffers -/

abbrev VO0_9 : View sig .tc .vmem S512x1024 .f32 := (Memref.whole cc0_stg9_0 : Memref sig .tc .vmem S512x1024 .f32).view

abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)

abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)

abbrev ms0_2 (t : Fin cfg0.N) : Memref sig .tc .vmem S1024x2816 .bf16 := win0_2.stage (cfg0.slots t 2)
abbrev hs0_2 (t : Fin cfg0.N) : (ms0_2 t).IsWhole := hstage0_2 ((cfg0.slots t 2).cast nbuf0_2)

abbrev ms0_3 (t : Fin cfg0.N) : Memref sig .tc .vmem S1024x2816 .bf16 := win0_3.stage (cfg0.slots t 3)
abbrev hs0_3 (t : Fin cfg0.N) : (ms0_3 t).IsWhole := hstage0_3 ((cfg0.slots t 3).cast nbuf0_3)

abbrev ms0_4 (t : Fin cfg0.N) : Memref sig .tc .vmem S2816x1024 .bf16 := win0_4.stage (cfg0.slots t 4)
abbrev hs0_4 (t : Fin cfg0.N) : (ms0_4 t).IsWhole := hstage0_4 ((cfg0.slots t 4).cast nbuf0_4)

abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)

abbrev ms0_6 (t : Fin cfg0.N) : Memref sig .tc .vmem S128x1024 .f32 := win0_6.stage (cfg0.slots t 6)
abbrev hs0_6 (t : Fin cfg0.N) : (ms0_6 t).IsWhole := hstage0_6 ((cfg0.slots t 6).cast nbuf0_6)

abbrev ms0_7 (t : Fin cfg0.N) : Memref sig .tc .vmem S128x1024 .f32 := win0_7.stage (cfg0.slots t 7)
abbrev hs0_7 (t : Fin cfg0.N) : (ms0_7 t).IsWhole := hstage0_7 ((cfg0.slots t 7).cast nbuf0_7)

abbrev ms0_8 (t : Fin cfg0.N) : Memref sig .tc .vmem S1024x1024 .bf16 := win0_8.stage (cfg0.slots t 8)
abbrev hs0_8 (t : Fin cfg0.N) : (ms0_8 t).IsWhole := hstage0_8 ((cfg0.slots t 8).cast nbuf0_8)

abbrev ms0_9 (t : Fin cfg0.N) : Memref sig .tc .vmem S512x1024 .f32 := win0_9.stage (cfg0.slots t 9)
abbrev hs0_9 (t : Fin cfg0.N) : (ms0_9 t).IsWhole := hstage0_9 ((cfg0.slots t 9).cast nbuf0_9)

abbrev ms0_10 (t : Fin cfg0.N) : Memref sig .tc .vmem S128x1x1024 .f32 := win0_10.stage (cfg0.slots t 10)
abbrev hs0_10 (t : Fin cfg0.N) : (ms0_10 t).IsWhole := hstage0_10 ((cfg0.slots t 10).cast nbuf0_10)

/-- The scratch: the samples' rows, the two slots of keys, the two of values; and the two arrays the body copies from. -/
abbrev scM0_0 : Memref sig .tc .vmem S128x1024 .f32 := Memref.whole cc0_scratch0
abbrev scM0_1 : Memref sig .tc .vmem S2x4x4x256x256 .f32 := Memref.whole cc0_scratch1
abbrev scM0_2 : Memref sig .tc .vmem S2x4x4x256x256 .f32 := Memref.whole cc0_scratch2
abbrev hbM0_0 : Memref sig .tc .hbm S128x256x4x256 .f32 := Memref.whole main_v11
abbrev hbM0_1 : Memref sig .tc .hbm S128x256x4x256 .f32 := Memref.whole main_v12
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-! ## The pieces of the rings: head `h` of slot `s`, of block `b`, and its counter -/

theorem d0 : 0 < 2 := by decide
theorem d1 : 1 < 2 := by decide
theorem q0 : 0 < 4 := by decide
theorem q1 : 1 < 4 := by decide
theorem q2 : 2 < 4 := by decide
theorem q3 : 3 < 4 := by decide

theorem inb_slot (s : Fin 2) (h : ℕ) (hh : h < 4) :
    ∀ a, (![s.val, h, 0, 0, 0] : Fin 5 → Nat) a + S1x1x4x256x256.size a ≤ S2x4x4x256x256.size a := by
  have := s.isLt; intro a; fin_cases a <;> simp <;> omega
theorem inb_src (b : Fin 32) (h : ℕ) (hh : h < 4) :
    ∀ a, (![4 * b.val, 0, h, 0] : Fin 4 → Nat) a + S4x256x1x256.size a ≤ S128x256x4x256.size a := by
  have := b.isLt; intro a; fin_cases a <;> simp <;> omega
theorem inb_cell (s : Fin 2) (kv h : ℕ) (hk : kv < 2) (hh : h < 4) :
    ∀ a, (![s.val, kv, h] : Fin 3 → Nat) a + S1x1x1.size a ≤ S2x2x4.size a := by
  have := s.isLt; intro a; fin_cases a <;> simp <;> omega

/-- Head `h` of slot `s` of a scratch buffer; -/
def slot (M : Memref sig .tc .vmem S2x4x4x256x256 .f32) (s : Fin 2) (h : ℕ) (hh : h < 4) : Memref sig .tc .vmem S4x256x256 .f32 :=
  (M.slice (Rect.unit (s := S2x4x4x256x256) ![s.val, h, 0, 0, 0] S1x1x4x256x256.size (inb_slot s h hh)) (fun _ => rfl)).squeeze S4x256x256 squeezes_S1x1x4x256x256_S4x256x256
/-- head `h` of the four rows of block `b` of an array; -/
def src (X : Memref sig .tc .hbm S128x256x4x256 .f32) (b : Fin 32) (h : ℕ) (hh : h < 4) : Memref sig .tc .hbm S4x256x256 .f32 :=
  (X.slice (Rect.unit (s := S128x256x4x256) ![4 * b.val, 0, h, 0] S4x256x1x256.size (inb_src b h hh)) (fun _ => rfl)).squeeze S4x256x256 squeezes_S4x256x1x256_S4x256x256
/-- the counter of the keys' (`kv = 0`) or the values' (`kv = 1`) head `h` of slot `s`. -/
def cell (s : Fin 2) (kv h : ℕ) (hk : kv < 2) (hh : h < 4) : DmaSems sig S_ :=
  (cc0_scratch3.slice (Rect.unit (s := S2x2x4) ![s.val, kv, h] S1x1x1.size (inb_cell s kv h hk hh))).squeeze S_ squeezes_S1x1x1_S_
abbrev cellR (s : Fin 2) (kv h : ℕ) (hk : kv < 2) (hh : h < 4) : SemLoc sig := SemLoc.dma (cell s kv h hk hh).sem

/-- The share of an array head `h` of slot `s` reads it with: an eighth. -/
def qhalf (s : Fin 2) : PosShare TreeShare := if s.val = 0 then fullShare.left else fullShare.right
def qs (s : Fin 2) (h : ℕ) : PosShare TreeShare :=
  if h = 0 then (qhalf s).left.left else if h = 1 then (qhalf s).left.right else if h = 2 then (qhalf s).right.left else (qhalf s).right.right

section Pieces
variable (c : Dev nD) (M : Memref sig .tc .vmem S2x4x4x256x256 .f32) (X : Memref sig .tc .hbm S128x256x4x256 .f32)
  (W : HbBuf0 (F := F) c X)

abbrev slotP (s : Fin 2) (h : ℕ) (hh : h < 4) (f : HbBuf0 (F := F) c (slot M s h hh)) : sProp 𝕄 :=
  (slot M s h hh).view.loc (c : Thread nD τ) ↦[(slot M s h hh).view.set]{fullShare} f
abbrev srcP (s : Fin 2) (b : Fin 32) (h : ℕ) (hh : h < 4) : sProp 𝕄 :=
  (src X b h hh).view.loc (c : Thread nD τ) ↦[(src X b h hh).view.set]{qs s h} W
/-- What is left of the share a copy of block `b` borrows from, and the share whole. -/
def restP (s : Fin 2) (b : Fin 32) (h : ℕ) (hh : h < 4) : sProp 𝕄 :=
  X.view.loc (c : Thread nD τ) ↦[Finset.univ \ (src X b h hh).view.set]{qs s h} W
def wholeP (s : Fin 2) (h : ℕ) : sProp 𝕄 := X.view.loc (c : Thread nD τ) ↦[Finset.univ]{qs s h} W
/-- The slot's contents once block `b` is copied into it. -/
abbrev landed (s : Fin 2) (b : Fin 32) (h : ℕ) (hh : h < 4) (f : HbBuf0 (F := F) c (slot M s h hh)) : HbBuf0 (F := F) c (slot M s h hh) :=
  (slot M s h hh).view.writes (Elt F) f [⟨Rect.whole S4x256x256, ReadAs.same.apply ((src X b h hh).view.read (Elt F) W)⟩]
/-- The copy of block `b` into slot `s` under way. -/
abbrev flightP (kv : ℕ) (hk : kv < 2) (s : Fin 2) (b : Fin 32) (h : ℕ) (hh : h < 4) (f : HbBuf0 (F := F) c (slot M s h hh)) : sProp 𝕄 :=
  Transfers.Flight countersEmb (c : Thread nD τ) (cellR s kv h hk hh) default ((slot M s h hh).view.amount (cellR s kv h hk hh))
    iprop(slotP c M s h hh (landed c M X W s b h hh f) ∗ srcP c X W s b h hh)

/-- A head of a slot at rest: its counter at zero, its contents anything, its share of the array whole; -/
def freeP (kv : ℕ) (hk : kv < 2) (s : Fin 2) (h : ℕ) (hh : h < 4) : sProp 𝕄 :=
  iprop(semVal ((c : Thread nD τ), cellR s kv h hk hh) 0 ∗ ∃ f, slotP c M s h hh f ∗ wholeP c X W s h)
/-- and with block `b` on its way into it. -/
def flyP (kv : ℕ) (hk : kv < 2) (s : Fin 2) (b : Fin 32) (h : ℕ) (hh : h < 4) : sProp 𝕄 :=
  iprop(∃ f, flightP c M X W kv hk s b h hh f ∗ restP c X W s b h hh)

theorem src_split (s : Fin 2) (b : Fin 32) (h : ℕ) (hh : h < 4) :
    wholeP (F := F) c X W s h ⊣⊢ iprop(srcP c X W s b h hh ∗ restP c X W s b h hh) := by
  unfold wholeP restP; exact pointsTo_split_subset (Finset.subset_univ _)

theorem free_of (kv : ℕ) (hk : kv < 2) (s : Fin 2) (b : Fin 32) (h : ℕ) (hh : h < 4) (f : HbBuf0 (F := F) c (slot M s h hh)) :
    iprop(semVal ((c : Thread nD τ), cellR s kv h hk hh) 0 ∗ slotP c M s h hh f ∗ srcP c X W s b h hh ∗ restP c X W s b h hh)
      ⊢ freeP c M X W kv hk s h hh := by
  unfold freeP
  iintro ⟨Hc, Hs, Hb, Hr⟩
  isplitl [Hc]; · iexact Hc
  iexists f; isplitl [Hs]; · iexact Hs
  iapply (src_split c X W s b h hh).2; isplitl [Hb]; · iexact Hb
  iexact Hr
theorem fly_of (kv : ℕ) (hk : kv < 2) (s : Fin 2) (b : Fin 32) (h : ℕ) (hh : h < 4) (f : HbBuf0 (F := F) c (slot M s h hh)) :
    iprop(flightP c M X W kv hk s b h hh f ∗ restP c X W s b h hh) ⊢ flyP c M X W kv hk s b h hh := by
  unfold flyP
  iintro ⟨Hf, Hr⟩
  iexists f; isplitl [Hf]; · iexact Hf
  iexact Hr
/-- A head at rest, opened for the copy of block `b`. -/
theorem free_open (kv : ℕ) (hk : kv < 2) (s : Fin 2) (b : Fin 32) (h : ℕ) (hh : h < 4) :
    freeP (F := F) c M X W kv hk s h hh
      ⊢ iprop(semVal ((c : Thread nD τ), cellR s kv h hk hh) 0 ∗ ∃ f, slotP c M s h hh f ∗ srcP c X W s b h hh ∗ restP c X W s b h hh) := by
  unfold freeP
  iintro ⟨Hc, ⟨%f, Hs, Hw⟩⟩
  ihave Hb := (src_split c X W s b h hh).1 $$ Hw
  icases Hb with ⟨Hb, Hr⟩
  isplitl [Hc]; · iexact Hc
  iexists f; isplitl [Hs]; · iexact Hs
  isplitl [Hb]; · iexact Hb
  iexact Hr
end Pieces

section Rings
variable (c : Dev nD) (W0 : HbBuf0 (F := F) c hbM0_0) (W1 : HbBuf0 (F := F) c hbM0_1)
/-- A slot of keys and of values at rest, and with block `b` on its way into it. -/
def free8 (s : Fin 2) : sProp 𝕄 :=
  iprop(freeP c scM0_1 hbM0_0 W0 0 d0 s 0 q0 ∗ freeP c scM0_1 hbM0_0 W0 0 d0 s 1 q1 ∗ freeP c scM0_1 hbM0_0 W0 0 d0 s 2 q2 ∗ freeP c scM0_1 hbM0_0 W0 0 d0 s 3 q3
    ∗ freeP c scM0_2 hbM0_1 W1 1 d1 s 0 q0 ∗ freeP c scM0_2 hbM0_1 W1 1 d1 s 1 q1 ∗ freeP c scM0_2 hbM0_1 W1 1 d1 s 2 q2 ∗ freeP c scM0_2 hbM0_1 W1 1 d1 s 3 q3)
def fly8 (s : Fin 2) (b : Fin 32) : sProp 𝕄 :=
  iprop(flyP c scM0_1 hbM0_0 W0 0 d0 s b 0 q0 ∗ flyP c scM0_1 hbM0_0 W0 0 d0 s b 1 q1 ∗ flyP c scM0_1 hbM0_0 W0 0 d0 s b 2 q2 ∗ flyP c scM0_1 hbM0_0 W0 0 d0 s b 3 q3
    ∗ flyP c scM0_2 hbM0_1 W1 1 d1 s b 0 q0 ∗ flyP c scM0_2 hbM0_1 W1 1 d1 s b 1 q1 ∗ flyP c scM0_2 hbM0_1 W1 1 d1 s b 2 q2 ∗ flyP c scM0_2 hbM0_1 W1 1 d1 s b 3 q3)
/-- The two rings before point `k`: at rest before the first and after the last block's, between them block `k` on its way. -/
def ringAt (k : ℕ) : sProp 𝕄 :=
  if 1 ≤ k ∧ k < 32 then iprop(fly8 c W0 W1 (Ring.sl 2 k) (Ring.bk 32 k) ∗ free8 c W0 W1 (Ring.sl 2 (k + 1)))
  else iprop(free8 c W0 W1 0 ∗ free8 c W0 W1 1)
end Rings

/-! ## The names of the slots, blocks and counters in the body, at a point -/

section Canon
set_option synthInstance.maxSize 4096
omit [FloatOps F] [Named F]
theorem slot_eq (M : Memref sig .tc .vmem S2x4x4x256x256 .f32) {off : Fin 5 → Nat} (s : Fin 2) (h : ℕ) (hh : h < 4)
    (e : off = ![s.val, h, 0, 0, 0]) (inb : ∀ a, off a + S1x1x4x256x256.size a ≤ S2x4x4x256x256.size a) :
    (M.slice (Rect.unit (s := S2x4x4x256x256) off S1x1x4x256x256.size inb) (fun _ => rfl)).squeeze S4x256x256 squeezes_S1x1x4x256x256_S4x256x256 = slot M s h hh :=
  congrArg (fun N : Memref sig .tc .vmem S1x1x4x256x256 .f32 => N.squeeze S4x256x256 squeezes_S1x1x4x256x256_S4x256x256)
    (Memref.slice_unit_congr _ e _ _ (fun _ => rfl) (fun _ => rfl))
theorem src_eq (X : Memref sig .tc .hbm S128x256x4x256 .f32) {off : Fin 4 → Nat} (b : Fin 32) (h : ℕ) (hh : h < 4)
    (e : off = ![4 * b.val, 0, h, 0]) (inb : ∀ a, off a + S4x256x1x256.size a ≤ S128x256x4x256.size a) :
    (X.slice (Rect.unit (s := S128x256x4x256) off S4x256x1x256.size inb) (fun _ => rfl)).squeeze S4x256x256 squeezes_S4x256x1x256_S4x256x256 = src X b h hh :=
  congrArg (fun N : Memref sig .tc .hbm S4x256x1x256 .f32 => N.squeeze S4x256x256 squeezes_S4x256x1x256_S4x256x256)
    (Memref.slice_unit_congr _ e _ _ (fun _ => rfl) (fun _ => rfl))
theorem cell_eq {off : Fin 3 → Nat} (s : Fin 2) (kv h : ℕ) (hk : kv < 2) (hh : h < 4)
    (e : off = ![s.val, kv, h]) (inb : ∀ a, off a + S1x1x1.size a ≤ S2x2x4.size a) :
    (cc0_scratch3.slice (Rect.unit (s := S2x2x4) off S1x1x1.size inb)).squeeze S_ squeezes_S1x1x1_S_ = cell s kv h hk hh :=
  congrArg (fun N : DmaSems sig S1x1x1 => N.squeeze S_ squeezes_S1x1x1_S_) (SemArray.slice_unit_congr _ e _ _)

/-! At the first point the slot and the block are the first ones. -/

theorem sl_first : ∀ t : Fin grid0.N, cond1 (grid0.coords t) → (Ring.sl 2 t.val).val = 0 := by decide +kernel
theorem bk_first : ∀ t : Fin grid0.N, cond1 (grid0.coords t) → 4 * (Ring.bk 32 t.val).val = 0 := by decide +kernel
theorem first3 (t : Fin grid0.N) (h1 : cond1 (grid0.coords t)) (kv h : ℕ) : ![0, kv, h] = ![(Ring.sl 2 t.val).val, kv, h] := by
  rw [sl_first t h1]
theorem first4 (t : Fin grid0.N) (h1 : cond1 (grid0.coords t)) (h : ℕ) : ![0, 0, h, 0] = ![4 * (Ring.bk 32 t.val).val, 0, h, 0] := by
  rw [bk_first t h1]
theorem first5 (t : Fin grid0.N) (h1 : cond1 (grid0.coords t)) (h : ℕ) : ![0, h, 0, 0, 0] = ![(Ring.sl 2 t.val).val, h, 0, 0, 0] := by
  rw [sl_first t h1]

/-! Head 0: the first block, the next block, the point's own block. -/

@[sl_canon] theorem name_1 (t : Fin grid0.N) (h1 : cond1 (grid0.coords t)) :
    (cc0_scratch3.slice (Rect.unit (s := S2x2x4) ![0, 0, 0] S1x1x1.size inb_S2x2x4_S1x1x1_0_0_0)).squeeze S_ squeezes_S1x1x1_S_ = cell (Ring.sl 2 t.val) 0 0 d0 q0 :=
  cell_eq _ _ _ _ _ (first3 t h1 0 0) _

@[sl_canon] theorem name_2 (t : Fin grid0.N) (h1 : cond1 (grid0.coords t)) :
    (cc0_scratch3.slice (Rect.unit (s := S2x2x4) ![0, 1, 0] S1x1x1.size inb_S2x2x4_S1x1x1_0_1_0)).squeeze S_ squeezes_S1x1x1_S_ = cell (Ring.sl 2 t.val) 1 0 d1 q0 :=
  cell_eq _ _ _ _ _ (first3 t h1 1 0) _

@[sl_canon] theorem name_3 (t : Fin grid0.N) (h1 : cond1 (grid0.coords t)) (M : Memref sig .tc .vmem S2x4x4x256x256 .f32) :
    (M.slice (Rect.unit (s := S2x4x4x256x256) ![0, 0, 0, 0, 0] S1x1x4x256x256.size inb_S2x4x4x256x256_S1x1x4x256x256_0_0_0_0_0) (fun _ => rfl)).squeeze S4x256x256 squeezes_S1x1x4x256x256_S4x256x256 = slot M (Ring.sl 2 t.val) 0 q0 :=
  slot_eq M _ _ _ (first5 t h1 0) _

@[sl_canon] theorem name_4 (t : Fin grid0.N) (h1 : cond1 (grid0.coords t)) (X : Memref sig .tc .hbm S128x256x4x256 .f32) :
    (X.slice (Rect.unit (s := S128x256x4x256) ![0, 0, 0, 0] S4x256x1x256.size inb_S128x256x4x256_S4x256x1x256_0_0_0_0) (fun _ => rfl)).squeeze S4x256x256 squeezes_S4x256x1x256_S4x256x256 = src X (Ring.bk 32 t.val) 0 q0 :=
  src_eq X _ _ _ (first4 t h1 0) _

theorem off_5 : ∀ t : Fin grid0.N, k0_off1 (grid0.coords t) = ![(Ring.sl 2 (t.val + 1)).val, 0, 0] := by decide +kernel
@[sl_canon] theorem name_5 (t : Fin grid0.N) (h2 : cond2 (grid0.coords t)) :
    (cc0_scratch3.slice (Rect.unit (s := S2x2x4) (k0_off1 (grid0.coords t)) S1x1x1.size (k0_off1_inb (grid0.coords t) h2))).squeeze S_ squeezes_S1x1x1_S_ = cell (Ring.sl 2 (t.val + 1)) 0 0 d0 q0 :=
  cell_eq _ _ _ _ _ (off_5 t) _

theorem off_6 : ∀ t : Fin grid0.N, k0_off4 (grid0.coords t) = ![(Ring.sl 2 (t.val + 1)).val, 1, 0] := by decide +kernel
@[sl_canon] theorem name_6 (t : Fin grid0.N) (h2 : cond2 (grid0.coords t)) :
    (cc0_scratch3.slice (Rect.unit (s := S2x2x4) (k0_off4 (grid0.coords t)) S1x1x1.size (k0_off4_inb (grid0.coords t) h2))).squeeze S_ squeezes_S1x1x1_S_ = cell (Ring.sl 2 (t.val + 1)) 1 0 d1 q0 :=
  cell_eq _ _ _ _ _ (off_6 t) _

theorem off_7 : ∀ t : Fin grid0.N, k0_off2 (grid0.coords t) = ![(Ring.sl 2 (t.val + 1)).val, 0, 0, 0, 0] := by decide +kernel
@[sl_canon] theorem name_7 (t : Fin grid0.N) (h2 : cond2 (grid0.coords t)) (M : Memref sig .tc .vmem S2x4x4x256x256 .f32) :
    (M.slice (Rect.unit (s := S2x4x4x256x256) (k0_off2 (grid0.coords t)) S1x1x4x256x256.size (k0_off2_inb (grid0.coords t) h2)) (fun _ => rfl)).squeeze S4x256x256 squeezes_S1x1x4x256x256_S4x256x256 = slot M (Ring.sl 2 (t.val + 1)) 0 q0 :=
  slot_eq M _ _ _ (off_7 t) _

theorem off_8 : ∀ t : Fin grid0.N, cond2 (grid0.coords t) → k0_off3 (grid0.coords t) = ![4 * (Ring.bk 32 (t.val + 1)).val, 0, 0, 0] := by decide +kernel
@[sl_canon] theorem name_8 (t : Fin grid0.N) (h2 : cond2 (grid0.coords t)) (X : Memref sig .tc .hbm S128x256x4x256 .f32) :
    (X.slice (Rect.unit (s := S128x256x4x256) (k0_off3 (grid0.coords t)) S4x256x1x256.size (k0_off3_inb (grid0.coords t) h2)) (fun _ => rfl)).squeeze S4x256x256 squeezes_S4x256x1x256_S4x256x256 = src X (Ring.bk 32 (t.val + 1)) 0 q0 :=
  src_eq X _ _ _ (off_8 t h2) _

theorem off_9 : ∀ t : Fin grid0.N, k0_off17 (grid0.coords t) = ![(Ring.sl 2 t.val).val, 0, 0] := by decide +kernel
@[sl_canon] theorem name_9 (t : Fin grid0.N) (h3 : cond3 (grid0.coords t)) :
    (cc0_scratch3.slice (Rect.unit (s := S2x2x4) (k0_off17 (grid0.coords t)) S1x1x1.size (k0_off17_inb (grid0.coords t) h3))).squeeze S_ squeezes_S1x1x1_S_ = cell (Ring.sl 2 t.val) 0 0 d0 q0 :=
  cell_eq _ _ _ _ _ (off_9 t) _

theorem off_10 : ∀ t : Fin grid0.N, k0_off20 (grid0.coords t) = ![(Ring.sl 2 t.val).val, 1, 0] := by decide +kernel
@[sl_canon] theorem name_10 (t : Fin grid0.N) (h3 : cond3 (grid0.coords t)) :
    (cc0_scratch3.slice (Rect.unit (s := S2x2x4) (k0_off20 (grid0.coords t)) S1x1x1.size (k0_off20_inb (grid0.coords t) h3))).squeeze S_ squeezes_S1x1x1_S_ = cell (Ring.sl 2 t.val) 1 0 d1 q0 :=
  cell_eq _ _ _ _ _ (off_10 t) _

theorem off_11 : ∀ t : Fin grid0.N, k0_off18 (grid0.coords t) = ![(Ring.sl 2 t.val).val, 0, 0, 0, 0] := by decide +kernel
@[sl_canon] theorem name_11 (t : Fin grid0.N) (h3 : cond3 (grid0.coords t)) (M : Memref sig .tc .vmem S2x4x4x256x256 .f32) :
    (M.slice (Rect.unit (s := S2x4x4x256x256) (k0_off18 (grid0.coords t)) S1x1x4x256x256.size (k0_off18_inb (grid0.coords t) h3)) (fun _ => rfl)).squeeze S4x256x256 squeezes_S1x1x4x256x256_S4x256x256 = slot M (Ring.sl 2 t.val) 0 q0 :=
  slot_eq M _ _ _ (off_11 t) _

theorem off_12 : ∀ t : Fin grid0.N, cond3 (grid0.coords t) → k0_off19 (grid0.coords t) = ![4 * (Ring.bk 32 t.val).val, 0, 0, 0] := by decide +kernel
@[sl_canon] theorem name_12 (t : Fin grid0.N) (h3 : cond3 (grid0.coords t)) (X : Memref sig .tc .hbm S128x256x4x256 .f32) :
    (X.slice (Rect.unit (s := S128x256x4x256) (k0_off19 (grid0.coords t)) S4x256x1x256.size (k0_off19_inb (grid0.coords t) h3)) (fun _ => rfl)).squeeze S4x256x256 squeezes_S4x256x1x256_S4x256x256 = src X (Ring.bk 32 t.val) 0 q0 :=
  src_eq X _ _ _ (off_12 t h3) _

/-! Head 1: the first block, the next block, the point's own block. -/

@[sl_canon] theorem name_13 (t : Fin grid0.N) (h1 : cond1 (grid0.coords t)) :
    (cc0_scratch3.slice (Rect.unit (s := S2x2x4) ![0, 0, 1] S1x1x1.size inb_S2x2x4_S1x1x1_0_0_1)).squeeze S_ squeezes_S1x1x1_S_ = cell (Ring.sl 2 t.val) 0 1 d0 q1 :=
  cell_eq _ _ _ _ _ (first3 t h1 0 1) _

@[sl_canon] theorem name_14 (t : Fin grid0.N) (h1 : cond1 (grid0.coords t)) :
    (cc0_scratch3.slice (Rect.unit (s := S2x2x4) ![0, 1, 1] S1x1x1.size inb_S2x2x4_S1x1x1_0_1_1)).squeeze S_ squeezes_S1x1x1_S_ = cell (Ring.sl 2 t.val) 1 1 d1 q1 :=
  cell_eq _ _ _ _ _ (first3 t h1 1 1) _

@[sl_canon] theorem name_15 (t : Fin grid0.N) (h1 : cond1 (grid0.coords t)) (M : Memref sig .tc .vmem S2x4x4x256x256 .f32) :
    (M.slice (Rect.unit (s := S2x4x4x256x256) ![0, 1, 0, 0, 0] S1x1x4x256x256.size inb_S2x4x4x256x256_S1x1x4x256x256_0_1_0_0_0) (fun _ => rfl)).squeeze S4x256x256 squeezes_S1x1x4x256x256_S4x256x256 = slot M (Ring.sl 2 t.val) 1 q1 :=
  slot_eq M _ _ _ (first5 t h1 1) _

@[sl_canon] theorem name_16 (t : Fin grid0.N) (h1 : cond1 (grid0.coords t)) (X : Memref sig .tc .hbm S128x256x4x256 .f32) :
    (X.slice (Rect.unit (s := S128x256x4x256) ![0, 0, 1, 0] S4x256x1x256.size inb_S128x256x4x256_S4x256x1x256_0_0_1_0) (fun _ => rfl)).squeeze S4x256x256 squeezes_S4x256x1x256_S4x256x256 = src X (Ring.bk 32 t.val) 1 q1 :=
  src_eq X _ _ _ (first4 t h1 1) _

theorem off_17 : ∀ t : Fin grid0.N, k0_off5 (grid0.coords t) = ![(Ring.sl 2 (t.val + 1)).val, 0, 1] := by decide +kernel
@[sl_canon] theorem name_17 (t : Fin grid0.N) (h2 : cond2 (grid0.coords t)) :
    (cc0_scratch3.slice (Rect.unit (s := S2x2x4) (k0_off5 (grid0.coords t)) S1x1x1.size (k0_off5_inb (grid0.coords t) h2))).squeeze S_ squeezes_S1x1x1_S_ = cell (Ring.sl 2 (t.val + 1)) 0 1 d0 q1 :=
  cell_eq _ _ _ _ _ (off_17 t) _

theorem off_18 : ∀ t : Fin grid0.N, k0_off8 (grid0.coords t) = ![(Ring.sl 2 (t.val + 1)).val, 1, 1] := by decide +kernel
@[sl_canon] theorem name_18 (t : Fin grid0.N) (h2 : cond2 (grid0.coords t)) :
    (cc0_scratch3.slice (Rect.unit (s := S2x2x4) (k0_off8 (grid0.coords t)) S1x1x1.size (k0_off8_inb (grid0.coords t) h2))).squeeze S_ squeezes_S1x1x1_S_ = cell (Ring.sl 2 (t.val + 1)) 1 1 d1 q1 :=
  cell_eq _ _ _ _ _ (off_18 t) _

theorem off_19 : ∀ t : Fin grid0.N, k0_off6 (grid0.coords t) = ![(Ring.sl 2 (t.val + 1)).val, 1, 0, 0, 0] := by decide +kernel
@[sl_canon] theorem name_19 (t : Fin grid0.N) (h2 : cond2 (grid0.coords t)) (M : Memref sig .tc .vmem S2x4x4x256x256 .f32) :
    (M.slice (Rect.unit (s := S2x4x4x256x256) (k0_off6 (grid0.coords t)) S1x1x4x256x256.size (k0_off6_inb (grid0.coords t) h2)) (fun _ => rfl)).squeeze S4x256x256 squeezes_S1x1x4x256x256_S4x256x256 = slot M (Ring.sl 2 (t.val + 1)) 1 q1 :=
  slot_eq M _ _ _ (off_19 t) _

theorem off_20 : ∀ t : Fin grid0.N, cond2 (grid0.coords t) → k0_off7 (grid0.coords t) = ![4 * (Ring.bk 32 (t.val + 1)).val, 0, 1, 0] := by decide +kernel
@[sl_canon] theorem name_20 (t : Fin grid0.N) (h2 : cond2 (grid0.coords t)) (X : Memref sig .tc .hbm S128x256x4x256 .f32) :
    (X.slice (Rect.unit (s := S128x256x4x256) (k0_off7 (grid0.coords t)) S4x256x1x256.size (k0_off7_inb (grid0.coords t) h2)) (fun _ => rfl)).squeeze S4x256x256 squeezes_S4x256x1x256_S4x256x256 = src X (Ring.bk 32 (t.val + 1)) 1 q1 :=
  src_eq X _ _ _ (off_20 t h2) _

theorem off_21 : ∀ t : Fin grid0.N, k0_off21 (grid0.coords t) = ![(Ring.sl 2 t.val).val, 0, 1] := by decide +kernel
@[sl_canon] theorem name_21 (t : Fin grid0.N) (h3 : cond3 (grid0.coords t)) :
    (cc0_scratch3.slice (Rect.unit (s := S2x2x4) (k0_off21 (grid0.coords t)) S1x1x1.size (k0_off21_inb (grid0.coords t) h3))).squeeze S_ squeezes_S1x1x1_S_ = cell (Ring.sl 2 t.val) 0 1 d0 q1 :=
  cell_eq _ _ _ _ _ (off_21 t) _

theorem off_22 : ∀ t : Fin grid0.N, k0_off24 (grid0.coords t) = ![(Ring.sl 2 t.val).val, 1, 1] := by decide +kernel
@[sl_canon] theorem name_22 (t : Fin grid0.N) (h3 : cond3 (grid0.coords t)) :
    (cc0_scratch3.slice (Rect.unit (s := S2x2x4) (k0_off24 (grid0.coords t)) S1x1x1.size (k0_off24_inb (grid0.coords t) h3))).squeeze S_ squeezes_S1x1x1_S_ = cell (Ring.sl 2 t.val) 1 1 d1 q1 :=
  cell_eq _ _ _ _ _ (off_22 t) _

theorem off_23 : ∀ t : Fin grid0.N, k0_off22 (grid0.coords t) = ![(Ring.sl 2 t.val).val, 1, 0, 0, 0] := by decide +kernel
@[sl_canon] theorem name_23 (t : Fin grid0.N) (h3 : cond3 (grid0.coords t)) (M : Memref sig .tc .vmem S2x4x4x256x256 .f32) :
    (M.slice (Rect.unit (s := S2x4x4x256x256) (k0_off22 (grid0.coords t)) S1x1x4x256x256.size (k0_off22_inb (grid0.coords t) h3)) (fun _ => rfl)).squeeze S4x256x256 squeezes_S1x1x4x256x256_S4x256x256 = slot M (Ring.sl 2 t.val) 1 q1 :=
  slot_eq M _ _ _ (off_23 t) _

theorem off_24 : ∀ t : Fin grid0.N, cond3 (grid0.coords t) → k0_off23 (grid0.coords t) = ![4 * (Ring.bk 32 t.val).val, 0, 1, 0] := by decide +kernel
@[sl_canon] theorem name_24 (t : Fin grid0.N) (h3 : cond3 (grid0.coords t)) (X : Memref sig .tc .hbm S128x256x4x256 .f32) :
    (X.slice (Rect.unit (s := S128x256x4x256) (k0_off23 (grid0.coords t)) S4x256x1x256.size (k0_off23_inb (grid0.coords t) h3)) (fun _ => rfl)).squeeze S4x256x256 squeezes_S4x256x1x256_S4x256x256 = src X (Ring.bk 32 t.val) 1 q1 :=
  src_eq X _ _ _ (off_24 t h3) _

/-! Head 2: the first block, the next block, the point's own block. -/

@[sl_canon] theorem name_25 (t : Fin grid0.N) (h1 : cond1 (grid0.coords t)) :
    (cc0_scratch3.slice (Rect.unit (s := S2x2x4) ![0, 0, 2] S1x1x1.size inb_S2x2x4_S1x1x1_0_0_2)).squeeze S_ squeezes_S1x1x1_S_ = cell (Ring.sl 2 t.val) 0 2 d0 q2 :=
  cell_eq _ _ _ _ _ (first3 t h1 0 2) _

@[sl_canon] theorem name_26 (t : Fin grid0.N) (h1 : cond1 (grid0.coords t)) :
    (cc0_scratch3.slice (Rect.unit (s := S2x2x4) ![0, 1, 2] S1x1x1.size inb_S2x2x4_S1x1x1_0_1_2)).squeeze S_ squeezes_S1x1x1_S_ = cell (Ring.sl 2 t.val) 1 2 d1 q2 :=
  cell_eq _ _ _ _ _ (first3 t h1 1 2) _

@[sl_canon] theorem name_27 (t : Fin grid0.N) (h1 : cond1 (grid0.coords t)) (M : Memref sig .tc .vmem S2x4x4x256x256 .f32) :
    (M.slice (Rect.unit (s := S2x4x4x256x256) ![0, 2, 0, 0, 0] S1x1x4x256x256.size inb_S2x4x4x256x256_S1x1x4x256x256_0_2_0_0_0) (fun _ => rfl)).squeeze S4x256x256 squeezes_S1x1x4x256x256_S4x256x256 = slot M (Ring.sl 2 t.val) 2 q2 :=
  slot_eq M _ _ _ (first5 t h1 2) _

@[sl_canon] theorem name_28 (t : Fin grid0.N) (h1 : cond1 (grid0.coords t)) (X : Memref sig .tc .hbm S128x256x4x256 .f32) :
    (X.slice (Rect.unit (s := S128x256x4x256) ![0, 0, 2, 0] S4x256x1x256.size inb_S128x256x4x256_S4x256x1x256_0_0_2_0) (fun _ => rfl)).squeeze S4x256x256 squeezes_S4x256x1x256_S4x256x256 = src X (Ring.bk 32 t.val) 2 q2 :=
  src_eq X _ _ _ (first4 t h1 2) _

theorem off_29 : ∀ t : Fin grid0.N, k0_off9 (grid0.coords t) = ![(Ring.sl 2 (t.val + 1)).val, 0, 2] := by decide +kernel
@[sl_canon] theorem name_29 (t : Fin grid0.N) (h2 : cond2 (grid0.coords t)) :
    (cc0_scratch3.slice (Rect.unit (s := S2x2x4) (k0_off9 (grid0.coords t)) S1x1x1.size (k0_off9_inb (grid0.coords t) h2))).squeeze S_ squeezes_S1x1x1_S_ = cell (Ring.sl 2 (t.val + 1)) 0 2 d0 q2 :=
  cell_eq _ _ _ _ _ (off_29 t) _

theorem off_30 : ∀ t : Fin grid0.N, k0_off12 (grid0.coords t) = ![(Ring.sl 2 (t.val + 1)).val, 1, 2] := by decide +kernel
@[sl_canon] theorem name_30 (t : Fin grid0.N) (h2 : cond2 (grid0.coords t)) :
    (cc0_scratch3.slice (Rect.unit (s := S2x2x4) (k0_off12 (grid0.coords t)) S1x1x1.size (k0_off12_inb (grid0.coords t) h2))).squeeze S_ squeezes_S1x1x1_S_ = cell (Ring.sl 2 (t.val + 1)) 1 2 d1 q2 :=
  cell_eq _ _ _ _ _ (off_30 t) _

theorem off_31 : ∀ t : Fin grid0.N, k0_off10 (grid0.coords t) = ![(Ring.sl 2 (t.val + 1)).val, 2, 0, 0, 0] := by decide +kernel
@[sl_canon] theorem name_31 (t : Fin grid0.N) (h2 : cond2 (grid0.coords t)) (M : Memref sig .tc .vmem S2x4x4x256x256 .f32) :
    (M.slice (Rect.unit (s := S2x4x4x256x256) (k0_off10 (grid0.coords t)) S1x1x4x256x256.size (k0_off10_inb (grid0.coords t) h2)) (fun _ => rfl)).squeeze S4x256x256 squeezes_S1x1x4x256x256_S4x256x256 = slot M (Ring.sl 2 (t.val + 1)) 2 q2 :=
  slot_eq M _ _ _ (off_31 t) _

theorem off_32 : ∀ t : Fin grid0.N, cond2 (grid0.coords t) → k0_off11 (grid0.coords t) = ![4 * (Ring.bk 32 (t.val + 1)).val, 0, 2, 0] := by decide +kernel
@[sl_canon] theorem name_32 (t : Fin grid0.N) (h2 : cond2 (grid0.coords t)) (X : Memref sig .tc .hbm S128x256x4x256 .f32) :
    (X.slice (Rect.unit (s := S128x256x4x256) (k0_off11 (grid0.coords t)) S4x256x1x256.size (k0_off11_inb (grid0.coords t) h2)) (fun _ => rfl)).squeeze S4x256x256 squeezes_S4x256x1x256_S4x256x256 = src X (Ring.bk 32 (t.val + 1)) 2 q2 :=
  src_eq X _ _ _ (off_32 t h2) _

theorem off_33 : ∀ t : Fin grid0.N, k0_off25 (grid0.coords t) = ![(Ring.sl 2 t.val).val, 0, 2] := by decide +kernel
@[sl_canon] theorem name_33 (t : Fin grid0.N) (h3 : cond3 (grid0.coords t)) :
    (cc0_scratch3.slice (Rect.unit (s := S2x2x4) (k0_off25 (grid0.coords t)) S1x1x1.size (k0_off25_inb (grid0.coords t) h3))).squeeze S_ squeezes_S1x1x1_S_ = cell (Ring.sl 2 t.val) 0 2 d0 q2 :=
  cell_eq _ _ _ _ _ (off_33 t) _

theorem off_34 : ∀ t : Fin grid0.N, k0_off28 (grid0.coords t) = ![(Ring.sl 2 t.val).val, 1, 2] := by decide +kernel
@[sl_canon] theorem name_34 (t : Fin grid0.N) (h3 : cond3 (grid0.coords t)) :
    (cc0_scratch3.slice (Rect.unit (s := S2x2x4) (k0_off28 (grid0.coords t)) S1x1x1.size (k0_off28_inb (grid0.coords t) h3))).squeeze S_ squeezes_S1x1x1_S_ = cell (Ring.sl 2 t.val) 1 2 d1 q2 :=
  cell_eq _ _ _ _ _ (off_34 t) _

theorem off_35 : ∀ t : Fin grid0.N, k0_off26 (grid0.coords t) = ![(Ring.sl 2 t.val).val, 2, 0, 0, 0] := by decide +kernel
@[sl_canon] theorem name_35 (t : Fin grid0.N) (h3 : cond3 (grid0.coords t)) (M : Memref sig .tc .vmem S2x4x4x256x256 .f32) :
    (M.slice (Rect.unit (s := S2x4x4x256x256) (k0_off26 (grid0.coords t)) S1x1x4x256x256.size (k0_off26_inb (grid0.coords t) h3)) (fun _ => rfl)).squeeze S4x256x256 squeezes_S1x1x4x256x256_S4x256x256 = slot M (Ring.sl 2 t.val) 2 q2 :=
  slot_eq M _ _ _ (off_35 t) _

theorem off_36 : ∀ t : Fin grid0.N, cond3 (grid0.coords t) → k0_off27 (grid0.coords t) = ![4 * (Ring.bk 32 t.val).val, 0, 2, 0] := by decide +kernel
@[sl_canon] theorem name_36 (t : Fin grid0.N) (h3 : cond3 (grid0.coords t)) (X : Memref sig .tc .hbm S128x256x4x256 .f32) :
    (X.slice (Rect.unit (s := S128x256x4x256) (k0_off27 (grid0.coords t)) S4x256x1x256.size (k0_off27_inb (grid0.coords t) h3)) (fun _ => rfl)).squeeze S4x256x256 squeezes_S4x256x1x256_S4x256x256 = src X (Ring.bk 32 t.val) 2 q2 :=
  src_eq X _ _ _ (off_36 t h3) _

/-! Head 3: the first block, the next block, the point's own block. -/

@[sl_canon] theorem name_37 (t : Fin grid0.N) (h1 : cond1 (grid0.coords t)) :
    (cc0_scratch3.slice (Rect.unit (s := S2x2x4) ![0, 0, 3] S1x1x1.size inb_S2x2x4_S1x1x1_0_0_3)).squeeze S_ squeezes_S1x1x1_S_ = cell (Ring.sl 2 t.val) 0 3 d0 q3 :=
  cell_eq _ _ _ _ _ (first3 t h1 0 3) _

@[sl_canon] theorem name_38 (t : Fin grid0.N) (h1 : cond1 (grid0.coords t)) :
    (cc0_scratch3.slice (Rect.unit (s := S2x2x4) ![0, 1, 3] S1x1x1.size inb_S2x2x4_S1x1x1_0_1_3)).squeeze S_ squeezes_S1x1x1_S_ = cell (Ring.sl 2 t.val) 1 3 d1 q3 :=
  cell_eq _ _ _ _ _ (first3 t h1 1 3) _

@[sl_canon] theorem name_39 (t : Fin grid0.N) (h1 : cond1 (grid0.coords t)) (M : Memref sig .tc .vmem S2x4x4x256x256 .f32) :
    (M.slice (Rect.unit (s := S2x4x4x256x256) ![0, 3, 0, 0, 0] S1x1x4x256x256.size inb_S2x4x4x256x256_S1x1x4x256x256_0_3_0_0_0) (fun _ => rfl)).squeeze S4x256x256 squeezes_S1x1x4x256x256_S4x256x256 = slot M (Ring.sl 2 t.val) 3 q3 :=
  slot_eq M _ _ _ (first5 t h1 3) _

@[sl_canon] theorem name_40 (t : Fin grid0.N) (h1 : cond1 (grid0.coords t)) (X : Memref sig .tc .hbm S128x256x4x256 .f32) :
    (X.slice (Rect.unit (s := S128x256x4x256) ![0, 0, 3, 0] S4x256x1x256.size inb_S128x256x4x256_S4x256x1x256_0_0_3_0) (fun _ => rfl)).squeeze S4x256x256 squeezes_S4x256x1x256_S4x256x256 = src X (Ring.bk 32 t.val) 3 q3 :=
  src_eq X _ _ _ (first4 t h1 3) _

theorem off_41 : ∀ t : Fin grid0.N, k0_off13 (grid0.coords t) = ![(Ring.sl 2 (t.val + 1)).val, 0, 3] := by decide +kernel
@[sl_canon] theorem name_41 (t : Fin grid0.N) (h2 : cond2 (grid0.coords t)) :
    (cc0_scratch3.slice (Rect.unit (s := S2x2x4) (k0_off13 (grid0.coords t)) S1x1x1.size (k0_off13_inb (grid0.coords t) h2))).squeeze S_ squeezes_S1x1x1_S_ = cell (Ring.sl 2 (t.val + 1)) 0 3 d0 q3 :=
  cell_eq _ _ _ _ _ (off_41 t) _

theorem off_42 : ∀ t : Fin grid0.N, k0_off16 (grid0.coords t) = ![(Ring.sl 2 (t.val + 1)).val, 1, 3] := by decide +kernel
@[sl_canon] theorem name_42 (t : Fin grid0.N) (h2 : cond2 (grid0.coords t)) :
    (cc0_scratch3.slice (Rect.unit (s := S2x2x4) (k0_off16 (grid0.coords t)) S1x1x1.size (k0_off16_inb (grid0.coords t) h2))).squeeze S_ squeezes_S1x1x1_S_ = cell (Ring.sl 2 (t.val + 1)) 1 3 d1 q3 :=
  cell_eq _ _ _ _ _ (off_42 t) _

theorem off_43 : ∀ t : Fin grid0.N, k0_off14 (grid0.coords t) = ![(Ring.sl 2 (t.val + 1)).val, 3, 0, 0, 0] := by decide +kernel
@[sl_canon] theorem name_43 (t : Fin grid0.N) (h2 : cond2 (grid0.coords t)) (M : Memref sig .tc .vmem S2x4x4x256x256 .f32) :
    (M.slice (Rect.unit (s := S2x4x4x256x256) (k0_off14 (grid0.coords t)) S1x1x4x256x256.size (k0_off14_inb (grid0.coords t) h2)) (fun _ => rfl)).squeeze S4x256x256 squeezes_S1x1x4x256x256_S4x256x256 = slot M (Ring.sl 2 (t.val + 1)) 3 q3 :=
  slot_eq M _ _ _ (off_43 t) _

theorem off_44 : ∀ t : Fin grid0.N, cond2 (grid0.coords t) → k0_off15 (grid0.coords t) = ![4 * (Ring.bk 32 (t.val + 1)).val, 0, 3, 0] := by decide +kernel
@[sl_canon] theorem name_44 (t : Fin grid0.N) (h2 : cond2 (grid0.coords t)) (X : Memref sig .tc .hbm S128x256x4x256 .f32) :
    (X.slice (Rect.unit (s := S128x256x4x256) (k0_off15 (grid0.coords t)) S4x256x1x256.size (k0_off15_inb (grid0.coords t) h2)) (fun _ => rfl)).squeeze S4x256x256 squeezes_S4x256x1x256_S4x256x256 = src X (Ring.bk 32 (t.val + 1)) 3 q3 :=
  src_eq X _ _ _ (off_44 t h2) _

theorem off_45 : ∀ t : Fin grid0.N, k0_off29 (grid0.coords t) = ![(Ring.sl 2 t.val).val, 0, 3] := by decide +kernel
@[sl_canon] theorem name_45 (t : Fin grid0.N) (h3 : cond3 (grid0.coords t)) :
    (cc0_scratch3.slice (Rect.unit (s := S2x2x4) (k0_off29 (grid0.coords t)) S1x1x1.size (k0_off29_inb (grid0.coords t) h3))).squeeze S_ squeezes_S1x1x1_S_ = cell (Ring.sl 2 t.val) 0 3 d0 q3 :=
  cell_eq _ _ _ _ _ (off_45 t) _

theorem off_46 : ∀ t : Fin grid0.N, k0_off32 (grid0.coords t) = ![(Ring.sl 2 t.val).val, 1, 3] := by decide +kernel
@[sl_canon] theorem name_46 (t : Fin grid0.N) (h3 : cond3 (grid0.coords t)) :
    (cc0_scratch3.slice (Rect.unit (s := S2x2x4) (k0_off32 (grid0.coords t)) S1x1x1.size (k0_off32_inb (grid0.coords t) h3))).squeeze S_ squeezes_S1x1x1_S_ = cell (Ring.sl 2 t.val) 1 3 d1 q3 :=
  cell_eq _ _ _ _ _ (off_46 t) _

theorem off_47 : ∀ t : Fin grid0.N, k0_off30 (grid0.coords t) = ![(Ring.sl 2 t.val).val, 3, 0, 0, 0] := by decide +kernel
@[sl_canon] theorem name_47 (t : Fin grid0.N) (h3 : cond3 (grid0.coords t)) (M : Memref sig .tc .vmem S2x4x4x256x256 .f32) :
    (M.slice (Rect.unit (s := S2x4x4x256x256) (k0_off30 (grid0.coords t)) S1x1x4x256x256.size (k0_off30_inb (grid0.coords t) h3)) (fun _ => rfl)).squeeze S4x256x256 squeezes_S1x1x4x256x256_S4x256x256 = slot M (Ring.sl 2 t.val) 3 q3 :=
  slot_eq M _ _ _ (off_47 t) _

theorem off_48 : ∀ t : Fin grid0.N, cond3 (grid0.coords t) → k0_off31 (grid0.coords t) = ![4 * (Ring.bk 32 t.val).val, 0, 3, 0] := by decide +kernel
@[sl_canon] theorem name_48 (t : Fin grid0.N) (h3 : cond3 (grid0.coords t)) (X : Memref sig .tc .hbm S128x256x4x256 .f32) :
    (X.slice (Rect.unit (s := S128x256x4x256) (k0_off31 (grid0.coords t)) S4x256x1x256.size (k0_off31_inb (grid0.coords t) h3)) (fun _ => rfl)).squeeze S4x256x256 squeezes_S4x256x1x256_S4x256x256 = src X (Ring.bk 32 t.val) 3 q3 :=
  src_eq X _ _ _ (off_48 t h3) _

/-! The rows the body reads of a slot: row `i` of head `h`. -/

theorem row_34 : ∀ t : Fin grid0.N, k0_off34 (grid0.coords t) = ![(Ring.sl 2 t.val).val, 0, 0, 0, 0] := by decide +kernel
instance (priority := high) closed_34 (t : Fin grid0.N) : ClosedOff (k0_off34 (grid0.coords t)) := ⟨_, row_34 t⟩

theorem row_36 : ∀ t : Fin grid0.N, k0_off36 (grid0.coords t) = ![(Ring.sl 2 t.val).val, 1, 0, 0, 0] := by decide +kernel
instance (priority := high) closed_36 (t : Fin grid0.N) : ClosedOff (k0_off36 (grid0.coords t)) := ⟨_, row_36 t⟩

theorem row_38 : ∀ t : Fin grid0.N, k0_off38 (grid0.coords t) = ![(Ring.sl 2 t.val).val, 2, 0, 0, 0] := by decide +kernel
instance (priority := high) closed_38 (t : Fin grid0.N) : ClosedOff (k0_off38 (grid0.coords t)) := ⟨_, row_38 t⟩

theorem row_40 : ∀ t : Fin grid0.N, k0_off40 (grid0.coords t) = ![(Ring.sl 2 t.val).val, 3, 0, 0, 0] := by decide +kernel
instance (priority := high) closed_40 (t : Fin grid0.N) : ClosedOff (k0_off40 (grid0.coords t)) := ⟨_, row_40 t⟩

theorem row_41 : ∀ t : Fin grid0.N, k0_off41 (grid0.coords t) = ![(Ring.sl 2 t.val).val, 0, 1, 0, 0] := by decide +kernel
instance (priority := high) closed_41 (t : Fin grid0.N) : ClosedOff (k0_off41 (grid0.coords t)) := ⟨_, row_41 t⟩

theorem row_42 : ∀ t : Fin grid0.N, k0_off42 (grid0.coords t) = ![(Ring.sl 2 t.val).val, 1, 1, 0, 0] := by decide +kernel
instance (priority := high) closed_42 (t : Fin grid0.N) : ClosedOff (k0_off42 (grid0.coords t)) := ⟨_, row_42 t⟩

theorem row_43 : ∀ t : Fin grid0.N, k0_off43 (grid0.coords t) = ![(Ring.sl 2 t.val).val, 2, 1, 0, 0] := by decide +kernel
instance (priority := high) closed_43 (t : Fin grid0.N) : ClosedOff (k0_off43 (grid0.coords t)) := ⟨_, row_43 t⟩

theorem row_44 : ∀ t : Fin grid0.N, k0_off44 (grid0.coords t) = ![(Ring.sl 2 t.val).val, 3, 1, 0, 0] := by decide +kernel
instance (priority := high) closed_44 (t : Fin grid0.N) : ClosedOff (k0_off44 (grid0.coords t)) := ⟨_, row_44 t⟩

theorem row_45 : ∀ t : Fin grid0.N, k0_off45 (grid0.coords t) = ![(Ring.sl 2 t.val).val, 0, 2, 0, 0] := by decide +kernel
instance (priority := high) closed_45 (t : Fin grid0.N) : ClosedOff (k0_off45 (grid0.coords t)) := ⟨_, row_45 t⟩

theorem row_46 : ∀ t : Fin grid0.N, k0_off46 (grid0.coords t) = ![(Ring.sl 2 t.val).val, 1, 2, 0, 0] := by decide +kernel
instance (priority := high) closed_46 (t : Fin grid0.N) : ClosedOff (k0_off46 (grid0.coords t)) := ⟨_, row_46 t⟩

theorem row_47 : ∀ t : Fin grid0.N, k0_off47 (grid0.coords t) = ![(Ring.sl 2 t.val).val, 2, 2, 0, 0] := by decide +kernel
instance (priority := high) closed_47 (t : Fin grid0.N) : ClosedOff (k0_off47 (grid0.coords t)) := ⟨_, row_47 t⟩

theorem row_48 : ∀ t : Fin grid0.N, k0_off48 (grid0.coords t) = ![(Ring.sl 2 t.val).val, 3, 2, 0, 0] := by decide +kernel
instance (priority := high) closed_48 (t : Fin grid0.N) : ClosedOff (k0_off48 (grid0.coords t)) := ⟨_, row_48 t⟩

theorem row_49 : ∀ t : Fin grid0.N, k0_off49 (grid0.coords t) = ![(Ring.sl 2 t.val).val, 0, 3, 0, 0] := by decide +kernel
instance (priority := high) closed_49 (t : Fin grid0.N) : ClosedOff (k0_off49 (grid0.coords t)) := ⟨_, row_49 t⟩

theorem row_50 : ∀ t : Fin grid0.N, k0_off50 (grid0.coords t) = ![(Ring.sl 2 t.val).val, 1, 3, 0, 0] := by decide +kernel
instance (priority := high) closed_50 (t : Fin grid0.N) : ClosedOff (k0_off50 (grid0.coords t)) := ⟨_, row_50 t⟩

theorem row_51 : ∀ t : Fin grid0.N, k0_off51 (grid0.coords t) = ![(Ring.sl 2 t.val).val, 2, 3, 0, 0] := by decide +kernel
instance (priority := high) closed_51 (t : Fin grid0.N) : ClosedOff (k0_off51 (grid0.coords t)) := ⟨_, row_51 t⟩

theorem row_52 : ∀ t : Fin grid0.N, k0_off52 (grid0.coords t) = ![(Ring.sl 2 t.val).val, 3, 3, 0, 0] := by decide +kernel
instance (priority := high) closed_52 (t : Fin grid0.N) : ClosedOff (k0_off52 (grid0.coords t)) := ⟨_, row_52 t⟩

end Canon

end Cert.Kernel2Ideal.Ffn

end
-- ==== Proof.FfnRunFirst.lean ====
module

public import proofs.«01_k».proof.Proof.FfnSetup

@[expose] public section

set_option maxRecDepth 16384

noncomputable section

namespace Cert.Kernel2Ideal.Ffn

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

attribute [local irreducible] cell

set_option maxHeartbeats 8000000 in
/-- The body at the FIRST point: it starts blocks 0 and 1, waits for block 0 and computes it. The pieces stored into the prompt rows are part of what is defined here. -/

noncomputable def runFirst (c : Dev nD) (t : Fin cfg0.N) (arg1 : Memref sig .tc .vmem S512x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S1x1024 .f32) (harg6 : arg6.IsWhole) (arg7 : Memref sig .tc .vmem S128x1024 .f32) (harg7 : arg7.IsWhole) (arg10 : Memref sig .tc .vmem S128x1024 .f32) (harg10 : arg10.IsWhole) (arg11 : Memref sig .tc .vmem S1024x1024 .bf16) (harg11 : arg11.IsWhole) (arg12 : Memref sig .tc .vmem S512x1024 .f32) (harg12 : arg12.IsWhole) (arg13 : Memref sig .tc .vmem S128x1x1024 .f32) (harg13 : arg13.IsWhole) (arg14 : Memref sig .tc .vmem S128x1024 .f32) (harg14 : arg14.IsWhole) (hc1 : cond1 (grid0.coords t)) (hc2 : cond2 (grid0.coords t)) (hc3 : cond3 (grid0.coords t)) (hc4 : ¬cond4 (grid0.coords t))
    (x0 : Vec F S512x1024 .f32) (x1 : Vec F S1x1024 .f32) (x2 : Vec F S1024x2816 .bf16) (x3 : Vec F S1024x2816 .bf16) (x4 : Vec F S2816x1024 .bf16) (x5 : Vec F S1x1024 .f32) (x6 : Vec F S128x1024 .f32) (x7 : Vec F S128x1024 .f32) (x8 : Vec F S1024x1024 .bf16) (W0 : HbBuf0 (F := F) c hbM0_0) (W1 : HbBuf0 (F := F) c hbM0_1) :
    { L9 : List (View.Piece (Elt F) S512x1024 .f32) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ free8 c W0 W1 (Ring.sl 2 t.val) ∗ free8 c W0 W1 (Ring.sl 2 (t.val + 1)) ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg10 fullShare x7 ∗ owns (c : Thread nD τ) arg11 fullShare x8 ∗ (∃ f, arg12.view.loc (c : Thread nD τ) ↦[arg12.view.set]{fullShare} arg12.view.writes (Elt F) f L9) ∗ (∃ d, owns (c : Thread nD τ) arg13 fullShare d) ∗ (∃ d, owns (c : Thread nD τ) arg14 fullShare d) ∗ fly8 c W0 W1 (Ring.sl 2 (t.val + 1)) (Ring.bk 32 (t.val + 1)) ∗ free8 c W0 W1 (Ring.sl 2 t.val) ∗ (∃ W', owes (c : Thread nD τ) 0 W')) -∗ K ⟨⟩))
          ⊢ wp frame (wpE (defs₀ (F := F)) Variants.none c none) Set.univ (cc0_p_ffn (grid0.coords t) arg1 harg1 arg2 harg2 arg3 harg3 arg4 harg4 arg5 harg5 arg6 harg6 arg7 harg7 hbM0_0 (Memref.isWhole_whole _) hbM0_1 (Memref.isWhole_whole _) arg10 harg10 arg11 harg11 arg12 harg12 arg13 harg13 arg14 harg14 scM0_1 (Memref.isWhole_whole _) scM0_2 (Memref.isWhole_whole _) cc0_scratch3) K } := by
  refine ⟨?_, fun W K => ?run⟩
  case run =>
    haveI : Fact (cond1 (grid0.coords t)) := ⟨hc1⟩
    haveI : Fact (cond2 (grid0.coords t)) := ⟨hc2⟩
    haveI : Fact (cond3 (grid0.coords t)) := ⟨hc3⟩
    haveI : Fact (¬cond4 (grid0.coords t)) := ⟨hc4⟩
    simp -proj only [cc0_p_ffn_eq_skeleton]; unfold cc0_p_ffn_skel
    simp -proj only [k0_part3_eq_skeleton, k0_part4_eq_skeleton, k0_part1_eq_skeleton, k0_part2_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns free8
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%ds, %fs, -, HS⟩, ⟨Hp0K0, Hp0K1, Hp0K2, Hp0K3, Hp0V0, Hp0V1, Hp0V2, Hp0V3⟩, ⟨Hp1K0, Hp1K1, Hp1K2, Hp1K3, Hp1V0, Hp1V1, Hp1V2, Hp1V3⟩, HW, Hk⟩
    ihave Ho := (free_open c scM0_1 hbM0_0 W0 0 d0 (Ring.sl 2 t.val) (Ring.bk 32 t.val) 0 q0) $$ Hp0K0
    icases Ho with ⟨Hc0K0, ⟨%fs0K0, Hs0K0, Hb0K0, Hr0K0⟩⟩
    ihave Ho := (free_open c scM0_1 hbM0_0 W0 0 d0 (Ring.sl 2 t.val) (Ring.bk 32 t.val) 1 q1) $$ Hp0K1
    icases Ho with ⟨Hc0K1, ⟨%fs0K1, Hs0K1, Hb0K1, Hr0K1⟩⟩
    ihave Ho := (free_open c scM0_1 hbM0_0 W0 0 d0 (Ring.sl 2 t.val) (Ring.bk 32 t.val) 2 q2) $$ Hp0K2
    icases Ho with ⟨Hc0K2, ⟨%fs0K2, Hs0K2, Hb0K2, Hr0K2⟩⟩
    ihave Ho := (free_open c scM0_1 hbM0_0 W0 0 d0 (Ring.sl 2 t.val) (Ring.bk 32 t.val) 3 q3) $$ Hp0K3
    icases Ho with ⟨Hc0K3, ⟨%fs0K3, Hs0K3, Hb0K3, Hr0K3⟩⟩
    ihave Ho := (free_open c scM0_2 hbM0_1 W1 1 d1 (Ring.sl 2 t.val) (Ring.bk 32 t.val) 0 q0) $$ Hp0V0
    icases Ho with ⟨Hc0V0, ⟨%fs0V0, Hs0V0, Hb0V0, Hr0V0⟩⟩
    ihave Ho := (free_open c scM0_2 hbM0_1 W1 1 d1 (Ring.sl 2 t.val) (Ring.bk 32 t.val) 1 q1) $$ Hp0V1
    icases Ho with ⟨Hc0V1, ⟨%fs0V1, Hs0V1, Hb0V1, Hr0V1⟩⟩
    ihave Ho := (free_open c scM0_2 hbM0_1 W1 1 d1 (Ring.sl 2 t.val) (Ring.bk 32 t.val) 2 q2) $$ Hp0V2
    icases Ho with ⟨Hc0V2, ⟨%fs0V2, Hs0V2, Hb0V2, Hr0V2⟩⟩
    ihave Ho := (free_open c scM0_2 hbM0_1 W1 1 d1 (Ring.sl 2 t.val) (Ring.bk 32 t.val) 3 q3) $$ Hp0V3
    icases Ho with ⟨Hc0V3, ⟨%fs0V3, Hs0V3, Hb0V3, Hr0V3⟩⟩
    ihave Ho := (free_open c scM0_1 hbM0_0 W0 0 d0 (Ring.sl 2 (t.val + 1)) (Ring.bk 32 (t.val + 1)) 0 q0) $$ Hp1K0
    icases Ho with ⟨Hc1K0, ⟨%fs1K0, Hs1K0, Hb1K0, Hr1K0⟩⟩
    ihave Ho := (free_open c scM0_1 hbM0_0 W0 0 d0 (Ring.sl 2 (t.val + 1)) (Ring.bk 32 (t.val + 1)) 1 q1) $$ Hp1K1
    icases Ho with ⟨Hc1K1, ⟨%fs1K1, Hs1K1, Hb1K1, Hr1K1⟩⟩
    ihave Ho := (free_open c scM0_1 hbM0_0 W0 0 d0 (Ring.sl 2 (t.val + 1)) (Ring.bk 32 (t.val + 1)) 2 q2) $$ Hp1K2
    icases Ho with ⟨Hc1K2, ⟨%fs1K2, Hs1K2, Hb1K2, Hr1K2⟩⟩
    ihave Ho := (free_open c scM0_1 hbM0_0 W0 0 d0 (Ring.sl 2 (t.val + 1)) (Ring.bk 32 (t.val + 1)) 3 q3) $$ Hp1K3
    icases Ho with ⟨Hc1K3, ⟨%fs1K3, Hs1K3, Hb1K3, Hr1K3⟩⟩
    ihave Ho := (free_open c scM0_2 hbM0_1 W1 1 d1 (Ring.sl 2 (t.val + 1)) (Ring.bk 32 (t.val + 1)) 0 q0) $$ Hp1V0
    icases Ho with ⟨Hc1V0, ⟨%fs1V0, Hs1V0, Hb1V0, Hr1V0⟩⟩
    ihave Ho := (free_open c scM0_2 hbM0_1 W1 1 d1 (Ring.sl 2 (t.val + 1)) (Ring.bk 32 (t.val + 1)) 1 q1) $$ Hp1V1
    icases Ho with ⟨Hc1V1, ⟨%fs1V1, Hs1V1, Hb1V1, Hr1V1⟩⟩
    ihave Ho := (free_open c scM0_2 hbM0_1 W1 1 d1 (Ring.sl 2 (t.val + 1)) (Ring.bk 32 (t.val + 1)) 2 q2) $$ Hp1V2
    icases Ho with ⟨Hc1V2, ⟨%fs1V2, Hs1V2, Hb1V2, Hr1V2⟩⟩
    ihave Ho := (free_open c scM0_2 hbM0_1 W1 1 d1 (Ring.sl 2 (t.val + 1)) (Ring.bk 32 (t.val + 1)) 3 q3) $$ Hp1V3
    icases Ho with ⟨Hc1V3, ⟨%fs1V3, Hs1V3, Hb1V3, Hr1V3⟩⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg10.eq_unread hf7; obtain rfl := harg11.eq_unread hf8
    sl_exec (disch := first | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg10.read_unread _
      iexact H7
    isplitl [H8]
    · iexists _; isplitr; · ipureintro; exact harg11.read_unread _
      iexact H8
    isplitl [H9]; · iexists _; iexact H9
    isplitl [H10]
    · iexists _, _; isplitr; swap; · iexact H10
      ipureintro; rfl
    isplitl [HS]
    · iexists _, _; isplitr; swap; · iexact HS
      ipureintro; rfl
    isplitl [Hc1K0 Hr1K0 Hc1K1 Hr1K1 Hc1K2 Hr1K2 Hc1K3 Hr1K3 Hc1V0 Hr1V0 Hc1V1 Hr1V1 Hc1V2 Hr1V2 Hc1V3 Hr1V3]
    · try unfold fly8
      isplitl [Hc1K0 Hr1K0]
      · iapply (fly_of c scM0_1 hbM0_0 W0 0 d0 (Ring.sl 2 (t.val + 1)) (Ring.bk 32 (t.val + 1)) 0 q0 _); isplitl [Hc1K0]; · iexact Hc1K0
        iexact Hr1K0
      isplitl [Hc1K1 Hr1K1]
      · iapply (fly_of c scM0_1 hbM0_0 W0 0 d0 (Ring.sl 2 (t.val + 1)) (Ring.bk 32 (t.val + 1)) 1 q1 _); isplitl [Hc1K1]; · iexact Hc1K1
        iexact Hr1K1
      isplitl [Hc1K2 Hr1K2]
      · iapply (fly_of c scM0_1 hbM0_0 W0 0 d0 (Ring.sl 2 (t.val + 1)) (Ring.bk 32 (t.val + 1)) 2 q2 _); isplitl [Hc1K2]; · iexact Hc1K2
        iexact Hr1K2
      isplitl [Hc1K3 Hr1K3]
      · iapply (fly_of c scM0_1 hbM0_0 W0 0 d0 (Ring.sl 2 (t.val + 1)) (Ring.bk 32 (t.val + 1)) 3 q3 _); isplitl [Hc1K3]; · iexact Hc1K3
        iexact Hr1K3
      isplitl [Hc1V0 Hr1V0]
      · iapply (fly_of c scM0_2 hbM0_1 W1 1 d1 (Ring.sl 2 (t.val + 1)) (Ring.bk 32 (t.val + 1)) 0 q0 _); isplitl [Hc1V0]; · iexact Hc1V0
        iexact Hr1V0
      isplitl [Hc1V1 Hr1V1]
      · iapply (fly_of c scM0_2 hbM0_1 W1 1 d1 (Ring.sl 2 (t.val + 1)) (Ring.bk 32 (t.val + 1)) 1 q1 _); isplitl [Hc1V1]; · iexact Hc1V1
        iexact Hr1V1
      isplitl [Hc1V2 Hr1V2]
      · iapply (fly_of c scM0_2 hbM0_1 W1 1 d1 (Ring.sl 2 (t.val + 1)) (Ring.bk 32 (t.val + 1)) 2 q2 _); isplitl [Hc1V2]; · iexact Hc1V2
        iexact Hr1V2
      iapply (fly_of c scM0_2 hbM0_1 W1 1 d1 (Ring.sl 2 (t.val + 1)) (Ring.bk 32 (t.val + 1)) 3 q3 _); isplitl [Hc1V3]; · iexact Hc1V3
      iexact Hr1V3
    isplitl [Hc0K0 Hs0K0 Hb0K0 Hr0K0 Hc0K1 Hs0K1 Hb0K1 Hr0K1 Hc0K2 Hs0K2 Hb0K2 Hr0K2 Hc0K3 Hs0K3 Hb0K3 Hr0K3 Hc0V0 Hs0V0 Hb0V0 Hr0V0 Hc0V1 Hs0V1 Hb0V1 Hr0V1 Hc0V2 Hs0V2 Hb0V2 Hr0V2 Hc0V3 Hs0V3 Hb0V3 Hr0V3]
    · try unfold free8
      isplitl [Hc0K0 Hs0K0 Hb0K0 Hr0K0]
      · iapply (free_of c scM0_1 hbM0_0 W0 0 d0 (Ring.sl 2 t.val) (Ring.bk 32 t.val) 0 q0 _)
        isplitl [Hc0K0]; · iexact Hc0K0
        isplitl [Hs0K0]; · iexact Hs0K0
        isplitl [Hb0K0]; · iexact Hb0K0
        iexact Hr0K0
      isplitl [Hc0K1 Hs0K1 Hb0K1 Hr0K1]
      · iapply (free_of c scM0_1 hbM0_0 W0 0 d0 (Ring.sl 2 t.val) (Ring.bk 32 t.val) 1 q1 _)
        isplitl [Hc0K1]; · iexact Hc0K1
        isplitl [Hs0K1]; · iexact Hs0K1
        isplitl [Hb0K1]; · iexact Hb0K1
        iexact Hr0K1
      isplitl [Hc0K2 Hs0K2 Hb0K2 Hr0K2]
      · iapply (free_of c scM0_1 hbM0_0 W0 0 d0 (Ring.sl 2 t.val) (Ring.bk 32 t.val) 2 q2 _)
        isplitl [Hc0K2]; · iexact Hc0K2
        isplitl [Hs0K2]; · iexact Hs0K2
        isplitl [Hb0K2]; · iexact Hb0K2
        iexact Hr0K2
      isplitl [Hc0K3 Hs0K3 Hb0K3 Hr0K3]
      · iapply (free_of c scM0_1 hbM0_0 W0 0 d0 (Ring.sl 2 t.val) (Ring.bk 32 t.val) 3 q3 _)
        isplitl [Hc0K3]; · iexact Hc0K3
        isplitl [Hs0K3]; · iexact Hs0K3
        isplitl [Hb0K3]; · iexact Hb0K3
        iexact Hr0K3
      isplitl [Hc0V0 Hs0V0 Hb0V0 Hr0V0]
      · iapply (free_of c scM0_2 hbM0_1 W1 1 d1 (Ring.sl 2 t.val) (Ring.bk 32 t.val) 0 q0 _)
        isplitl [Hc0V0]; · iexact Hc0V0
        isplitl [Hs0V0]; · iexact Hs0V0
        isplitl [Hb0V0]; · iexact Hb0V0
        iexact Hr0V0
      isplitl [Hc0V1 Hs0V1 Hb0V1 Hr0V1]
      · iapply (free_of c scM0_2 hbM0_1 W1 1 d1 (Ring.sl 2 t.val) (Ring.bk 32 t.val) 1 q1 _)
        isplitl [Hc0V1]; · iexact Hc0V1
        isplitl [Hs0V1]; · iexact Hs0V1
        isplitl [Hb0V1]; · iexact Hb0V1
        iexact Hr0V1
      isplitl [Hc0V2 Hs0V2 Hb0V2 Hr0V2]
      · iapply (free_of c scM0_2 hbM0_1 W1 1 d1 (Ring.sl 2 t.val) (Ring.bk 32 t.val) 2 q2 _)
        isplitl [Hc0V2]; · iexact Hc0V2
        isplitl [Hs0V2]; · iexact Hs0V2
        isplitl [Hb0V2]; · iexact Hb0V2
        iexact Hr0V2
      iapply (free_of c scM0_2 hbM0_1 W1 1 d1 (Ring.sl 2 t.val) (Ring.bk 32 t.val) 3 q3 _)
      isplitl [Hc0V3]; · iexact Hc0V3
      isplitl [Hs0V3]; · iexact Hs0V3
      isplitl [Hb0V3]; · iexact Hb0V3
      iexact Hr0V3
    iexists _; iexact HW

end Cert.Kernel2Ideal.Ffn

end
-- ==== Proof.FfnRunMiddle.lean ====
module

public import proofs.«01_k».proof.Proof.FfnSetup

@[expose] public section

set_option maxRecDepth 16384

noncomputable section

namespace Cert.Kernel2Ideal.Ffn

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

attribute [local irreducible] cell

set_option maxHeartbeats 8000000 in
/-- The body at a MIDDLE point: it starts the next block, waits for its own and computes it. The pieces stored into the prompt rows are part of what is defined here. -/

noncomputable def runMiddle (c : Dev nD) (t : Fin cfg0.N) (arg1 : Memref sig .tc .vmem S512x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S1x1024 .f32) (harg6 : arg6.IsWhole) (arg7 : Memref sig .tc .vmem S128x1024 .f32) (harg7 : arg7.IsWhole) (arg10 : Memref sig .tc .vmem S128x1024 .f32) (harg10 : arg10.IsWhole) (arg11 : Memref sig .tc .vmem S1024x1024 .bf16) (harg11 : arg11.IsWhole) (arg12 : Memref sig .tc .vmem S512x1024 .f32) (harg12 : arg12.IsWhole) (arg13 : Memref sig .tc .vmem S128x1x1024 .f32) (harg13 : arg13.IsWhole) (arg14 : Memref sig .tc .vmem S128x1024 .f32) (harg14 : arg14.IsWhole) (hc1 : ¬cond1 (grid0.coords t)) (hc2 : cond2 (grid0.coords t)) (hc3 : cond3 (grid0.coords t)) (hc4 : ¬cond4 (grid0.coords t))
    (x0 : Vec F S512x1024 .f32) (x1 : Vec F S1x1024 .f32) (x2 : Vec F S1024x2816 .bf16) (x3 : Vec F S1024x2816 .bf16) (x4 : Vec F S2816x1024 .bf16) (x5 : Vec F S1x1024 .f32) (x6 : Vec F S128x1024 .f32) (x7 : Vec F S128x1024 .f32) (x8 : Vec F S1024x1024 .bf16) (W0 : HbBuf0 (F := F) c hbM0_0) (W1 : HbBuf0 (F := F) c hbM0_1) :
    { L9 : List (View.Piece (Elt F) S512x1024 .f32) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ fly8 c W0 W1 (Ring.sl 2 t.val) (Ring.bk 32 t.val) ∗ free8 c W0 W1 (Ring.sl 2 (t.val + 1)) ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg10 fullShare x7 ∗ owns (c : Thread nD τ) arg11 fullShare x8 ∗ (∃ f, arg12.view.loc (c : Thread nD τ) ↦[arg12.view.set]{fullShare} arg12.view.writes (Elt F) f L9) ∗ (∃ d, owns (c : Thread nD τ) arg13 fullShare d) ∗ (∃ d, owns (c : Thread nD τ) arg14 fullShare d) ∗ fly8 c W0 W1 (Ring.sl 2 (t.val + 1)) (Ring.bk 32 (t.val + 1)) ∗ free8 c W0 W1 (Ring.sl 2 t.val) ∗ (∃ W', owes (c : Thread nD τ) 0 W')) -∗ K ⟨⟩))
          ⊢ wp frame (wpE (defs₀ (F := F)) Variants.none c none) Set.univ (cc0_p_ffn (grid0.coords t) arg1 harg1 arg2 harg2 arg3 harg3 arg4 harg4 arg5 harg5 arg6 harg6 arg7 harg7 hbM0_0 (Memref.isWhole_whole _) hbM0_1 (Memref.isWhole_whole _) arg10 harg10 arg11 harg11 arg12 harg12 arg13 harg13 arg14 harg14 scM0_1 (Memref.isWhole_whole _) scM0_2 (Memref.isWhole_whole _) cc0_scratch3) K } := by
  refine ⟨?_, fun W K => ?run⟩
  case run =>
    haveI : Fact (¬cond1 (grid0.coords t)) := ⟨hc1⟩
    haveI : Fact (cond2 (grid0.coords t)) := ⟨hc2⟩
    haveI : Fact (cond3 (grid0.coords t)) := ⟨hc3⟩
    haveI : Fact (¬cond4 (grid0.coords t)) := ⟨hc4⟩
    simp -proj only [cc0_p_ffn_eq_skeleton]; unfold cc0_p_ffn_skel
    simp -proj only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns fly8 flyP free8
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%ds, %fs, -, HS⟩, ⟨⟨%ffK0, HfK0, HgK0⟩, ⟨%ffK1, HfK1, HgK1⟩, ⟨%ffK2, HfK2, HgK2⟩, ⟨%ffK3, HfK3, HgK3⟩, ⟨%ffV0, HfV0, HgV0⟩, ⟨%ffV1, HfV1, HgV1⟩, ⟨%ffV2, HfV2, HgV2⟩, ⟨%ffV3, HfV3, HgV3⟩⟩, ⟨Hp1K0, Hp1K1, Hp1K2, Hp1K3, Hp1V0, Hp1V1, Hp1V2, Hp1V3⟩, HW, Hk⟩
    ihave Ho := (free_open c scM0_1 hbM0_0 W0 0 d0 (Ring.sl 2 (t.val + 1)) (Ring.bk 32 (t.val + 1)) 0 q0) $$ Hp1K0
    icases Ho with ⟨Hc1K0, ⟨%fs1K0, Hs1K0, Hb1K0, Hr1K0⟩⟩
    ihave Ho := (free_open c scM0_1 hbM0_0 W0 0 d0 (Ring.sl 2 (t.val + 1)) (Ring.bk 32 (t.val + 1)) 1 q1) $$ Hp1K1
    icases Ho with ⟨Hc1K1, ⟨%fs1K1, Hs1K1, Hb1K1, Hr1K1⟩⟩
    ihave Ho := (free_open c scM0_1 hbM0_0 W0 0 d0 (Ring.sl 2 (t.val + 1)) (Ring.bk 32 (t.val + 1)) 2 q2) $$ Hp1K2
    icases Ho with ⟨Hc1K2, ⟨%fs1K2, Hs1K2, Hb1K2, Hr1K2⟩⟩
    ihave Ho := (free_open c scM0_1 hbM0_0 W0 0 d0 (Ring.sl 2 (t.val + 1)) (Ring.bk 32 (t.val + 1)) 3 q3) $$ Hp1K3
    icases Ho with ⟨Hc1K3, ⟨%fs1K3, Hs1K3, Hb1K3, Hr1K3⟩⟩
    ihave Ho := (free_open c scM0_2 hbM0_1 W1 1 d1 (Ring.sl 2 (t.val + 1)) (Ring.bk 32 (t.val + 1)) 0 q0) $$ Hp1V0
    icases Ho with ⟨Hc1V0, ⟨%fs1V0, Hs1V0, Hb1V0, Hr1V0⟩⟩
    ihave Ho := (free_open c scM0_2 hbM0_1 W1 1 d1 (Ring.sl 2 (t.val + 1)) (Ring.bk 32 (t.val + 1)) 1 q1) $$ Hp1V1
    icases Ho with ⟨Hc1V1, ⟨%fs1V1, Hs1V1, Hb1V1, Hr1V1⟩⟩
    ihave Ho := (free_open c scM0_2 hbM0_1 W1 1 d1 (Ring.sl 2 (t.val + 1)) (Ring.bk 32 (t.val + 1)) 2 q2) $$ Hp1V2
    icases Ho with ⟨Hc1V2, ⟨%fs1V2, Hs1V2, Hb1V2, Hr1V2⟩⟩
    ihave Ho := (free_open c scM0_2 hbM0_1 W1 1 d1 (Ring.sl 2 (t.val + 1)) (Ring.bk 32 (t.val + 1)) 3 q3) $$ Hp1V3
    icases Ho with ⟨Hc1V3, ⟨%fs1V3, Hs1V3, Hb1V3, Hr1V3⟩⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg10.eq_unread hf7; obtain rfl := harg11.eq_unread hf8
    sl_exec (disch := first | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg10.read_unread _
      iexact H7
    isplitl [H8]
    · iexists _; isplitr; · ipureintro; exact harg11.read_unread _
      iexact H8
    isplitl [H9]; · iexists _; iexact H9
    isplitl [H10]
    · iexists _, _; isplitr; swap; · iexact H10
      ipureintro; rfl
    isplitl [HS]
    · iexists _, _; isplitr; swap; · iexact HS
      ipureintro; rfl
    isplitl [Hc1K0 Hr1K0 Hc1K1 Hr1K1 Hc1K2 Hr1K2 Hc1K3 Hr1K3 Hc1V0 Hr1V0 Hc1V1 Hr1V1 Hc1V2 Hr1V2 Hc1V3 Hr1V3]
    · try unfold fly8
      isplitl [Hc1K0 Hr1K0]
      · iexists _; isplitl [Hc1K0]; · iexact Hc1K0
        iexact Hr1K0
      isplitl [Hc1K1 Hr1K1]
      · iexists _; isplitl [Hc1K1]; · iexact Hc1K1
        iexact Hr1K1
      isplitl [Hc1K2 Hr1K2]
      · iexists _; isplitl [Hc1K2]; · iexact Hc1K2
        iexact Hr1K2
      isplitl [Hc1K3 Hr1K3]
      · iexists _; isplitl [Hc1K3]; · iexact Hc1K3
        iexact Hr1K3
      isplitl [Hc1V0 Hr1V0]
      · iexists _; isplitl [Hc1V0]; · iexact Hc1V0
        iexact Hr1V0
      isplitl [Hc1V1 Hr1V1]
      · iexists _; isplitl [Hc1V1]; · iexact Hc1V1
        iexact Hr1V1
      isplitl [Hc1V2 Hr1V2]
      · iexists _; isplitl [Hc1V2]; · iexact Hc1V2
        iexact Hr1V2
      iexists _; isplitl [Hc1V3]; · iexact Hc1V3
      iexact Hr1V3
    isplitl [HfK0 HfK0_dst HfK0_src HgK0 HfK1 HfK1_dst HfK1_src HgK1 HfK2 HfK2_dst HfK2_src HgK2 HfK3 HfK3_dst HfK3_src HgK3 HfV0 HfV0_dst HfV0_src HgV0 HfV1 HfV1_dst HfV1_src HgV1 HfV2 HfV2_dst HfV2_src HgV2 HfV3 HfV3_dst HfV3_src HgV3]
    · try unfold free8
      isplitl [HfK0 HfK0_dst HfK0_src HgK0]
      · iapply (free_of c scM0_1 hbM0_0 W0 0 d0 (Ring.sl 2 t.val) (Ring.bk 32 t.val) 0 q0 _)
        isplitl [HfK0]; · iexact HfK0
        isplitl [HfK0_dst]; · iexact HfK0_dst
        isplitl [HfK0_src]; · iexact HfK0_src
        iexact HgK0
      isplitl [HfK1 HfK1_dst HfK1_src HgK1]
      · iapply (free_of c scM0_1 hbM0_0 W0 0 d0 (Ring.sl 2 t.val) (Ring.bk 32 t.val) 1 q1 _)
        isplitl [HfK1]; · iexact HfK1
        isplitl [HfK1_dst]; · iexact HfK1_dst
        isplitl [HfK1_src]; · iexact HfK1_src
        iexact HgK1
      isplitl [HfK2 HfK2_dst HfK2_src HgK2]
      · iapply (free_of c scM0_1 hbM0_0 W0 0 d0 (Ring.sl 2 t.val) (Ring.bk 32 t.val) 2 q2 _)
        isplitl [HfK2]; · iexact HfK2
        isplitl [HfK2_dst]; · iexact HfK2_dst
        isplitl [HfK2_src]; · iexact HfK2_src
        iexact HgK2
      isplitl [HfK3 HfK3_dst HfK3_src HgK3]
      · iapply (free_of c scM0_1 hbM0_0 W0 0 d0 (Ring.sl 2 t.val) (Ring.bk 32 t.val) 3 q3 _)
        isplitl [HfK3]; · iexact HfK3
        isplitl [HfK3_dst]; · iexact HfK3_dst
        isplitl [HfK3_src]; · iexact HfK3_src
        iexact HgK3
      isplitl [HfV0 HfV0_dst HfV0_src HgV0]
      · iapply (free_of c scM0_2 hbM0_1 W1 1 d1 (Ring.sl 2 t.val) (Ring.bk 32 t.val) 0 q0 _)
        isplitl [HfV0]; · iexact HfV0
        isplitl [HfV0_dst]; · iexact HfV0_dst
        isplitl [HfV0_src]; · iexact HfV0_src
        iexact HgV0
      isplitl [HfV1 HfV1_dst HfV1_src HgV1]
      · iapply (free_of c scM0_2 hbM0_1 W1 1 d1 (Ring.sl 2 t.val) (Ring.bk 32 t.val) 1 q1 _)
        isplitl [HfV1]; · iexact HfV1
        isplitl [HfV1_dst]; · iexact HfV1_dst
        isplitl [HfV1_src]; · iexact HfV1_src
        iexact HgV1
      isplitl [HfV2 HfV2_dst HfV2_src HgV2]
      · iapply (free_of c scM0_2 hbM0_1 W1 1 d1 (Ring.sl 2 t.val) (Ring.bk 32 t.val) 2 q2 _)
        isplitl [HfV2]; · iexact HfV2
        isplitl [HfV2_dst]; · iexact HfV2_dst
        isplitl [HfV2_src]; · iexact HfV2_src
        iexact HgV2
      iapply (free_of c scM0_2 hbM0_1 W1 1 d1 (Ring.sl 2 t.val) (Ring.bk 32 t.val) 3 q3 _)
      isplitl [HfV3]; · iexact HfV3
      isplitl [HfV3_dst]; · iexact HfV3_dst
      isplitl [HfV3_src]; · iexact HfV3_src
      iexact HgV3
    iexists _; iexact HW

end Cert.Kernel2Ideal.Ffn

end
-- ==== Proof.FfnRunLast.lean ====
module

public import proofs.«01_k».proof.Proof.FfnSetup

@[expose] public section

set_option maxRecDepth 16384

noncomputable section

namespace Cert.Kernel2Ideal.Ffn

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

attribute [local irreducible] cell

set_option maxHeartbeats 8000000 in
/-- The body at the last point with a block: it waits for the block and computes it. The pieces stored into the prompt rows are part of what is defined here. -/

noncomputable def runLast (c : Dev nD) (t : Fin cfg0.N) (arg1 : Memref sig .tc .vmem S512x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S1x1024 .f32) (harg6 : arg6.IsWhole) (arg7 : Memref sig .tc .vmem S128x1024 .f32) (harg7 : arg7.IsWhole) (arg10 : Memref sig .tc .vmem S128x1024 .f32) (harg10 : arg10.IsWhole) (arg11 : Memref sig .tc .vmem S1024x1024 .bf16) (harg11 : arg11.IsWhole) (arg12 : Memref sig .tc .vmem S512x1024 .f32) (harg12 : arg12.IsWhole) (arg13 : Memref sig .tc .vmem S128x1x1024 .f32) (harg13 : arg13.IsWhole) (arg14 : Memref sig .tc .vmem S128x1024 .f32) (harg14 : arg14.IsWhole) (hc1 : ¬cond1 (grid0.coords t)) (hc2 : ¬cond2 (grid0.coords t)) (hc3 : cond3 (grid0.coords t)) (hc4 : ¬cond4 (grid0.coords t))
    (x0 : Vec F S512x1024 .f32) (x1 : Vec F S1x1024 .f32) (x2 : Vec F S1024x2816 .bf16) (x3 : Vec F S1024x2816 .bf16) (x4 : Vec F S2816x1024 .bf16) (x5 : Vec F S1x1024 .f32) (x6 : Vec F S128x1024 .f32) (x7 : Vec F S128x1024 .f32) (x8 : Vec F S1024x1024 .bf16) (W0 : HbBuf0 (F := F) c hbM0_0) (W1 : HbBuf0 (F := F) c hbM0_1) :
    { L9 : List (View.Piece (Elt F) S512x1024 .f32) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ fly8 c W0 W1 (Ring.sl 2 t.val) (Ring.bk 32 t.val) ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg10 fullShare x7 ∗ owns (c : Thread nD τ) arg11 fullShare x8 ∗ (∃ f, arg12.view.loc (c : Thread nD τ) ↦[arg12.view.set]{fullShare} arg12.view.writes (Elt F) f L9) ∗ (∃ d, owns (c : Thread nD τ) arg13 fullShare d) ∗ (∃ d, owns (c : Thread nD τ) arg14 fullShare d) ∗ free8 c W0 W1 (Ring.sl 2 t.val) ∗ (∃ W', owes (c : Thread nD τ) 0 W')) -∗ K ⟨⟩))
          ⊢ wp frame (wpE (defs₀ (F := F)) Variants.none c none) Set.univ (cc0_p_ffn (grid0.coords t) arg1 harg1 arg2 harg2 arg3 harg3 arg4 harg4 arg5 harg5 arg6 harg6 arg7 harg7 hbM0_0 (Memref.isWhole_whole _) hbM0_1 (Memref.isWhole_whole _) arg10 harg10 arg11 harg11 arg12 harg12 arg13 harg13 arg14 harg14 scM0_1 (Memref.isWhole_whole _) scM0_2 (Memref.isWhole_whole _) cc0_scratch3) K } := by
  refine ⟨?_, fun W K => ?run⟩
  case run =>
    haveI : Fact (¬cond1 (grid0.coords t)) := ⟨hc1⟩
    haveI : Fact (¬cond2 (grid0.coords t)) := ⟨hc2⟩
    haveI : Fact (cond3 (grid0.coords t)) := ⟨hc3⟩
    haveI : Fact (¬cond4 (grid0.coords t)) := ⟨hc4⟩
    simp -proj only [cc0_p_ffn_eq_skeleton]; unfold cc0_p_ffn_skel
    simp -proj only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns fly8 flyP
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%ds, %fs, -, HS⟩, ⟨⟨%ffK0, HfK0, HgK0⟩, ⟨%ffK1, HfK1, HgK1⟩, ⟨%ffK2, HfK2, HgK2⟩, ⟨%ffK3, HfK3, HgK3⟩, ⟨%ffV0, HfV0, HgV0⟩, ⟨%ffV1, HfV1, HgV1⟩, ⟨%ffV2, HfV2, HgV2⟩, ⟨%ffV3, HfV3, HgV3⟩⟩, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg10.eq_unread hf7; obtain rfl := harg11.eq_unread hf8
    sl_exec (disch := first | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg10.read_unread _
      iexact H7
    isplitl [H8]
    · iexists _; isplitr; · ipureintro; exact harg11.read_unread _
      iexact H8
    isplitl [H9]; · iexists _; iexact H9
    isplitl [H10]
    · iexists _, _; isplitr; swap; · iexact H10
      ipureintro; rfl
    isplitl [HS]
    · iexists _, _; isplitr; swap; · iexact HS
      ipureintro; rfl
    isplitl [HfK0 HfK0_dst HfK0_src HgK0 HfK1 HfK1_dst HfK1_src HgK1 HfK2 HfK2_dst HfK2_src HgK2 HfK3 HfK3_dst HfK3_src HgK3 HfV0 HfV0_dst HfV0_src HgV0 HfV1 HfV1_dst HfV1_src HgV1 HfV2 HfV2_dst HfV2_src HgV2 HfV3 HfV3_dst HfV3_src HgV3]
    · try unfold free8
      isplitl [HfK0 HfK0_dst HfK0_src HgK0]
      · iapply (free_of c scM0_1 hbM0_0 W0 0 d0 (Ring.sl 2 t.val) (Ring.bk 32 t.val) 0 q0 _)
        isplitl [HfK0]; · iexact HfK0
        isplitl [HfK0_dst]; · iexact HfK0_dst
        isplitl [HfK0_src]; · iexact HfK0_src
        iexact HgK0
      isplitl [HfK1 HfK1_dst HfK1_src HgK1]
      · iapply (free_of c scM0_1 hbM0_0 W0 0 d0 (Ring.sl 2 t.val) (Ring.bk 32 t.val) 1 q1 _)
        isplitl [HfK1]; · iexact HfK1
        isplitl [HfK1_dst]; · iexact HfK1_dst
        isplitl [HfK1_src]; · iexact HfK1_src
        iexact HgK1
      isplitl [HfK2 HfK2_dst HfK2_src HgK2]
      · iapply (free_of c scM0_1 hbM0_0 W0 0 d0 (Ring.sl 2 t.val) (Ring.bk 32 t.val) 2 q2 _)
        isplitl [HfK2]; · iexact HfK2
        isplitl [HfK2_dst]; · iexact HfK2_dst
        isplitl [HfK2_src]; · iexact HfK2_src
        iexact HgK2
      isplitl [HfK3 HfK3_dst HfK3_src HgK3]
      · iapply (free_of c scM0_1 hbM0_0 W0 0 d0 (Ring.sl 2 t.val) (Ring.bk 32 t.val) 3 q3 _)
        isplitl [HfK3]; · iexact HfK3
        isplitl [HfK3_dst]; · iexact HfK3_dst
        isplitl [HfK3_src]; · iexact HfK3_src
        iexact HgK3
      isplitl [HfV0 HfV0_dst HfV0_src HgV0]
      · iapply (free_of c scM0_2 hbM0_1 W1 1 d1 (Ring.sl 2 t.val) (Ring.bk 32 t.val) 0 q0 _)
        isplitl [HfV0]; · iexact HfV0
        isplitl [HfV0_dst]; · iexact HfV0_dst
        isplitl [HfV0_src]; · iexact HfV0_src
        iexact HgV0
      isplitl [HfV1 HfV1_dst HfV1_src HgV1]
      · iapply (free_of c scM0_2 hbM0_1 W1 1 d1 (Ring.sl 2 t.val) (Ring.bk 32 t.val) 1 q1 _)
        isplitl [HfV1]; · iexact HfV1
        isplitl [HfV1_dst]; · iexact HfV1_dst
        isplitl [HfV1_src]; · iexact HfV1_src
        iexact HgV1
      isplitl [HfV2 HfV2_dst HfV2_src HgV2]
      · iapply (free_of c scM0_2 hbM0_1 W1 1 d1 (Ring.sl 2 t.val) (Ring.bk 32 t.val) 2 q2 _)
        isplitl [HfV2]; · iexact HfV2
        isplitl [HfV2_dst]; · iexact HfV2_dst
        isplitl [HfV2_src]; · iexact HfV2_src
        iexact HgV2
      iapply (free_of c scM0_2 hbM0_1 W1 1 d1 (Ring.sl 2 t.val) (Ring.bk 32 t.val) 3 q3 _)
      isplitl [HfV3]; · iexact HfV3
      isplitl [HfV3_dst]; · iexact HfV3_dst
      isplitl [HfV3_src]; · iexact HfV3_src
      iexact HgV3
    iexists _; iexact HW

end Cert.Kernel2Ideal.Ffn

end
-- ==== Proof.FfnRunEnd.lean ====
module

public import proofs.«01_k».proof.Proof.FfnSetup

@[expose] public section

set_option maxRecDepth 16384

noncomputable section

namespace Cert.Kernel2Ideal.Ffn

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

attribute [local irreducible] cell

set_option maxHeartbeats 8000000 in
/-- The body at the point after the last block: it computes the samples' part from the scratch rows, and touches no ring and no prompt row. -/

theorem runEnd (c : Dev nD) (t : Fin cfg0.N) (arg1 : Memref sig .tc .vmem S512x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S1x1024 .f32) (harg6 : arg6.IsWhole) (arg7 : Memref sig .tc .vmem S128x1024 .f32) (harg7 : arg7.IsWhole) (arg10 : Memref sig .tc .vmem S128x1024 .f32) (harg10 : arg10.IsWhole) (arg11 : Memref sig .tc .vmem S1024x1024 .bf16) (harg11 : arg11.IsWhole) (arg12 : Memref sig .tc .vmem S512x1024 .f32) (harg12 : arg12.IsWhole) (arg13 : Memref sig .tc .vmem S128x1x1024 .f32) (harg13 : arg13.IsWhole) (arg14 : Memref sig .tc .vmem S128x1024 .f32) (harg14 : arg14.IsWhole) (hc1 : ¬cond1 (grid0.coords t)) (hc2 : ¬cond2 (grid0.coords t)) (hc3 : ¬cond3 (grid0.coords t)) (hc4 : cond4 (grid0.coords t))
    (x0 : Vec F S512x1024 .f32) (x1 : Vec F S1x1024 .f32) (x2 : Vec F S1024x2816 .bf16) (x3 : Vec F S1024x2816 .bf16) (x4 : Vec F S2816x1024 .bf16) (x5 : Vec F S1x1024 .f32) (x6 : Vec F S128x1024 .f32) (x7 : Vec F S128x1024 .f32) (x8 : Vec F S1024x1024 .bf16) (W0 : HbBuf0 (F := F) c hbM0_0) (W1 : HbBuf0 (F := F) c hbM0_1) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg10 fullShare x7 ∗ owns (c : Thread nD τ) arg11 fullShare x8 ∗ (∃ d, owns (c : Thread nD τ) arg13 fullShare d) ∗ (∃ d, owns (c : Thread nD τ) arg14 fullShare d) ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg10 fullShare x7 ∗ owns (c : Thread nD τ) arg11 fullShare x8 ∗ (∃ d, owns (c : Thread nD τ) arg13 fullShare d) ∗ (∃ d, owns (c : Thread nD τ) arg14 fullShare d) ∗ (∃ W', owes (c : Thread nD τ) 0 W')) -∗ K ⟨⟩))
          ⊢ wp frame (wpE (defs₀ (F := F)) Variants.none c none) Set.univ (cc0_p_ffn (grid0.coords t) arg1 harg1 arg2 harg2 arg3 harg3 arg4 harg4 arg5 harg5 arg6 harg6 arg7 harg7 hbM0_0 (Memref.isWhole_whole _) hbM0_1 (Memref.isWhole_whole _) arg10 harg10 arg11 harg11 arg12 harg12 arg13 harg13 arg14 harg14 scM0_1 (Memref.isWhole_whole _) scM0_2 (Memref.isWhole_whole _) cc0_scratch3) K := by
    intro W K
    haveI : Fact (¬cond1 (grid0.coords t)) := ⟨hc1⟩
    haveI : Fact (¬cond2 (grid0.coords t)) := ⟨hc2⟩
    haveI : Fact (¬cond3 (grid0.coords t)) := ⟨hc3⟩
    haveI : Fact (cond4 (grid0.coords t)) := ⟨hc4⟩
    simp -proj only [cc0_p_ffn_eq_skeleton]; unfold cc0_p_ffn_skel
    simp -proj only [k0_part22_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d10, %f10, -, H10⟩, ⟨%ds, %fs, -, HS⟩, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg10.eq_unread hf7; obtain rfl := harg11.eq_unread hf8
    sl_exec (disch := first | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg10.read_unread _
      iexact H7
    isplitl [H8]
    · iexists _; isplitr; · ipureintro; exact harg11.read_unread _
      iexact H8
    isplitl [H10]
    · iexists _, _; isplitr; swap; · iexact H10
      ipureintro; rfl
    isplitl [HS]
    · iexists _, _; isplitr; swap; · iexact HS
      ipureintro; rfl
    iexists _; iexact HW

end Cert.Kernel2Ideal.Ffn

end
-- ==== Proof.FfnRing.lean ====
module

public import proofs.«01_k».proof.Proof.FfnSetup
public import Idealize.ShloMosaic.Lib.Pipeline.FrameBody

@[expose] public section

set_option maxRecDepth 16384

noncomputable section

namespace Cert.Kernel2Ideal.Ffn

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## The counters, the arrays and the scratch the launch hands over -/

/-- The counters, by slot, keys or values, and head. -/
abbrev osem0 : Fin 16 → SemLoc sig := fun j => (![cellR 0 0 0 d0 q0, cellR 0 0 1 d0 q1, cellR 0 0 2 d0 q2, cellR 0 0 3 d0 q3, cellR 0 1 0 d1 q0, cellR 0 1 1 d1 q1, cellR 0 1 2 d1 q2, cellR 0 1 3 d1 q3, cellR 1 0 0 d0 q0, cellR 1 0 1 d0 q1, cellR 1 0 2 d0 q2, cellR 1 0 3 d0 q3, cellR 1 1 0 d1 q0, cellR 1 1 1 d1 q1, cellR 1 1 2 d1 q2, cellR 1 1 3 d1 q3]) j
theorem ownSemFacts0 : Pipeline.OwnSemFacts spec0 osem0 := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), cellR 0 0 0 d0 q0) 0 ∗ semVal ((c : Thread nD τ), cellR 0 0 1 d0 q1) 0 ∗ semVal ((c : Thread nD τ), cellR 0 0 2 d0 q2) 0 ∗ semVal ((c : Thread nD τ), cellR 0 0 3 d0 q3) 0 ∗ semVal ((c : Thread nD τ), cellR 0 1 0 d1 q0) 0 ∗ semVal ((c : Thread nD τ), cellR 0 1 1 d1 q1) 0 ∗ semVal ((c : Thread nD τ), cellR 0 1 2 d1 q2) 0 ∗ semVal ((c : Thread nD τ), cellR 0 1 3 d1 q3) 0 ∗ semVal ((c : Thread nD τ), cellR 1 0 0 d0 q0) 0 ∗ semVal ((c : Thread nD τ), cellR 1 0 1 d0 q1) 0 ∗ semVal ((c : Thread nD τ), cellR 1 0 2 d0 q2) 0 ∗ semVal ((c : Thread nD τ), cellR 1 0 3 d0 q3) 0 ∗ semVal ((c : Thread nD τ), cellR 1 1 0 d1 q0) 0 ∗ semVal ((c : Thread nD τ), cellR 1 1 1 d1 q1) 0 ∗ semVal ((c : Thread nD τ), cellR 1 1 2 d1 q2) 0 ∗ semVal ((c : Thread nD τ), cellR 1 1 3 d1 q3) 0) := by
  rw [Pipeline.ownSems0_eq_of_list c osem0 [0, 1, 2, 3, 4, 5, 6, 7, 8, 9, 10, 11, 12, 13, 14, 15] (by decide) (by decide)]; rfl

/-- The arrays the body copies from. -/
def H0 : Finset (Ref sig .tc) := {main_v11, main_v12}
theorem H0_sub : H0 ⊆ Pipeline.restRefs sig spec0 := by decide

theorem hbmPts0_eq (c : Dev nD) :
    (bigSep H0 (fun b => ((c : Thread nD τ).loc b) ↦{fullShare} V m c b) : sProp 𝕄)
      = iprop(hbPt0 c hbM0_0 (V m c main_v11) ∗ hbPt0 c hbM0_1 (V m c main_v12)) := by
  rw [BI.bigSep_eq_bigSepL_of_eq [main_v11, main_v12] (by decide) (by decide)]; rfl

/-- A scratch buffer whole, at anything. -/
abbrev anyP (c : Dev nD) {S : Shape} {e : EltTy} (M : Memref sig .tc .vmem S e) : sProp 𝕄 :=
  iprop(∃ f : HbBuf0 (F := F) c M, M.view.loc (c : Thread nD τ) ↦{fullShare} f)

theorem PhiD0_eq (c : Dev nD) :
    (Pipeline.ΦD osem0 spec0 H0 (V m) c : sProp 𝕄)
      = iprop(iprop((∃ d, owns (c : Thread nD τ) scM0_0 fullShare d) ∗ anyP c scM0_1 ∗ anyP c scM0_2) ∗ (∃ r, prngReg c r)
          ∗ iprop(semVal ((c : Thread nD τ), cellR 0 0 0 d0 q0) 0 ∗ semVal ((c : Thread nD τ), cellR 0 0 1 d0 q1) 0 ∗ semVal ((c : Thread nD τ), cellR 0 0 2 d0 q2) 0 ∗ semVal ((c : Thread nD τ), cellR 0 0 3 d0 q3) 0 ∗ semVal ((c : Thread nD τ), cellR 0 1 0 d1 q0) 0 ∗ semVal ((c : Thread nD τ), cellR 0 1 1 d1 q1) 0 ∗ semVal ((c : Thread nD τ), cellR 0 1 2 d1 q2) 0 ∗ semVal ((c : Thread nD τ), cellR 0 1 3 d1 q3) 0 ∗ semVal ((c : Thread nD τ), cellR 1 0 0 d0 q0) 0 ∗ semVal ((c : Thread nD τ), cellR 1 0 1 d0 q1) 0 ∗ semVal ((c : Thread nD τ), cellR 1 0 2 d0 q2) 0 ∗ semVal ((c : Thread nD τ), cellR 1 0 3 d0 q3) 0 ∗ semVal ((c : Thread nD τ), cellR 1 1 0 d1 q0) 0 ∗ semVal ((c : Thread nD τ), cellR 1 1 1 d1 q1) 0 ∗ semVal ((c : Thread nD τ), cellR 1 1 2 d1 q2) 0 ∗ semVal ((c : Thread nD τ), cellR 1 1 3 d1 q3) 0)
          ∗ iprop(hbPt0 c hbM0_0 (V m c main_v11) ∗ hbPt0 c hbM0_1 (V m c main_v12))) := by
  rw [Pipeline.ΦD_eq, scopedRest0_eq, ownSems00_eq, hbmPts0_eq]
  simp only [scM0_0, owns_whole]; rfl

/-! ## A scratch buffer is its eight pieces -/

/-- The elements of head `k % 4` of slot `k / 4`. -/
def pset (k : Fin 2 × Fin 4) : Finset S2x4x4x256x256.Idx :=
  (Rect.unit (s := S2x4x4x256x256) ![k.1.val, k.2.val, 0, 0, 0] S1x1x4x256x256.size (inb_slot k.1 k.2.val k.2.isLt)).set

theorem mem_pset (k : Fin 2 × Fin 4) (i : S2x4x4x256x256.Idx) : i ∈ pset k ↔ (i 0).val = k.1.val ∧ (i 1).val = k.2.val := by
  unfold pset
  rw [Rect.mem_set_unit]
  constructor
  · intro h
    have h0 := h 0; have h1 := h 1
    simp at h0 h1
    omega
  · rintro ⟨h0, h1⟩ a
    have l := (i a).isLt
    fin_cases a
    · simp; omega
    · simp; omega
    · simpa using l
    · simpa using l
    · simpa using l

theorem pset_disjoint (k k' : Fin 2 × Fin 4) (h : k ≠ k') : Disjoint (pset k) (pset k') := by
  rw [Finset.disjoint_left]
  intro i hi hi'
  rw [mem_pset] at hi hi'
  exact h (Prod.ext (Fin.ext (hi.1.symm.trans hi'.1)) (Fin.ext (hi.2.symm.trans hi'.2)))
theorem pset_cover : Finset.univ.biUnion pset = Finset.univ := by
  ext i
  simp only [Finset.mem_biUnion, Finset.mem_univ, true_and, iff_true]
  exact ⟨(⟨(i 0).val, (i 0).isLt⟩, ⟨(i 1).val, (i 1).isLt⟩), (mem_pset _ _).mpr ⟨rfl, rfl⟩⟩

theorem slot1_set (s : Fin 2) (h : ℕ) (hh : h < 4) : (slot scM0_1 s h hh).view.set = pset (s, ⟨h, hh⟩) := by
  simp only [slot, Memref.view_squeeze, View.set_reshape]; exact View.set_slice_whole _ _
theorem slot2_set (s : Fin 2) (h : ℕ) (hh : h < 4) : (slot scM0_2 s h hh).view.set = pset (s, ⟨h, hh⟩) := by
  simp only [slot, Memref.view_squeeze, View.set_reshape]; exact View.set_slice_whole _ _

theorem bigSep_k {M : Type} [URA M] (Φ : Fin 2 × Fin 4 → sProp M) :
    bigSep Finset.univ Φ = iprop(Φ (0, 0) ∗ Φ (0, 1) ∗ Φ (0, 2) ∗ Φ (0, 3) ∗ Φ (1, 0) ∗ Φ (1, 1) ∗ Φ (1, 2) ∗ Φ (1, 3)) :=
  bigSep_univ_eq_bigSepL [(0, 0), (0, 1), (0, 2), (0, 3), (1, 0), (1, 1), (1, 2), (1, 3)] (by decide) (by decide) Φ

theorem pieces1_split (c : Dev nD) : anyP (F := F) c scM0_1 ⊢ iprop((∃ f, slotP c scM0_1 0 0 q0 f) ∗ (∃ f, slotP c scM0_1 0 1 q1 f) ∗ (∃ f, slotP c scM0_1 0 2 q2 f) ∗ (∃ f, slotP c scM0_1 0 3 q3 f) ∗ (∃ f, slotP c scM0_1 1 0 q0 f) ∗ (∃ f, slotP c scM0_1 1 1 q1 f) ∗ (∃ f, slotP c scM0_1 1 2 q2 f) ∗ (∃ f, slotP c scM0_1 1 3 q3 f)) := by
  unfold anyP slotP
  simp only [slot1_set]
  iintro ⟨%f, H⟩
  ihave H8 := (Entails.of_eq ((Ring.pointsTo_blocks (Ix := Unit) (Name := ℕ) (U := Pipeline.UD sig nD τ) (Lvl := ℕ) (q := fullShare) pset pset_disjoint pset_cover f).trans (bigSep_k _))) $$ H
  icases H8 with ⟨P0, P1, P2, P3, P4, P5, P6, P7⟩
  isplitl [P0]; · iexists f; iexact P0
  isplitl [P1]; · iexists f; iexact P1
  isplitl [P2]; · iexists f; iexact P2
  isplitl [P3]; · iexists f; iexact P3
  isplitl [P4]; · iexists f; iexact P4
  isplitl [P5]; · iexists f; iexact P5
  isplitl [P6]; · iexists f; iexact P6
  iexists f; iexact P7
theorem pieces1_join (c : Dev nD) : iprop((∃ f, slotP c scM0_1 0 0 q0 f) ∗ (∃ f, slotP c scM0_1 0 1 q1 f) ∗ (∃ f, slotP c scM0_1 0 2 q2 f) ∗ (∃ f, slotP c scM0_1 0 3 q3 f) ∗ (∃ f, slotP c scM0_1 1 0 q0 f) ∗ (∃ f, slotP c scM0_1 1 1 q1 f) ∗ (∃ f, slotP c scM0_1 1 2 q2 f) ∗ (∃ f, slotP c scM0_1 1 3 q3 f)) ⊢ anyP (F := F) c scM0_1 := by
  unfold anyP slotP
  simp only [slot1_set]
  iintro ⟨⟨%f, P0⟩, P1, P2, P3, P4, P5, P6, P7⟩
  iapply (Ring.pointsTo_blocks_join_exists (Ix := Unit) (Name := ℕ) (U := Pipeline.UD sig nD τ) (Lvl := ℕ) (q := fullShare) pset pset_disjoint pset_cover f)
  irw [bigSep_k]
  isplitl [P0]; · iexists f; iexact P0
  isplitl [P1]; · iexact P1
  isplitl [P2]; · iexact P2
  isplitl [P3]; · iexact P3
  isplitl [P4]; · iexact P4
  isplitl [P5]; · iexact P5
  isplitl [P6]; · iexact P6
  iexact P7

theorem pieces2_split (c : Dev nD) : anyP (F := F) c scM0_2 ⊢ iprop((∃ f, slotP c scM0_2 0 0 q0 f) ∗ (∃ f, slotP c scM0_2 0 1 q1 f) ∗ (∃ f, slotP c scM0_2 0 2 q2 f) ∗ (∃ f, slotP c scM0_2 0 3 q3 f) ∗ (∃ f, slotP c scM0_2 1 0 q0 f) ∗ (∃ f, slotP c scM0_2 1 1 q1 f) ∗ (∃ f, slotP c scM0_2 1 2 q2 f) ∗ (∃ f, slotP c scM0_2 1 3 q3 f)) := by
  unfold anyP slotP
  simp only [slot2_set]
  iintro ⟨%f, H⟩
  ihave H8 := (Entails.of_eq ((Ring.pointsTo_blocks (Ix := Unit) (Name := ℕ) (U := Pipeline.UD sig nD τ) (Lvl := ℕ) (q := fullShare) pset pset_disjoint pset_cover f).trans (bigSep_k _))) $$ H
  icases H8 with ⟨P0, P1, P2, P3, P4, P5, P6, P7⟩
  isplitl [P0]; · iexists f; iexact P0
  isplitl [P1]; · iexists f; iexact P1
  isplitl [P2]; · iexists f; iexact P2
  isplitl [P3]; · iexists f; iexact P3
  isplitl [P4]; · iexists f; iexact P4
  isplitl [P5]; · iexists f; iexact P5
  isplitl [P6]; · iexists f; iexact P6
  iexists f; iexact P7
theorem pieces2_join (c : Dev nD) : iprop((∃ f, slotP c scM0_2 0 0 q0 f) ∗ (∃ f, slotP c scM0_2 0 1 q1 f) ∗ (∃ f, slotP c scM0_2 0 2 q2 f) ∗ (∃ f, slotP c scM0_2 0 3 q3 f) ∗ (∃ f, slotP c scM0_2 1 0 q0 f) ∗ (∃ f, slotP c scM0_2 1 1 q1 f) ∗ (∃ f, slotP c scM0_2 1 2 q2 f) ∗ (∃ f, slotP c scM0_2 1 3 q3 f)) ⊢ anyP (F := F) c scM0_2 := by
  unfold anyP slotP
  simp only [slot2_set]
  iintro ⟨⟨%f, P0⟩, P1, P2, P3, P4, P5, P6, P7⟩
  iapply (Ring.pointsTo_blocks_join_exists (Ix := Unit) (Name := ℕ) (U := Pipeline.UD sig nD τ) (Lvl := ℕ) (q := fullShare) pset pset_disjoint pset_cover f)
  irw [bigSep_k]
  isplitl [P0]; · iexists f; iexact P0
  isplitl [P1]; · iexact P1
  isplitl [P2]; · iexact P2
  isplitl [P3]; · iexact P3
  isplitl [P4]; · iexact P4
  isplitl [P5]; · iexact P5
  isplitl [P6]; · iexact P6
  iexact P7

theorem shares0 (c : Dev nD) (W0 : HbBuf0 (F := F) c hbM0_0) :
    hbPt0 c hbM0_0 W0 ⊣⊢ iprop(wholeP c hbM0_0 W0 0 0 ∗ wholeP c hbM0_0 W0 0 1 ∗ wholeP c hbM0_0 W0 0 2 ∗ wholeP c hbM0_0 W0 0 3 ∗ wholeP c hbM0_0 W0 1 0 ∗ wholeP c hbM0_0 W0 1 1 ∗ wholeP c hbM0_0 W0 1 2 ∗ wholeP c hbM0_0 W0 1 3) := by
  have e : ∀ q : PosShare TreeShare, (hbM0_0.view.loc (c : Thread nD τ) ↦[Finset.univ]{q} W0 : sProp 𝕄) ⊣⊢ iprop((hbM0_0.view.loc (c : Thread nD τ) ↦[Finset.univ]{q.left} W0) ∗ (hbM0_0.view.loc (c : Thread nD τ) ↦[Finset.univ]{q.right} W0)) :=
    fun q => pointsTo_share (PosShare.mem_left_op_right q)
  show (hbM0_0.view.loc (c : Thread nD τ) ↦[Finset.univ]{fullShare} W0 : sProp 𝕄) ⊣⊢ iprop((hbM0_0.view.loc (c : Thread nD τ) ↦[Finset.univ]{fullShare.left.left.left} W0) ∗ (hbM0_0.view.loc (c : Thread nD τ) ↦[Finset.univ]{fullShare.left.left.right} W0) ∗ (hbM0_0.view.loc (c : Thread nD τ) ↦[Finset.univ]{fullShare.left.right.left} W0) ∗ (hbM0_0.view.loc (c : Thread nD τ) ↦[Finset.univ]{fullShare.left.right.right} W0) ∗ (hbM0_0.view.loc (c : Thread nD τ) ↦[Finset.univ]{fullShare.right.left.left} W0) ∗ (hbM0_0.view.loc (c : Thread nD τ) ↦[Finset.univ]{fullShare.right.left.right} W0) ∗ (hbM0_0.view.loc (c : Thread nD τ) ↦[Finset.univ]{fullShare.right.right.left} W0) ∗ (hbM0_0.view.loc (c : Thread nD τ) ↦[Finset.univ]{fullShare.right.right.right} W0))
  constructor
  · iintro H
    ihave H' := (e _).1 $$ H
    icases H' with ⟨A, B⟩
    ihave A' := (e _).1 $$ A
    icases A' with ⟨A, A2⟩
    ihave B' := (e _).1 $$ B
    icases B' with ⟨B, B2⟩
    ihave C0 := (e _).1 $$ A
    icases C0 with ⟨P0, P1⟩
    ihave C1 := (e _).1 $$ A2
    icases C1 with ⟨P2, P3⟩
    ihave C2 := (e _).1 $$ B
    icases C2 with ⟨P4, P5⟩
    ihave C3 := (e _).1 $$ B2
    icases C3 with ⟨P6, P7⟩
    isplitl [P0]; · iexact P0
    isplitl [P1]; · iexact P1
    isplitl [P2]; · iexact P2
    isplitl [P3]; · iexact P3
    isplitl [P4]; · iexact P4
    isplitl [P5]; · iexact P5
    isplitl [P6]; · iexact P6
    iexact P7
  · iintro ⟨P0, P1, P2, P3, P4, P5, P6, P7⟩
    iapply (e _).2
    isplitl [P0 P1 P2 P3]
    · iapply (e _).2
      isplitl [P0 P1]
      · iapply (e _).2; isplitl [P0]; · iexact P0
        iexact P1
      iapply (e _).2; isplitl [P2]; · iexact P2
      iexact P3
    iapply (e _).2
    isplitl [P4 P5]
    · iapply (e _).2; isplitl [P4]; · iexact P4
      iexact P5
    iapply (e _).2; isplitl [P6]; · iexact P6
    iexact P7

theorem shares1 (c : Dev nD) (W1 : HbBuf0 (F := F) c hbM0_1) :
    hbPt0 c hbM0_1 W1 ⊣⊢ iprop(wholeP c hbM0_1 W1 0 0 ∗ wholeP c hbM0_1 W1 0 1 ∗ wholeP c hbM0_1 W1 0 2 ∗ wholeP c hbM0_1 W1 0 3 ∗ wholeP c hbM0_1 W1 1 0 ∗ wholeP c hbM0_1 W1 1 1 ∗ wholeP c hbM0_1 W1 1 2 ∗ wholeP c hbM0_1 W1 1 3) := by
  have e : ∀ q : PosShare TreeShare, (hbM0_1.view.loc (c : Thread nD τ) ↦[Finset.univ]{q} W1 : sProp 𝕄) ⊣⊢ iprop((hbM0_1.view.loc (c : Thread nD τ) ↦[Finset.univ]{q.left} W1) ∗ (hbM0_1.view.loc (c : Thread nD τ) ↦[Finset.univ]{q.right} W1)) :=
    fun q => pointsTo_share (PosShare.mem_left_op_right q)
  show (hbM0_1.view.loc (c : Thread nD τ) ↦[Finset.univ]{fullShare} W1 : sProp 𝕄) ⊣⊢ iprop((hbM0_1.view.loc (c : Thread nD τ) ↦[Finset.univ]{fullShare.left.left.left} W1) ∗ (hbM0_1.view.loc (c : Thread nD τ) ↦[Finset.univ]{fullShare.left.left.right} W1) ∗ (hbM0_1.view.loc (c : Thread nD τ) ↦[Finset.univ]{fullShare.left.right.left} W1) ∗ (hbM0_1.view.loc (c : Thread nD τ) ↦[Finset.univ]{fullShare.left.right.right} W1) ∗ (hbM0_1.view.loc (c : Thread nD τ) ↦[Finset.univ]{fullShare.right.left.left} W1) ∗ (hbM0_1.view.loc (c : Thread nD τ) ↦[Finset.univ]{fullShare.right.left.right} W1) ∗ (hbM0_1.view.loc (c : Thread nD τ) ↦[Finset.univ]{fullShare.right.right.left} W1) ∗ (hbM0_1.view.loc (c : Thread nD τ) ↦[Finset.univ]{fullShare.right.right.right} W1))
  constructor
  · iintro H
    ihave H' := (e _).1 $$ H
    icases H' with ⟨A, B⟩
    ihave A' := (e _).1 $$ A
    icases A' with ⟨A, A2⟩
    ihave B' := (e _).1 $$ B
    icases B' with ⟨B, B2⟩
    ihave C0 := (e _).1 $$ A
    icases C0 with ⟨P0, P1⟩
    ihave C1 := (e _).1 $$ A2
    icases C1 with ⟨P2, P3⟩
    ihave C2 := (e _).1 $$ B
    icases C2 with ⟨P4, P5⟩
    ihave C3 := (e _).1 $$ B2
    icases C3 with ⟨P6, P7⟩
    isplitl [P0]; · iexact P0
    isplitl [P1]; · iexact P1
    isplitl [P2]; · iexact P2
    isplitl [P3]; · iexact P3
    isplitl [P4]; · iexact P4
    isplitl [P5]; · iexact P5
    isplitl [P6]; · iexact P6
    iexact P7
  · iintro ⟨P0, P1, P2, P3, P4, P5, P6, P7⟩
    iapply (e _).2
    isplitl [P0 P1 P2 P3]
    · iapply (e _).2
      isplitl [P0 P1]
      · iapply (e _).2; isplitl [P0]; · iexact P0
        iexact P1
      iapply (e _).2; isplitl [P2]; · iexact P2
      iexact P3
    iapply (e _).2
    isplitl [P4 P5]
    · iapply (e _).2; isplitl [P4]; · iexact P4
      iexact P5
    iapply (e _).2; isplitl [P6]; · iexact P6
    iexact P7

/-- The two rings at rest are the counters at zero, the two scratch buffers at anything and the two arrays. -/
theorem rings_in (c : Dev nD) (W0 : HbBuf0 (F := F) c hbM0_0) (W1 : HbBuf0 (F := F) c hbM0_1) :
    iprop(anyP c scM0_1 ∗ anyP c scM0_2 ∗ iprop(semVal ((c : Thread nD τ), cellR 0 0 0 d0 q0) 0 ∗ semVal ((c : Thread nD τ), cellR 0 0 1 d0 q1) 0 ∗ semVal ((c : Thread nD τ), cellR 0 0 2 d0 q2) 0 ∗ semVal ((c : Thread nD τ), cellR 0 0 3 d0 q3) 0 ∗ semVal ((c : Thread nD τ), cellR 0 1 0 d1 q0) 0 ∗ semVal ((c : Thread nD τ), cellR 0 1 1 d1 q1) 0 ∗ semVal ((c : Thread nD τ), cellR 0 1 2 d1 q2) 0 ∗ semVal ((c : Thread nD τ), cellR 0 1 3 d1 q3) 0 ∗ semVal ((c : Thread nD τ), cellR 1 0 0 d0 q0) 0 ∗ semVal ((c : Thread nD τ), cellR 1 0 1 d0 q1) 0 ∗ semVal ((c : Thread nD τ), cellR 1 0 2 d0 q2) 0 ∗ semVal ((c : Thread nD τ), cellR 1 0 3 d0 q3) 0 ∗ semVal ((c : Thread nD τ), cellR 1 1 0 d1 q0) 0 ∗ semVal ((c : Thread nD τ), cellR 1 1 1 d1 q1) 0 ∗ semVal ((c : Thread nD τ), cellR 1 1 2 d1 q2) 0 ∗ semVal ((c : Thread nD τ), cellR 1 1 3 d1 q3) 0) ∗ hbPt0 c hbM0_0 W0 ∗ hbPt0 c hbM0_1 W1)
      ⊢ iprop(free8 c W0 W1 0 ∗ free8 c W0 W1 1) := by
  iintro ⟨HA, HB, ⟨C0, C1, C2, C3, C4, C5, C6, C7, C8, C9, C10, C11, C12, C13, C14, C15⟩, HX, HY⟩
  ihave HA' := (pieces1_split c) $$ HA
  icases HA' with ⟨⟨%a0, A0⟩, ⟨%a1, A1⟩, ⟨%a2, A2⟩, ⟨%a3, A3⟩, ⟨%a4, A4⟩, ⟨%a5, A5⟩, ⟨%a6, A6⟩, ⟨%a7, A7⟩⟩
  ihave HB' := (pieces2_split c) $$ HB
  icases HB' with ⟨⟨%b0, B0⟩, ⟨%b1, B1⟩, ⟨%b2, B2⟩, ⟨%b3, B3⟩, ⟨%b4, B4⟩, ⟨%b5, B5⟩, ⟨%b6, B6⟩, ⟨%b7, B7⟩⟩
  ihave HX' := (shares0 c W0).1 $$ HX
  icases HX' with ⟨X0, X1, X2, X3, X4, X5, X6, X7⟩
  ihave HY' := (shares1 c W1).1 $$ HY
  icases HY' with ⟨Y0, Y1, Y2, Y3, Y4, Y5, Y6, Y7⟩
  unfold free8 freeP
  isplitl [C0 A0 X0 C1 A1 X1 C2 A2 X2 C3 A3 X3 C4 B0 Y0 C5 B1 Y1 C6 B2 Y2 C7 B3 Y3]
  · isplitl [C0 A0 X0]
    · isplitl [C0]; · iexact C0
      iexists a0; isplitl [A0]; · iexact A0
      iexact X0
    isplitl [C1 A1 X1]
    · isplitl [C1]; · iexact C1
      iexists a1; isplitl [A1]; · iexact A1
      iexact X1
    isplitl [C2 A2 X2]
    · isplitl [C2]; · iexact C2
      iexists a2; isplitl [A2]; · iexact A2
      iexact X2
    isplitl [C3 A3 X3]
    · isplitl [C3]; · iexact C3
      iexists a3; isplitl [A3]; · iexact A3
      iexact X3
    isplitl [C4 B0 Y0]
    · isplitl [C4]; · iexact C4
      iexists b0; isplitl [B0]; · iexact B0
      iexact Y0
    isplitl [C5 B1 Y1]
    · isplitl [C5]; · iexact C5
      iexists b1; isplitl [B1]; · iexact B1
      iexact Y1
    isplitl [C6 B2 Y2]
    · isplitl [C6]; · iexact C6
      iexists b2; isplitl [B2]; · iexact B2
      iexact Y2
    isplitl [C7]; · iexact C7
    iexists b3; isplitl [B3]; · iexact B3
    iexact Y3
  isplitl [C8 A4 X4]
  · isplitl [C8]; · iexact C8
    iexists a4; isplitl [A4]; · iexact A4
    iexact X4
  isplitl [C9 A5 X5]
  · isplitl [C9]; · iexact C9
    iexists a5; isplitl [A5]; · iexact A5
    iexact X5
  isplitl [C10 A6 X6]
  · isplitl [C10]; · iexact C10
    iexists a6; isplitl [A6]; · iexact A6
    iexact X6
  isplitl [C11 A7 X7]
  · isplitl [C11]; · iexact C11
    iexists a7; isplitl [A7]; · iexact A7
    iexact X7
  isplitl [C12 B4 Y4]
  · isplitl [C12]; · iexact C12
    iexists b4; isplitl [B4]; · iexact B4
    iexact Y4
  isplitl [C13 B5 Y5]
  · isplitl [C13]; · iexact C13
    iexists b5; isplitl [B5]; · iexact B5
    iexact Y5
  isplitl [C14 B6 Y6]
  · isplitl [C14]; · iexact C14
    iexists b6; isplitl [B6]; · iexact B6
    iexact Y6
  isplitl [C15]; · iexact C15
  iexists b7; isplitl [B7]; · iexact B7
  iexact Y7

theorem rings_out (c : Dev nD) (W0 : HbBuf0 (F := F) c hbM0_0) (W1 : HbBuf0 (F := F) c hbM0_1) :
    iprop(free8 c W0 W1 0 ∗ free8 c W0 W1 1)
      ⊢ iprop(anyP c scM0_1 ∗ anyP c scM0_2 ∗ iprop(semVal ((c : Thread nD τ), cellR 0 0 0 d0 q0) 0 ∗ semVal ((c : Thread nD τ), cellR 0 0 1 d0 q1) 0 ∗ semVal ((c : Thread nD τ), cellR 0 0 2 d0 q2) 0 ∗ semVal ((c : Thread nD τ), cellR 0 0 3 d0 q3) 0 ∗ semVal ((c : Thread nD τ), cellR 0 1 0 d1 q0) 0 ∗ semVal ((c : Thread nD τ), cellR 0 1 1 d1 q1) 0 ∗ semVal ((c : Thread nD τ), cellR 0 1 2 d1 q2) 0 ∗ semVal ((c : Thread nD τ), cellR 0 1 3 d1 q3) 0 ∗ semVal ((c : Thread nD τ), cellR 1 0 0 d0 q0) 0 ∗ semVal ((c : Thread nD τ), cellR 1 0 1 d0 q1) 0 ∗ semVal ((c : Thread nD τ), cellR 1 0 2 d0 q2) 0 ∗ semVal ((c : Thread nD τ), cellR 1 0 3 d0 q3) 0 ∗ semVal ((c : Thread nD τ), cellR 1 1 0 d1 q0) 0 ∗ semVal ((c : Thread nD τ), cellR 1 1 1 d1 q1) 0 ∗ semVal ((c : Thread nD τ), cellR 1 1 2 d1 q2) 0 ∗ semVal ((c : Thread nD τ), cellR 1 1 3 d1 q3) 0) ∗ hbPt0 c hbM0_0 W0 ∗ hbPt0 c hbM0_1 W1) := by
  unfold free8 freeP
  iintro ⟨⟨⟨C0, ⟨%a0, A0, X0⟩⟩, ⟨C1, ⟨%a1, A1, X1⟩⟩, ⟨C2, ⟨%a2, A2, X2⟩⟩, ⟨C3, ⟨%a3, A3, X3⟩⟩, ⟨C4, ⟨%b0, B0, Y0⟩⟩, ⟨C5, ⟨%b1, B1, Y1⟩⟩, ⟨C6, ⟨%b2, B2, Y2⟩⟩, ⟨C7, ⟨%b3, B3, Y3⟩⟩⟩, ⟨⟨C8, ⟨%a4, A4, X4⟩⟩, ⟨C9, ⟨%a5, A5, X5⟩⟩, ⟨C10, ⟨%a6, A6, X6⟩⟩, ⟨C11, ⟨%a7, A7, X7⟩⟩, ⟨C12, ⟨%b4, B4, Y4⟩⟩, ⟨C13, ⟨%b5, B5, Y5⟩⟩, ⟨C14, ⟨%b6, B6, Y6⟩⟩, ⟨C15, ⟨%b7, B7, Y7⟩⟩⟩⟩
  isplitl [A0 A1 A2 A3 A4 A5 A6 A7]
  · iapply (pieces1_join c)
    isplitl [A0]; · iexists _; iexact A0
    isplitl [A1]; · iexists _; iexact A1
    isplitl [A2]; · iexists _; iexact A2
    isplitl [A3]; · iexists _; iexact A3
    isplitl [A4]; · iexists _; iexact A4
    isplitl [A5]; · iexists _; iexact A5
    isplitl [A6]; · iexists _; iexact A6
    iexists _; iexact A7
  isplitl [B0 B1 B2 B3 B4 B5 B6 B7]
  · iapply (pieces2_join c)
    isplitl [B0]; · iexists _; iexact B0
    isplitl [B1]; · iexists _; iexact B1
    isplitl [B2]; · iexists _; iexact B2
    isplitl [B3]; · iexists _; iexact B3
    isplitl [B4]; · iexists _; iexact B4
    isplitl [B5]; · iexists _; iexact B5
    isplitl [B6]; · iexists _; iexact B6
    iexists _; iexact B7
  isplitl [C0 C1 C2 C3 C4 C5 C6 C7 C8 C9 C10 C11 C12 C13 C14 C15]
  · isplitl [C0]; · iexact C0
    isplitl [C1]; · iexact C1
    isplitl [C2]; · iexact C2
    isplitl [C3]; · iexact C3
    isplitl [C4]; · iexact C4
    isplitl [C5]; · iexact C5
    isplitl [C6]; · iexact C6
    isplitl [C7]; · iexact C7
    isplitl [C8]; · iexact C8
    isplitl [C9]; · iexact C9
    isplitl [C10]; · iexact C10
    isplitl [C11]; · iexact C11
    isplitl [C12]; · iexact C12
    isplitl [C13]; · iexact C13
    isplitl [C14]; · iexact C14
    iexact C15
  isplitl [X0 X1 X2 X3 X4 X5 X6 X7]
  · iapply (shares0 c W0).2
    isplitl [X0]; · iexact X0
    isplitl [X1]; · iexact X1
    isplitl [X2]; · iexact X2
    isplitl [X3]; · iexact X3
    isplitl [X4]; · iexact X4
    isplitl [X5]; · iexact X5
    isplitl [X6]; · iexact X6
    iexact X7
  iapply (shares1 c W1).2
  isplitl [Y0]; · iexact Y0
  isplitl [Y1]; · iexact Y1
  isplitl [Y2]; · iexact Y2
  isplitl [Y3]; · iexact Y3
  isplitl [Y4]; · iexact Y4
  isplitl [Y5]; · iexact Y5
  isplitl [Y6]; · iexact Y6
  iexact Y7

/-! ## The kit over the algebra of copies -/

set_option maxHeartbeats 800000 in
/-- @main up to the region. -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem beforeD_0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem beforeD_1 {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem beforeD_2 {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem beforeD_3 {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem beforeD_4 {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem beforeD_5 {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem beforeD_6 {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem beforeD_7 {c : Dev nD} (dat : Dat τ (Elt F) Unit ℕ (Pipeline.UD sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem beforeD_8 {c : Dev nD} (dat : Dat τ (Elt F) Unit ℕ (Pipeline.UD sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

end Cert.Kernel2Ideal.Ffn

end
-- ==== Proof.FfnFrame.lean ====
module

public import proofs.«01_k».proof.Proof.FfnRunFirst
public import proofs.«01_k».proof.Proof.FfnRunMiddle
public import proofs.«01_k».proof.Proof.FfnRunLast
public import proofs.«01_k».proof.Proof.FfnRunEnd
public import proofs.«01_k».proof.Proof.FfnRing
public import Idealize.ShloMosaic.Lib.Claim

@[expose] public section

set_option maxRecDepth 16384

noncomputable section

namespace Cert.Kernel2Ideal.Ffn

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## Where the prompt rows' window is used -/

/-- Every window but the two results is used at every point. -/
theorem live : ∀ (w : Fin cfg0.W), w ≠ 9 → w ≠ 10 → ∀ t : Fin cfg0.N, cfg0.idle w (grid0.coords t) = false := by
  decide +kernel
theorem live_9 : ∀ t : Fin cfg0.N, t.val < 32 → cfg0.idle 9 (grid0.coords t) = false := by decide +kernel
theorem idle_9 : ∀ t : Fin cfg0.N, ¬ t.val < 32 → cfg0.idle 9 (grid0.coords t) = true ∧ (cfg0.win 9).flush t = true := by decide +kernel

/-- Whether the prompt rows' buffer holds nothing stored since its last write-back: before every point but the last. -/
def freshTab (n : ℕ) : Bool := n != 32
theorem fresh_9 (t : Fin cfg0.N) : cfg0.fresh 9 t.val = freshTab t.val :=
  Pipeline.Cfg.fresh_tab cfg0 9 freshTab rfl (by decide +kernel) t.val (Nat.le_of_lt t.isLt)

/-- The point whose block a point's prompt rows are: the last point's are the point before's. -/
def pt (t : Fin cfg0.N) : Fin cfg0.N := ⟨min t.val 31, by have := t.isLt; omega⟩
theorem pt_lt (t : Fin cfg0.N) : (pt t).val < 32 := by show min t.val 31 < 32; omega
theorem pt_of_lt (t : Fin cfg0.N) (h : t.val < 32) : pt t = t := by apply Fin.ext; show min t.val 31 = t.val; omega
theorem pt_pred (t : Fin cfg0.N) (h : ¬ t.val < 32) (hp : t.val - 1 < cfg0.N) : pt ⟨t.val - 1, hp⟩ = pt t := by
  apply Fin.ext; show min (t.val - 1) 31 = min t.val 31; omega

/-! ## What the body stores at a point -/

/-- The pieces the body stores into the prompt rows at the first point; -/
def pcsA (c : Dev nD) (t : Fin cfg0.N) (h : t.val = 0) :=
  runFirst c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((cond1_iff t).mpr h) ((cond2_iff t).mpr (by omega)) ((cond3_iff t).mpr (by omega)) (fun e => absurd ((cond4_iff t).mp e) (by omega)) (iblk m c 0 t) (iblk m c 1 t) (iblk m c 2 t) (iblk m c 3 t) (iblk m c 4 t) (iblk m c 5 t) (iblk m c 6 t) (iblk m c 7 t) (iblk m c 8 t) (V m c main_v11) (V m c main_v12)
/-- they cover the block; -/
theorem covA (c : Dev nD) (t : Fin cfg0.N) (h : t.val = 0) (y : S512x1024.Idx) : ∃ pc ∈ (pcsA m c t h).1, y ∈ pc.1.set :=
  View.cover_of_tiledL (pcsA m c t h).1 S256x1024.size (by sl_kernel_rfl) y
/-- and read back they are. -/
def outA (c : Dev nD) (t : Fin cfg0.N) (h : t.val = 0) : Vec F S512x1024 .f32 :=
  VO0_9.read (Elt F) (VO0_9.writes (Elt F) VO0_9.junk (pcsA m c t h).1)

/-- The pieces the body stores into the prompt rows at a middle point; -/
def pcsB (c : Dev nD) (t : Fin cfg0.N) (h : 0 < t.val ∧ t.val < 31) :=
  runMiddle c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun e => absurd ((cond1_iff t).mp e) (by omega)) ((cond2_iff t).mpr h.2) ((cond3_iff t).mpr (by omega)) (fun e => absurd ((cond4_iff t).mp e) (by omega)) (iblk m c 0 t) (iblk m c 1 t) (iblk m c 2 t) (iblk m c 3 t) (iblk m c 4 t) (iblk m c 5 t) (iblk m c 6 t) (iblk m c 7 t) (iblk m c 8 t) (V m c main_v11) (V m c main_v12)
/-- they cover the block; -/
theorem covB (c : Dev nD) (t : Fin cfg0.N) (h : 0 < t.val ∧ t.val < 31) (y : S512x1024.Idx) : ∃ pc ∈ (pcsB m c t h).1, y ∈ pc.1.set :=
  View.cover_of_tiledL (pcsB m c t h).1 S256x1024.size (by sl_kernel_rfl) y
/-- and read back they are. -/
def outB (c : Dev nD) (t : Fin cfg0.N) (h : 0 < t.val ∧ t.val < 31) : Vec F S512x1024 .f32 :=
  VO0_9.read (Elt F) (VO0_9.writes (Elt F) VO0_9.junk (pcsB m c t h).1)

/-- The pieces the body stores into the prompt rows at the last block's point; -/
def pcsC (c : Dev nD) (t : Fin cfg0.N) (h : t.val = 31) :=
  runLast c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun e => absurd ((cond1_iff t).mp e) (by omega)) (fun e => absurd ((cond2_iff t).mp e) (by omega)) ((cond3_iff t).mpr (by omega)) (fun e => absurd ((cond4_iff t).mp e) (by omega)) (iblk m c 0 t) (iblk m c 1 t) (iblk m c 2 t) (iblk m c 3 t) (iblk m c 4 t) (iblk m c 5 t) (iblk m c 6 t) (iblk m c 7 t) (iblk m c 8 t) (V m c main_v11) (V m c main_v12)
/-- they cover the block; -/
theorem covC (c : Dev nD) (t : Fin cfg0.N) (h : t.val = 31) (y : S512x1024.Idx) : ∃ pc ∈ (pcsC m c t h).1, y ∈ pc.1.set :=
  View.cover_of_tiledL (pcsC m c t h).1 S256x1024.size (by sl_kernel_rfl) y
/-- and read back they are. -/
def outC (c : Dev nD) (t : Fin cfg0.N) (h : t.val = 31) : Vec F S512x1024 .f32 :=
  VO0_9.read (Elt F) (VO0_9.writes (Elt F) VO0_9.junk (pcsC m c t h).1)

/-- The prompt rows of a point with a block of its own, -/
def outN (c : Dev nD) (t : Fin cfg0.N) (h : t.val < 32) : Vec F S512x1024 .f32 :=
  if h0 : t.val = 0 then outA m c t h0 else if h1 : t.val < 31 then outB m c t ⟨by omega, h1⟩ else outC m c t (by omega)
theorem outN_congr (c : Dev nD) {t s : Fin cfg0.N} (e : t = s) (h : t.val < 32) (h' : s.val < 32) : outN m c t h = outN m c s h' := by
  subst e; rfl
/-- and of any point. -/
def outAt (c : Dev nD) (t : Fin cfg0.N) : Vec F S512x1024 .f32 := outN m c (pt t) (pt_lt t)
theorem outAt_of_lt (c : Dev nD) (t : Fin cfg0.N) (h : t.val < 32) : outAt m c t = outN m c t h := outN_congr m c (pt_of_lt t h) _ _

/-! ## The region's proof data -/

/-- Between points: the samples' scratch at anything, the register, the rings. -/
def PhiR (c : Dev nD) (k : ℕ) : sProp 𝕄 :=
  iprop((∃ d, owns (c : Thread nD τ) scM0_0 fullShare d) ∗ (∃ r, prngReg c r) ∗ ringAt c (V m c main_v11) (V m c main_v12) k)

/-- Of the samples' result nothing is said. -/
def forgets0 : Fin 11 → Bool := fun w => w.val == 10

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outAt m c t
    | ⟨10, h⟩ => Pipeline.Dat.unnamed (cfg := cfg0) ⟨10, h⟩ t
    | ⟨_ + 11, h⟩ => absurd h (Nat.not_lt.2 (Nat.le_add_left _ _))
  Φ t := PhiR m c t.val
  q _ := fullShare
  owed _ := 0

theorem A_eq (c : Dev nD) (w : Fin cfg0.W) : (dats m 0 c).A w = V m c (Pipeline.arrRef spec0 w) := by
  dsimp only [dats]
theorem PhiR_castSucc (c : Dev nD) (t : Fin cfg0.N) : (dats m 0 c).Φ t.castSucc = PhiR m c t.val := by
  dsimp only [dats]; simp only [Fin.val_castSucc]
theorem PhiR_succ (c : Dev nD) (t : Fin cfg0.N) : (dats m 0 c).Φ t.succ = PhiR m c (t.val + 1) := by
  dsimp only [dats]; simp only [Fin.val_succ]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = outAt m c t := by dsimp only [dats]

theorem before0_0 (c : Dev nD) (t : Fin cfg0.N) (d) : (dats m 0 c).before 0 t d = iblk m c 0 t :=
  beforeD_0 m (dats m 0 c) (A_eq m c 0) (after0_0 m c) t d
theorem before0_1 (c : Dev nD) (t : Fin cfg0.N) (d) : (dats m 0 c).before 1 t d = iblk m c 1 t :=
  beforeD_1 m (dats m 0 c) (A_eq m c 1) (after0_1 m c) t d
theorem before0_2 (c : Dev nD) (t : Fin cfg0.N) (d) : (dats m 0 c).before 2 t d = iblk m c 2 t :=
  beforeD_2 m (dats m 0 c) (A_eq m c 2) (after0_2 m c) t d
theorem before0_3 (c : Dev nD) (t : Fin cfg0.N) (d) : (dats m 0 c).before 3 t d = iblk m c 3 t :=
  beforeD_3 m (dats m 0 c) (A_eq m c 3) (after0_3 m c) t d
theorem before0_4 (c : Dev nD) (t : Fin cfg0.N) (d) : (dats m 0 c).before 4 t d = iblk m c 4 t :=
  beforeD_4 m (dats m 0 c) (A_eq m c 4) (after0_4 m c) t d
theorem before0_5 (c : Dev nD) (t : Fin cfg0.N) (d) : (dats m 0 c).before 5 t d = iblk m c 5 t :=
  beforeD_5 m (dats m 0 c) (A_eq m c 5) (after0_5 m c) t d
theorem before0_6 (c : Dev nD) (t : Fin cfg0.N) (d) : (dats m 0 c).before 6 t d = iblk m c 6 t :=
  beforeD_6 m (dats m 0 c) (A_eq m c 6) (after0_6 m c) t d
theorem before0_7 (c : Dev nD) (t : Fin cfg0.N) (d) : (dats m 0 c).before 7 t d = iblk m c 7 t :=
  beforeD_7 m (dats m 0 c) (A_eq m c 7) (after0_7 m c) t d
theorem before0_8 (c : Dev nD) (t : Fin cfg0.N) (d) : (dats m 0 c).before 8 t d = iblk m c 8 t :=
  beforeD_8 m (dats m 0 c) (A_eq m c 8) (after0_8 m c) t d
theorem leaves_0 (c : Dev nD) (t : Fin cfg0.N) : (dats m 0 c).leavesExact 0 t = owns (c : Thread nD τ) (ms0_0 t) fullShare (iblk m c 0 t) := by
  unfold Dat.leavesExact; rw [live 0 (by decide) (by decide) t, after0_0]
theorem leaves_1 (c : Dev nD) (t : Fin cfg0.N) : (dats m 0 c).leavesExact 1 t = owns (c : Thread nD τ) (ms0_1 t) fullShare (iblk m c 1 t) := by
  unfold Dat.leavesExact; rw [live 1 (by decide) (by decide) t, after0_1]
theorem leaves_2 (c : Dev nD) (t : Fin cfg0.N) : (dats m 0 c).leavesExact 2 t = owns (c : Thread nD τ) (ms0_2 t) fullShare (iblk m c 2 t) := by
  unfold Dat.leavesExact; rw [live 2 (by decide) (by decide) t, after0_2]
theorem leaves_3 (c : Dev nD) (t : Fin cfg0.N) : (dats m 0 c).leavesExact 3 t = owns (c : Thread nD τ) (ms0_3 t) fullShare (iblk m c 3 t) := by
  unfold Dat.leavesExact; rw [live 3 (by decide) (by decide) t, after0_3]
theorem leaves_4 (c : Dev nD) (t : Fin cfg0.N) : (dats m 0 c).leavesExact 4 t = owns (c : Thread nD τ) (ms0_4 t) fullShare (iblk m c 4 t) := by
  unfold Dat.leavesExact; rw [live 4 (by decide) (by decide) t, after0_4]
theorem leaves_5 (c : Dev nD) (t : Fin cfg0.N) : (dats m 0 c).leavesExact 5 t = owns (c : Thread nD τ) (ms0_5 t) fullShare (iblk m c 5 t) := by
  unfold Dat.leavesExact; rw [live 5 (by decide) (by decide) t, after0_5]
theorem leaves_6 (c : Dev nD) (t : Fin cfg0.N) : (dats m 0 c).leavesExact 6 t = owns (c : Thread nD τ) (ms0_6 t) fullShare (iblk m c 6 t) := by
  unfold Dat.leavesExact; rw [live 6 (by decide) (by decide) t, after0_6]
theorem leaves_7 (c : Dev nD) (t : Fin cfg0.N) : (dats m 0 c).leavesExact 7 t = owns (c : Thread nD τ) (ms0_7 t) fullShare (iblk m c 7 t) := by
  unfold Dat.leavesExact; rw [live 7 (by decide) (by decide) t, after0_7]
theorem leaves_8 (c : Dev nD) (t : Fin cfg0.N) : (dats m 0 c).leavesExact 8 t = owns (c : Thread nD τ) (ms0_8 t) fullShare (iblk m c 8 t) := by
  unfold Dat.leavesExact; rw [live 8 (by decide) (by decide) t, after0_8]

theorem carry_9 (c : Dev nD) (t : Fin cfg0.N) (_ : t.val ≠ 0) (hi : cfg0.idle 9 (grid0.coords t) = true) (_ : cfg0.fresh 9 t.val = false) :
    (dats m 0 c).after 9 t = (dats m 0 c).after 9 ⟨t.val - 1, by omega⟩ := by
  have h : ¬ t.val < 32 := fun h => by rw [live_9 t h] at hi; exact absurd hi Bool.false_ne_true
  rw [after0_9, after0_9]
  exact outN_congr m c (pt_pred t h _).symm _ _
/-- The last point finds the rows the point before stored, and leaves them. -/
theorem before0_9 (c : Dev nD) (t : Fin cfg0.N) (h : t.val = 32) (d) : (dats m 0 c).before 9 t d = outAt m c t := by
  rw [Dat.before_out_traj _ 9 rfl (fun _ _ => rfl) (carry_9 m c) t.val t rfl d,
    if_neg (by rw [fresh_9, h]; exact Bool.false_ne_true), after0_9]
  exact outN_congr m c (pt_pred t (by omega) _) _ _
theorem leaves_9 (c : Dev nD) (t : Fin cfg0.N) : (dats m 0 c).leavesExact 9 t = owns (c : Thread nD τ) (ms0_9 t) fullShare (outAt m c t) := by
  by_cases h : t.val < 32
  · unfold Dat.leavesExact; rw [live_9 t h, after0_9]
  · unfold Dat.leavesExact; rw [(idle_9 t h).1, (idle_9 t h).2, after0_9]

/-! ## The rings around a point -/

section RingAt
variable (c : Dev nD) (W0 : HbBuf0 (F := F) c hbM0_0) (W1 : HbBuf0 (F := F) c hbM0_1)
omit [FloatOps F] [Named F]
theorem sl_two (k : ℕ) : Ring.sl 2 (k + 1 + 1) = Ring.sl 2 k := by
  apply Fin.ext; show (k + 1 + 1) % 2 = k % 2; omega
theorem ringAt_first (k : ℕ) (h : k = 0) : ringAt c W0 W1 k = iprop(free8 c W0 W1 (Ring.sl 2 k) ∗ free8 c W0 W1 (Ring.sl 2 (k + 1))) := by
  subst h; unfold ringAt; rw [if_neg (by omega)]; rfl
theorem ringAt_here (k : ℕ) (h : 1 ≤ k ∧ k < 32) : ringAt c W0 W1 k = iprop(fly8 c W0 W1 (Ring.sl 2 k) (Ring.bk 32 k) ∗ free8 c W0 W1 (Ring.sl 2 (k + 1))) := by
  unfold ringAt; rw [if_pos h]
theorem ringAt_next (k : ℕ) (h : k + 1 < 32) :
    ringAt c W0 W1 (k + 1) = iprop(fly8 c W0 W1 (Ring.sl 2 (k + 1)) (Ring.bk 32 (k + 1)) ∗ free8 c W0 W1 (Ring.sl 2 k)) := by
  rw [ringAt_here c W0 W1 (k + 1) ⟨by omega, h⟩, sl_two]
theorem ringAt_done (k : ℕ) (h : k = 31) :
    ringAt c W0 W1 (k + 1) = iprop(free8 c W0 W1 (Ring.sl 2 (k + 1)) ∗ free8 c W0 W1 (Ring.sl 2 k)) := by
  subst h; unfold ringAt; rw [if_neg (by omega)]; rfl
theorem ringAt_rest (k : ℕ) (h : 32 ≤ k ∨ k = 0) : ringAt c W0 W1 k = iprop(free8 c W0 W1 0 ∗ free8 c W0 W1 1) := by
  unfold ringAt; rw [if_neg (by omega)]
end RingAt

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare d))
/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (∃ d, owns (c : Thread nD τ) (ms0_10 t) fullShare d))

set_option maxHeartbeats 6400000 in
theorem body_A (c : Dev nD) (t : Fin cfg0.N) (h : t.val = 0) :
    bodyPre m c t ⊢ wp frame (wpE (defs₀ (F := F)) Variants.none c none) Set.univ (bodyAt0 t) (fun _ => bodyPost m c t) := by
  unfold bodyPre bodyPost bodyAt0
  rw [leaves_0, leaves_1, leaves_2, leaves_3, leaves_4, leaves_5, leaves_6, leaves_7, leaves_8, leaves_9]
  simp only [before0_0, before0_1, before0_2, before0_3, before0_4, before0_5, before0_6, before0_7, before0_8]
  rw [PhiR_castSucc, PhiR_succ]
  unfold Dat.owesAt Pipeline.owesWithin
  rw [show (dats m 0 c).owed t.castSucc = 0 from rfl, show (dats m 0 c).owed t.succ = 0 from rfl]
  unfold PhiR
  rw [ringAt_first c _ _ t.val h, ringAt_next c _ _ t.val (by omega)]
  rw [outAt_of_lt m c t (by omega), show outN m c t (by omega) = outA m c t h from dif_pos h]
  unfold outA
  iintro ⟨⟨HS, Hg, HR1, HR2⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((pcsA m c t h).2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [HS]; · iexact HS
  isplitl [HR1]; · iexact HR1
  isplitl [HR2]; · iexact HR2
  isplitl [HW]; · iexact HW
  iintro ⟨H0, H1, H2, H3, H4, H5, H6, H7, H8, ⟨%e9, H9⟩, H10, HS, HR1, HR2, ⟨%W', HW'⟩⟩
  isplitl [HS Hg HR1 HR2]
  · isplitl [HS]; · iexact HS
    isplitl [Hg]; · iexact Hg
    isplitl [HR1]; · iexact HR1
    iexact HR2
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_of_cover _ _ _ _ _ (covA m c t h)
  iexact H10

set_option maxHeartbeats 6400000 in
theorem body_B (c : Dev nD) (t : Fin cfg0.N) (h : 0 < t.val ∧ t.val < 31) :
    bodyPre m c t ⊢ wp frame (wpE (defs₀ (F := F)) Variants.none c none) Set.univ (bodyAt0 t) (fun _ => bodyPost m c t) := by
  unfold bodyPre bodyPost bodyAt0
  rw [leaves_0, leaves_1, leaves_2, leaves_3, leaves_4, leaves_5, leaves_6, leaves_7, leaves_8, leaves_9]
  simp only [before0_0, before0_1, before0_2, before0_3, before0_4, before0_5, before0_6, before0_7, before0_8]
  rw [PhiR_castSucc, PhiR_succ]
  unfold Dat.owesAt Pipeline.owesWithin
  rw [show (dats m 0 c).owed t.castSucc = 0 from rfl, show (dats m 0 c).owed t.succ = 0 from rfl]
  unfold PhiR
  rw [ringAt_here c _ _ t.val ⟨by omega, by omega⟩, ringAt_next c _ _ t.val (by omega)]
  rw [outAt_of_lt m c t (by omega), show outN m c t (by omega) = outB m c t h from (dif_neg (by omega)).trans (dif_pos h.2)]
  unfold outB
  iintro ⟨⟨HS, Hg, HR1, HR2⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((pcsB m c t h).2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [HS]; · iexact HS
  isplitl [HR1]; · iexact HR1
  isplitl [HR2]; · iexact HR2
  isplitl [HW]; · iexact HW
  iintro ⟨H0, H1, H2, H3, H4, H5, H6, H7, H8, ⟨%e9, H9⟩, H10, HS, HR1, HR2, ⟨%W', HW'⟩⟩
  isplitl [HS Hg HR1 HR2]
  · isplitl [HS]; · iexact HS
    isplitl [Hg]; · iexact Hg
    isplitl [HR1]; · iexact HR1
    iexact HR2
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_of_cover _ _ _ _ _ (covB m c t h)
  iexact H10

set_option maxHeartbeats 6400000 in
theorem body_C (c : Dev nD) (t : Fin cfg0.N) (h : t.val = 31) :
    bodyPre m c t ⊢ wp frame (wpE (defs₀ (F := F)) Variants.none c none) Set.univ (bodyAt0 t) (fun _ => bodyPost m c t) := by
  unfold bodyPre bodyPost bodyAt0
  rw [leaves_0, leaves_1, leaves_2, leaves_3, leaves_4, leaves_5, leaves_6, leaves_7, leaves_8, leaves_9]
  simp only [before0_0, before0_1, before0_2, before0_3, before0_4, before0_5, before0_6, before0_7, before0_8]
  rw [PhiR_castSucc, PhiR_succ]
  unfold Dat.owesAt Pipeline.owesWithin
  rw [show (dats m 0 c).owed t.castSucc = 0 from rfl, show (dats m 0 c).owed t.succ = 0 from rfl]
  unfold PhiR
  rw [ringAt_here c _ _ t.val ⟨by omega, by omega⟩, ringAt_done c _ _ t.val h]
  rw [outAt_of_lt m c t (by omega), show outN m c t (by omega) = outC m c t h from (dif_neg (by omega)).trans (dif_neg (by omega))]
  unfold outC
  iintro ⟨⟨HS, Hg, HR1, HR2⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((pcsC m c t h).2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [HS]; · iexact HS
  isplitl [HR1]; · iexact HR1
  isplitl [HW]; · iexact HW
  iintro ⟨H0, H1, H2, H3, H4, H5, H6, H7, H8, ⟨%e9, H9⟩, H10, HS, HR1, ⟨%W', HW'⟩⟩
  isplitl [HS Hg HR1 HR2]
  · isplitl [HS]; · iexact HS
    isplitl [Hg]; · iexact Hg
    isplitl [HR2]; · iexact HR2
    iexact HR1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_of_cover _ _ _ _ _ (covC m c t h)
  iexact H10

set_option maxHeartbeats 6400000 in
theorem body_D (c : Dev nD) (t : Fin cfg0.N) (h : t.val = 32) :
    bodyPre m c t ⊢ wp frame (wpE (defs₀ (F := F)) Variants.none c none) Set.univ (bodyAt0 t) (fun _ => bodyPost m c t) := by
  unfold bodyPre bodyPost bodyAt0
  rw [leaves_0, leaves_1, leaves_2, leaves_3, leaves_4, leaves_5, leaves_6, leaves_7, leaves_8, leaves_9]
  simp only [before0_0, before0_1, before0_2, before0_3, before0_4, before0_5, before0_6, before0_7, before0_8, before0_9 m c t h]
  rw [PhiR_castSucc, PhiR_succ]
  unfold Dat.owesAt Pipeline.owesWithin
  rw [show (dats m 0 c).owed t.castSucc = 0 from rfl, show (dats m 0 c).owed t.succ = 0 from rfl]
  unfold PhiR
  rw [ringAt_rest c _ _ t.val (Or.inl (by omega)), ringAt_rest c _ _ (t.val + 1) (Or.inl (by omega))]

  iintro ⟨⟨HS, Hg, HR1, HR2⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (runEnd c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun e => absurd ((cond1_iff t).mp e) (by omega)) (fun e => absurd ((cond2_iff t).mp e) (by omega)) (fun e => absurd ((cond3_iff t).mp e) (by omega)) ((cond4_iff t).mpr h) (iblk m c 0 t) (iblk m c 1 t) (iblk m c 2 t) (iblk m c 3 t) (iblk m c 4 t) (iblk m c 5 t) (iblk m c 6 t) (iblk m c 7 t) (iblk m c 8 t) (V m c main_v11) (V m c main_v12) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H10]; · iexists _; iexact H10
  isplitl [HS]; · iexact HS
  isplitl [HW]; · iexact HW
  iintro ⟨H0, H1, H2, H3, H4, H5, H6, H7, H8, H10, HS, ⟨%W', HW'⟩⟩
  isplitl [HS Hg HR1 HR2]
  · isplitl [HS]; · iexact HS
    isplitl [Hg]; · iexact Hg
    isplitl [HR1]; · iexact HR1
    iexact HR2
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 33 := t.isLt
  rcases Nat.eq_zero_or_pos t.val with h | h
  · exact body_A m c t h
  · rcases Nat.lt_or_ge t.val 31 with h' | h'
    · exact body_B m c t ⟨h, h'⟩
    · rcases Nat.eq_or_lt_of_le h' with h'' | h''
      · exact body_C m c t h''.symm
      · exact body_D m c t (by omega)

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

theorem hin (c : Dev nD) : Pipeline.ΦD osem0 spec0 H0 (V m) c ⊢ (dats m 0 c).Φ 0 := by
  rw [PhiD0_eq, show (dats m 0 c).Φ 0 = PhiR m c 0 from rfl]
  unfold PhiR
  rw [ringAt_rest c _ _ 0 (Or.inr rfl)]
  iintro ⟨⟨HS, HA, HB⟩, Hg, HC, HX, HY⟩
  isplitl [HS]; · iexact HS
  isplitl [Hg]; · iexact Hg
  iapply (rings_in c (V m c main_v11) (V m c main_v12))
  isplitl [HA]; · iexact HA
  isplitl [HB]; · iexact HB
  isplitl [HC]; · iexact HC
  isplitl [HX]; · iexact HX
  iexact HY
theorem hout (c : Dev nD) : (dats m 0 c).Φ (Fin.last cfg0.N) ⊢ Pipeline.ΦD osem0 spec0 H0 (V m) c := by
  rw [PhiD0_eq, show (dats m 0 c).Φ (Fin.last cfg0.N) = PhiR m c grid0.N from rfl]
  unfold PhiR
  rw [ringAt_rest c _ _ grid0.N (Or.inl (by rw [N_0]; omega))]
  iintro ⟨HS, Hg, HR⟩
  ihave HR' := (rings_out c (V m c main_v11) (V m c main_v12)) $$ HR
  icases HR' with ⟨HA, HB, HC, HX, HY⟩
  isplitl [HS HA HB]
  · isplitl [HS]; · iexact HS
    isplitl [HA]; · iexact HA
    iexact HB
  isplitl [Hg]; · iexact Hg
  isplitl [HC]; · iexact HC
  isplitl [HX]; · iexact HX
  iexact HY

set_option backward.isDefEq.respectTransparency.types false in
/-- Every fair execution ends, with every array the proof data names as it says, the samples' result at anything, every
    other buffer as the region found it, and every counter at zero. -/
theorem run_quiet : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_dma_forget (Q' := _) cfgs (dats m) (0 : Fin 1) launch0 osem0 defs₀ Variants.none forgets0 ownSemFacts0 H0 H0_sub m ρ main
    (hbody := fun c => (body_obligation m c).loose) (hshare := fun c => (dats m 0 c).share_full fun _ => rfl)
    (howed := fun _ _ => rfl) (V := V m) (hmain := hmainD m Variants.none) (hA := A_eq m) (hin := hin m) (hout := hout m)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_quiet m ρ)

/-- The argument arrays end unchanged; -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(Pipeline.RDat.FramePost.arr_in (cfg₁ := cfg0) h c 0 rfl).trans ((A_eq m c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      (Pipeline.RDat.FramePost.arr_in (cfg₁ := cfg0) h c 6 rfl).trans ((A_eq m c 6).trans (V_main_arg6 m c)),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      (Pipeline.RDat.FramePost.arr_in (cfg₁ := cfg0) h c 7 rfl).trans ((A_eq m c 7).trans (V_main_arg9 m c)),
      ((h c).2 main_arg10 (Pipeline.mem_restRefs_of main_arg10 (by decide) (by decide))).trans (V_main_arg10 m c)⟩) (run_main m ρ)

/-- and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_quiet m ρ))

end Cert.Kernel2Ideal.Ffn

end
-- ==== Proof.FfnSpec.lean ====
module

public import proofs.«01_k».proof.Proof.FfnFrame
public import Idealize.ShloMosaic.Lib.Pipeline.ValueKit

@[expose] public section

set_option maxRecDepth 16384

noncomputable section

namespace Cert.Kernel2Ideal.Ffn

open Cert.Kernel2Ideal Cert.Kernel2Ideal.Gen
open Idealize.ShloMosaic Idealize.ShloMosaic.TcCoe Idealize.SL.Sem
open Idealize.ShloMosaic.Pipeline (Dat)

/-! ## The mathematics of one row of the feed-forward block, on plain functions of the column -/

/-- A row `x` divided by the root of its mean square (plus the small constant), times the weight row `g`, at column `k`. -/
def nrm (x g : Fin 1024 → EReal) (k : Fin 1024) : EReal :=
  x k * Ideal.rsqrt (Ideal.div (∑ j, x j * x j) (Ideal.ofBits FTy.f32 0x44800000#32)
    + Ideal.ofBits FTy.f32 0x358637BD#32) * g k

/-- `a` times its logistic. -/
def silu (a : EReal) : EReal :=
  a * Ideal.div 1 (1 + Ideal.exp (-a))

/-- The gated hidden row of the normalized row `y`. -/
def hidden (y : Fin 1024 → EReal) (wg wu : Fin 1024 → Fin 2816 → EReal) (n : Fin 2816) : EReal :=
  silu (∑ k, y k * wg k n) * ∑ k, y k * wu k n

/-- The row with the feed-forward output added. -/
def added (x g : Fin 1024 → EReal) (wg wu : Fin 1024 → Fin 2816 → EReal) (wd : Fin 2816 → Fin 1024 → EReal) (e : Fin 1024) : EReal :=
  x e + ∑ n, hidden (nrm x g) wg wu n * wd n e

/-- That row normalized by the final weight row. -/
def ffnRow (x g : Fin 1024 → EReal) (wg wu : Fin 1024 → Fin 2816 → EReal) (wd : Fin 2816 → Fin 1024 → EReal)
    (f : Fin 1024 → EReal) : Fin 1024 → EReal :=
  nrm (added x g wg wu wd) f

/-- Two to the power of `a` times minus the inverse of the logarithm of two is the exponential of minus `a`. -/
theorem exp2_scaled (a : EReal) : FloatOps.exp2 (F := Ideal) (φ := .f32) (a * ((-((Real.log 2)⁻¹) : ℝ) : EReal)) = Ideal.exp (-a) := by
  show Ideal.exp2 _ = _
  have hl : 0 < Real.log 2 := Real.log_pos (by norm_num)
  have hn : (-((Real.log 2)⁻¹) : ℝ) < 0 := neg_neg_of_pos (inv_pos.mpr hl)
  induction a with
  | bot => rw [EReal.bot_mul_coe_of_neg hn, EReal.neg_bot]; rfl
  | top => rw [EReal.top_mul_coe_of_neg hn, EReal.neg_top]; rfl
  | coe r =>
    rw [← EReal.coe_mul, ← EReal.coe_neg]
    show ((Real.rpow 2 (r * -(Real.log 2)⁻¹) : ℝ) : EReal) = ((Real.exp (-r) : ℝ) : EReal)
    congr 1
    show (2 : ℝ) ^ (r * -(Real.log 2)⁻¹) = Real.exp (-r)
    rw [Real.rpow_def_of_pos (by norm_num)]
    congr 1
    field_simp

/-- The named constant. -/
theorem named_neg_log2e : Named.named (F := Ideal) κ "neg_log2e" (φ := .f32) 0xBFB8AA3B#32 = ((-((Real.log 2)⁻¹) : ℝ) : EReal) := rfl

/-! ## The kernel's stage functions at one entry -/

/-- The normalized rows of the first half, -/
theorem pay3_at (x : Vec Ideal S256x1024 .f32) (g : Vec Ideal S1x1024 .f32) (r : Fin 256) (k : Fin 1024) :
    k0_pay3 (F := Ideal) x g (ix2 r k) = nrm (fun l => x (ix2 r l)) (fun l => g (ix2 0 l)) k := by
  pointwise [k0_pay3]
  rfl
/-- and of the second. -/
theorem pay4_at (x : Vec Ideal S256x1024 .f32) (g : Vec Ideal S1x1024 .f32) (r : Fin 256) (k : Fin 1024) :
    k0_pay4 (F := Ideal) x g (ix2 r k) = nrm (fun l => x (ix2 r l)) (fun l => g (ix2 0 l)) k := by
  pointwise [k0_pay4]
  rfl

/-- The feed-forward output of the second half's rows. -/
theorem pay6_at (y : FVec Ideal S256x1024 .bf16) (wg wu : Vec Ideal S1024x2816 .bf16) (wd : Vec Ideal S2816x1024 .bf16)
    (r : Fin 256) (e : Fin 1024) :
    k0_pay6 (F := Ideal) y wg wu wd (ix2 r e)
      = ∑ n, hidden (fun l => y (ix2 r l)) (fun k n => wg (ix2 k n)) (fun k n => wu (ix2 k n)) n * wd (ix2 n e) := by
  pointwise [k0_pay6]
  simp only [named_neg_log2e, exp2_scaled]
  rfl

/-- The first half's rows with their feed-forward output. -/
theorem pay7_at (x : Vec Ideal S256x1024 .f32) (y : FVec Ideal S256x1024 .bf16) (wg wu : Vec Ideal S1024x2816 .bf16)
    (wd : Vec Ideal S2816x1024 .bf16) (r : Fin 256) (e : Fin 1024) :
    k0_pay7 (F := Ideal) x y (k0_pay5 wg) wu wd (ix2 r e)
      = x (ix2 r e) + ∑ n, hidden (fun l => y (ix2 r l)) (fun k n => wg (ix2 k n)) (fun k n => wu (ix2 k n)) n * wd (ix2 n e) := by
  pointwise [k0_pay7, k0_pay5]
  simp only [named_neg_log2e, exp2_scaled]
  rfl

/-- The first half's result rows, -/
theorem pay8_at (h : FVec Ideal S256x1024 .f32) (f : Vec Ideal S1x1024 .f32) (r : Fin 256) (e : Fin 1024) :
    k0_pay8 (F := Ideal) h f (ix2 r e) = nrm (fun l => h (ix2 r l)) (fun l => f (ix2 0 l)) e := by
  pointwise [k0_pay8]
  rfl
/-- and the second's. -/
theorem pay9_at (x h : Vec Ideal S256x1024 .f32) (f : Vec Ideal S1x1024 .f32) (r : Fin 256) (e : Fin 1024) :
    k0_pay9 (F := Ideal) x h f (ix2 r e) = nrm (fun l => x (ix2 r l) + h (ix2 r l)) (fun l => f (ix2 0 l)) e := by
  pointwise [k0_pay9]
  rfl

/-- Row `i` of a point's result, from the point's rows `X` and the weights. -/
def rowAt (X : Vec Ideal S512x1024 .f32) (g : Vec Ideal S1x1024 .f32) (wg wu : Vec Ideal S1024x2816 .bf16)
    (wd : Vec Ideal S2816x1024 .bf16) (f : Vec Ideal S1x1024 .f32) (i : Fin 512) (e : Fin 1024) : EReal :=
  ffnRow (fun l => X (ix2 i l)) (fun l => g (ix2 0 l)) (fun k n => wg (ix2 k n)) (fun k n => wu (ix2 k n))
    (fun n e => wd (ix2 n e)) (fun l => f (ix2 0 l)) e

/-- The first half, read off the point's rows, -/
theorem first_half (X : Vec Ideal S512x1024 .f32) (x : Vec Ideal S256x1024 .f32) (g f : Vec Ideal S1x1024 .f32)
    (wg wu : Vec Ideal S1024x2816 .bf16) (wd : Vec Ideal S2816x1024 .bf16) (r : Fin 256) (i : Fin 512) (e : Fin 1024)
    (hx : ∀ l, x (ix2 r l) = X (ix2 i l)) :
    k0_pay8 (F := Ideal) (k0_pay7 x (k0_pay3 x g) (k0_pay5 wg) wu wd) f (ix2 r e) = rowAt X g wg wu wd f i e := by
  rw [pay8_at]
  simp only [pay7_at, pay3_at, hx]
  rfl
/-- and the second. -/
theorem second_half (X : Vec Ideal S512x1024 .f32) (x : Vec Ideal S256x1024 .f32) (g f : Vec Ideal S1x1024 .f32)
    (wg wu : Vec Ideal S1024x2816 .bf16) (wd : Vec Ideal S2816x1024 .bf16) (r : Fin 256) (i : Fin 512) (e : Fin 1024)
    (hx : ∀ l, x (ix2 r l) = X (ix2 i l)) :
    k0_pay9 (F := Ideal) x (k0_pay6 (k0_pay4 x g) wg wu wd) f (ix2 r e) = rowAt X g wg wu wd f i e := by
  rw [pay9_at]
  simp only [pay6_at, pay4_at, hx]
  rfl

end Cert.Kernel2Ideal.Ffn

end
-- ==== Proof.FfnBlocks.lean ====
module

public import proofs.«01_k».proof.Proof.FfnSpec
public import Idealize.ShloMosaic.Lib.Pipeline.ReadBack
public import Idealize.ShloMosaic.Lib.Pipeline.ValueKit

@[expose] public section

set_option maxRecDepth 16384

noncomputable section

namespace Cert.Kernel2Ideal.Ffn

open Cert.Kernel2Ideal Cert.Kernel2Ideal.Gen
open Idealize.ShloMosaic Idealize.ShloMosaic.TcCoe Idealize.SL.Sem
open Idealize.ShloMosaic.Pipeline (Dat)

variable (m : (ℓ : Loc nD τ sig) → Buf (Elt Ideal) ℓ)

/-! ## The arrays the host prepared, at one entry -/

/-- The buffer holds argument 2 without its leading unit axis. -/
theorem V1_at (c : Dev nD) (i j) : V m c main_v1 (ix2 i j) = m ((c.tc : Thread nD τ).loc main_arg2) (ix3 0 i j) := by
  entry_read
  pointwise

/-- The buffer holds argument 3 without its leading unit axis. -/
theorem V3_at (c : Dev nD) (i j) : V m c main_v3 (ix2 i j) = m ((c.tc : Thread nD τ).loc main_arg3) (ix3 0 i j) := by
  entry_read
  pointwise

/-- The buffer holds argument 4 without its leading unit axis. -/
theorem V5_at (c : Dev nD) (i j) : V m c main_v5 (ix2 i j) = m ((c.tc : Thread nD τ).loc main_arg4) (ix3 0 i j) := by
  entry_read
  pointwise

/-- The buffer holds argument 1 as one row. -/
theorem V9_at (c : Dev nD) (j) : V m c main_v9 (ix2 0 j) = m ((c.tc : Thread nD τ).loc main_arg1) (ix2 0 j) := by
  entry_read
  pointwise

/-- The buffer holds argument 5 as one row. -/
theorem V10_at (c : Dev nD) (j) : V m c main_v10 (ix2 0 j) = m ((c.tc : Thread nD τ).loc main_arg5) (ix1 j) := by
  entry_read
  pointwise

/-! ## Which block of its array each window takes at a point -/

theorem idx0 : ∀ t : Fin cfg0.N, win0_0.index t = ![min t.val 31, 0] := (by decide +kernel : ∀ t : Fin grid0.N, _)

theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx9 : ∀ t : Fin cfg0.N, win0_9.index t = ![min t.val 31, 0] := (by decide +kernel : ∀ t : Fin grid0.N, _)

/-! ## A block's entry as an entry of the argument array -/

/-- Row `i` of a point's block among the 16384 rows. -/
def rowOf (t : Fin cfg0.N) (i : Fin 512) : Fin 16384 := ⟨min t.val 31 * 512 + i.val, by have := i.isLt; omega⟩

/-- The rows of the point. -/
theorem blk0 (c : Dev nD) (t : Fin cfg0.N) (i : Fin 512) (j : Fin 1024) : iblk m c 0 t (ix2 i j) = m ((c.tc : Thread nD τ).loc main_arg0) (ix2 (rowOf t i) j) := by
  refine Eq.trans (b := V m c main_arg0 (ix2 (rowOf t i) j)) ?_ (congrFun (V_main_arg0 m c) _)
  unfold rowOf
  blk_ext [iblk, idx0 t]

/-- The first weight row. -/
theorem blk1 (c : Dev nD) (t : Fin cfg0.N) (j : Fin 1024) : iblk m c 1 t (ix2 0 j) = m ((c.tc : Thread nD τ).loc main_arg1) (ix2 0 j) := by
  refine Eq.trans (b := V m c main_v9 (ix2 0 j)) ?_ (V9_at m c j)
  blk_ext [iblk, idx1 t]

/-- The gate matrix. -/
theorem blk2 (c : Dev nD) (t : Fin cfg0.N) (i : Fin 1024) (j : Fin 2816) : iblk m c 2 t (ix2 i j) = m ((c.tc : Thread nD τ).loc main_arg2) (ix3 0 i j) := by
  refine Eq.trans (b := V m c main_v1 (ix2 i j)) ?_ (V1_at m c i j)
  blk_ext [iblk, idx2 t]

/-- The up matrix. -/
theorem blk3 (c : Dev nD) (t : Fin cfg0.N) (i : Fin 1024) (j : Fin 2816) : iblk m c 3 t (ix2 i j) = m ((c.tc : Thread nD τ).loc main_arg3) (ix3 0 i j) := by
  refine Eq.trans (b := V m c main_v3 (ix2 i j)) ?_ (V3_at m c i j)
  blk_ext [iblk, idx3 t]

/-- The down matrix. -/
theorem blk4 (c : Dev nD) (t : Fin cfg0.N) (i : Fin 2816) (j : Fin 1024) : iblk m c 4 t (ix2 i j) = m ((c.tc : Thread nD τ).loc main_arg4) (ix3 0 i j) := by
  refine Eq.trans (b := V m c main_v5 (ix2 i j)) ?_ (V5_at m c i j)
  blk_ext [iblk, idx4 t]

/-- The final weight row. -/
theorem blk5 (c : Dev nD) (t : Fin cfg0.N) (j : Fin 1024) : iblk m c 5 t (ix2 0 j) = m ((c.tc : Thread nD τ).loc main_arg5) (ix1 j) := by
  refine Eq.trans (b := V m c main_v10 (ix2 0 j)) ?_ (V10_at m c j)
  blk_ext [iblk, idx5 t]

/-! ## What a point's prompt rows are -/

/-- The rows the first point stores. -/
theorem outA_at (c : Dev nD) (t : Fin cfg0.N) (h : t.val = 0) (i : Fin 512) (e : Fin 1024) :
    outA m c t h (ix2 i e) = rowAt (iblk m c 0 t) (iblk m c 1 t) (iblk m c 2 t) (iblk m c 3 t) (iblk m c 4 t) (iblk m c 5 t) i e := by
  unfold outA pcsA
  frame_out
  canon_tiles x h
  · obtain ⟨r, l, rfl⟩ : ∃ (r : Fin 256) (l : Fin 1024), x = ix2 r l := ⟨x 0, x 1, (ix2_eta x).symm⟩
    obtain rfl : e = l := Fin.ext h1
    refine second_half (iblk m c 0 t) _ (iblk m c 1 t) (iblk m c 5 t) (iblk m c 2 t) (iblk m c 3 t) (iblk m c 4 t) r _ e ?_
    intro a
    refine View.ld_unit_apply_of _ _ _ _ _ _ fun b => ?_
    fin_cases b
    · exact h0
    · exact (Nat.zero_add _).symm
  · obtain ⟨r, l, rfl⟩ : ∃ (r : Fin 256) (l : Fin 1024), x = ix2 r l := ⟨x 0, x 1, (ix2_eta x).symm⟩
    obtain rfl : e = l := Fin.ext h1
    refine first_half (iblk m c 0 t) _ (iblk m c 1 t) (iblk m c 5 t) (iblk m c 2 t) (iblk m c 3 t) (iblk m c 4 t) r _ e ?_
    intro a
    refine View.ld_unit_apply_of _ _ _ _ _ _ fun b => ?_
    fin_cases b
    · exact h0.trans (Nat.zero_add _).symm
    · exact (Nat.zero_add _).symm

/-- The rows a middle point stores. -/
theorem outB_at (c : Dev nD) (t : Fin cfg0.N) (h : 0 < t.val ∧ t.val < 31) (i : Fin 512) (e : Fin 1024) :
    outB m c t h (ix2 i e) = rowAt (iblk m c 0 t) (iblk m c 1 t) (iblk m c 2 t) (iblk m c 3 t) (iblk m c 4 t) (iblk m c 5 t) i e := by
  unfold outB pcsB
  frame_out
  canon_tiles x h
  · obtain ⟨r, l, rfl⟩ : ∃ (r : Fin 256) (l : Fin 1024), x = ix2 r l := ⟨x 0, x 1, (ix2_eta x).symm⟩
    obtain rfl : e = l := Fin.ext h1
    refine second_half (iblk m c 0 t) _ (iblk m c 1 t) (iblk m c 5 t) (iblk m c 2 t) (iblk m c 3 t) (iblk m c 4 t) r _ e ?_
    intro a
    refine View.ld_unit_apply_of _ _ _ _ _ _ fun b => ?_
    fin_cases b
    · exact h0
    · exact (Nat.zero_add _).symm
  · obtain ⟨r, l, rfl⟩ : ∃ (r : Fin 256) (l : Fin 1024), x = ix2 r l := ⟨x 0, x 1, (ix2_eta x).symm⟩
    obtain rfl : e = l := Fin.ext h1
    refine first_half (iblk m c 0 t) _ (iblk m c 1 t) (iblk m c 5 t) (iblk m c 2 t) (iblk m c 3 t) (iblk m c 4 t) r _ e ?_
    intro a
    refine View.ld_unit_apply_of _ _ _ _ _ _ fun b => ?_
    fin_cases b
    · exact h0.trans (Nat.zero_add _).symm
    · exact (Nat.zero_add _).symm

/-- The rows the last block's point stores. -/
theorem outC_at (c : Dev nD) (t : Fin cfg0.N) (h : t.val = 31) (i : Fin 512) (e : Fin 1024) :
    outC m c t h (ix2 i e) = rowAt (iblk m c 0 t) (iblk m c 1 t) (iblk m c 2 t) (iblk m c 3 t) (iblk m c 4 t) (iblk m c 5 t) i e := by
  unfold outC pcsC
  frame_out
  canon_tiles x h
  · obtain ⟨r, l, rfl⟩ : ∃ (r : Fin 256) (l : Fin 1024), x = ix2 r l := ⟨x 0, x 1, (ix2_eta x).symm⟩
    obtain rfl : e = l := Fin.ext h1
    refine second_half (iblk m c 0 t) _ (iblk m c 1 t) (iblk m c 5 t) (iblk m c 2 t) (iblk m c 3 t) (iblk m c 4 t) r _ e ?_
    intro a
    refine View.ld_unit_apply_of _ _ _ _ _ _ fun b => ?_
    fin_cases b
    · exact h0
    · exact (Nat.zero_add _).symm
  · obtain ⟨r, l, rfl⟩ : ∃ (r : Fin 256) (l : Fin 1024), x = ix2 r l := ⟨x 0, x 1, (ix2_eta x).symm⟩
    obtain rfl : e = l := Fin.ext h1
    refine first_half (iblk m c 0 t) _ (iblk m c 1 t) (iblk m c 5 t) (iblk m c 2 t) (iblk m c 3 t) (iblk m c 4 t) r _ e ?_
    intro a
    refine View.ld_unit_apply_of _ _ _ _ _ _ fun b => ?_
    fin_cases b
    · exact h0.trans (Nat.zero_add _).symm
    · exact (Nat.zero_add _).symm

/-- The rows of a point with a block of its own. -/
theorem outN_at (c : Dev nD) (t : Fin cfg0.N) (h : t.val < 32) (i : Fin 512) (e : Fin 1024) :
    outN m c t h (ix2 i e) = rowAt (iblk m c 0 t) (iblk m c 1 t) (iblk m c 2 t) (iblk m c 3 t) (iblk m c 4 t) (iblk m c 5 t) i e := by
  unfold outN
  split
  · exact outA_at m c t _ i e
  · split
    · exact outB_at m c t _ i e
    · exact outC_at m c t _ i e

end Cert.Kernel2Ideal.Ffn

end
-- ==== Proof.FfnRef.lean ====
module

public import proofs.«01_k».proof.Proof.FfnSpec
public import proofs.«01_k».proof.Proof.Gen.Reference2Ideal.Read

@[expose] public section

set_option maxRecDepth 16384

noncomputable section

namespace Cert.Kernel2Ideal.Ffn

open Cert.Reference2Ideal Cert.Reference2Ideal.Read Cert.Reference2Ideal.Gen
open Idealize.ShloMosaic Idealize.ShloMosaic.TcCoe Idealize.SL.Sem

/-! The reference's stages at one entry, on plain functions of the column. -/

section Stages
variable (x0 : (⟨S16384x1024, .f32⟩ : BufTy).Contents (Elt Ideal)) (x1 : (⟨S1x1024, .f32⟩ : BufTy).Contents (Elt Ideal))
  (x2 x3 : (⟨S1x1024x2816, .f32⟩ : BufTy).Contents (Elt Ideal)) (x4 : (⟨S1x2816x1024, .f32⟩ : BufTy).Contents (Elt Ideal))
  (x5 : (⟨S1024, .f32⟩ : BufTy).Contents (Elt Ideal))

/-- The normalized rows. -/
theorem ref_normed (i : Fin 16384) (k : Fin 1024) :
    val_main_v13 (F := Ideal) x0 x1 (ix2 i k) = nrm (fun l => x0 (ix2 i l)) (fun l => x1 (ix2 0 l)) k := by
  pointwise [val_main_v0, val_main_v1, val_main_v2, val_main_v3, val_main_v4, val_main_v5, val_main_v6, val_main_v7, val_main_v8, val_main_v9, val_main_v10, val_main_v11, val_main_v12, val_main_v13, val_main_cst, val_main_cst_0, val_main_cst_1]
  rfl

/-- The gated hidden rows. -/
theorem ref_hidden (i : Fin 16384) (n : Fin 2816) :
    val_main_v25 (F := Ideal) x0 x1 x2 x3 (ix2 i n)
      = hidden (nrm (fun l => x0 (ix2 i l)) (fun l => x1 (ix2 0 l))) (fun k n => x2 (ix3 0 k n)) (fun k n => x3 (ix3 0 k n)) n := by
  pointwise [val_main_v14, val_main_v15, val_main_v16, val_main_v17, val_main_v18, val_main_v19, val_main_v20, val_main_v21, val_main_v22, val_main_v23, val_main_v24, val_main_v25, val_main_cst_2, val_main_cst_3]
  simp only [ref_normed]
  rfl

/-- The rows with their feed-forward output. -/
theorem ref_added (i : Fin 16384) (e : Fin 1024) :
    val_main_v28 (F := Ideal) x0 x1 x2 x3 x4 (ix2 i e)
      = added (fun l => x0 (ix2 i l)) (fun l => x1 (ix2 0 l)) (fun k n => x2 (ix3 0 k n)) (fun k n => x3 (ix3 0 k n)) (fun n e => x4 (ix3 0 n e)) e := by
  pointwise [val_main_v26, val_main_v27, val_main_v28]
  simp only [ref_hidden]
  rfl

/-- The result rows. -/
theorem ref_out (i : Fin 16384) (e : Fin 1024) :
    val_main_v41 (F := Ideal) x0 x1 x2 x3 x4 x5 (ix2 i e)
      = ffnRow (fun l => x0 (ix2 i l)) (fun l => x1 (ix2 0 l)) (fun k n => x2 (ix3 0 k n)) (fun k n => x3 (ix3 0 k n)) (fun n e => x4 (ix3 0 n e))
          (fun l => x5 (ix1 l)) e := by
  pointwise [val_main_v29, val_main_v30, val_main_v31, val_main_v32, val_main_v33, val_main_v34, val_main_v35, val_main_v36, val_main_v37, val_main_v38, val_main_v39, val_main_v40, val_main_v41, val_main_cst_4, val_main_cst_5, val_main_cst_6]
  simp only [ref_added]
  rfl
end Stages

end Cert.Kernel2Ideal.Ffn

end
-- ==== Proof.FfnFinal.lean ====
module

public import proofs.«01_k».proof.Proof.FfnBlocks
public import proofs.«01_k».proof.Proof.FfnRef
public import Idealize.ShloMosaic.Lib.Pipeline.ValueKit

@[expose] public section

set_option maxRecDepth 16384

noncomputable section

namespace Cert.Kernel2Ideal.Ffn

open Cert.Kernel2Ideal Cert.Kernel2Ideal.Gen
open Idealize.ShloMosaic Idealize.ShloMosaic.TcCoe Idealize.SL.Sem
open Idealize.ShloMosaic.Pipeline (Dat)
open Cert.Reference2Ideal.Read (val_main_v41)

variable (m : (ℓ : Loc nD τ sig) → Buf (Elt Ideal) ℓ)

/-! ## The prompt rows after the run are the reference's -/

theorem emb9 (t : Fin cfg0.N) (i : Fin 512) (j : Fin 1024) : (win0_9.blk t).view.emb (ix2 i j) = ix2 (rowOf t i) j := by
  unfold rowOf
  blk_ext [idx9 t]

theorem rowOf_pt (t : Fin cfg0.N) (i : Fin 512) : rowOf (pt t) i = rowOf t i := by
  apply Fin.ext; show min (min t.val 31) 31 * 512 + i.val = min t.val 31 * 512 + i.val; omega

/-- A point's prompt rows are the reference's. -/
theorem outAt_ref (c : Dev nD) (t : Fin cfg0.N) (i : Fin 512) (e : Fin 1024) :
    outAt m c t (ix2 i e) = val_main_v41 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (ix2 (rowOf t i) e) := by
  unfold outAt
  rw [outN_at, ref_out]
  unfold rowAt
  simp only [blk0, blk1, blk2, blk3, blk4, blk5, rowOf_pt]

theorem final_9 (c : Dev nD) : (dats m 0 c).arrAt 9 (cfgs 0).N = val_main_v41 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 9 _ (by decide +kernel) fun t hf y => ?_
  blk_simp
  rw [after0_9]
  obtain ⟨i, j, rfl⟩ : ∃ (i : Fin 512) (j : Fin 1024), y = ix2 i j := ⟨y 0, y 1, (ix2_eta y).symm⟩
  rw [emb9]
  exact outAt_ref m c t i j

end Cert.Kernel2Ideal.Ffn

end
-- ==== Proof.FfnClaims.lean ====
/- What the run of each program of the feed-forward call leaves: the kernel's prompt rows at the reference's last stage of the
   kernel's own arguments, the reference's at the same stage of its arguments, and the reference's frame. -/
module

public import proofs.«01_k».proof.Defs
public import proofs.«01_k».proof.Proof.FfnFinal
public import proofs.«01_k».proof.Proof.Gen.Reference2Ideal.Run
public import proofs.«01_k».proof.Proof.Gen.Reference2Ideal.Read
public import Idealize.ShloMosaic.Adequacy
public import Idealize.ShloMosaic.Init

@[expose] public section

set_option maxRecDepth 16384

noncomputable section

namespace Cert.FfnClaims

open Idealize.ShloMosaic Idealize.SL.Sem

/-- Equal arguments give equal values of the stage. -/
theorem at41 {x0 y0 : (⟨Cert.Reference2Ideal.S16384x1024, .f32⟩ : BufTy).Contents (Elt Ideal)} {x1 y1 : (⟨Cert.Reference2Ideal.S1x1024, .f32⟩ : BufTy).Contents (Elt Ideal)} {x2 y2 : (⟨Cert.Reference2Ideal.S1x1024x2816, .f32⟩ : BufTy).Contents (Elt Ideal)} {x3 y3 : (⟨Cert.Reference2Ideal.S1x1024x2816, .f32⟩ : BufTy).Contents (Elt Ideal)} {x4 y4 : (⟨Cert.Reference2Ideal.S1x2816x1024, .f32⟩ : BufTy).Contents (Elt Ideal)} {x5 y5 : (⟨Cert.Reference2Ideal.S1024, .f32⟩ : BufTy).Contents (Elt Ideal)}
    (e0 : x0 = y0) (e1 : x1 = y1) (e2 : x2 = y2) (e3 : x3 = y3) (e4 : x4 = y4) (e5 : x5 = y5) :
    Cert.Reference2Ideal.Read.val_main_v41 (F := Ideal) x0 x1 x2 x3 x4 x5 = Cert.Reference2Ideal.Read.val_main_v41 (F := Ideal) y0 y1 y2 y3 y4 y5 := by
  subst e0 e1 e2 e3 e4 e5; rfl

/-- The reference leaves its arguments unchanged and every counter at zero. -/
theorem reference_quiet : Cert.quiescent_Reference2Ideal (hReference2Ideal := Cert.Reference2Ideal.Gen.facts) := fun m g _ =>
  (θ_run _ _ _).mono (fun r h => ⟨fun c => (h c).2, Idealize.ShloMosaic.sem_eq_zero_of_no_sems (by decide) r.2⟩)
    (Cert.Reference2Ideal.Value.run (F := Ideal) m g)

/-- The constant of the idealized kernel is the one its table names. -/
theorem constant_named : Cert.preserves_Kernel2_Kernel2Ideal :=
  IdealRules.named_const.statement _ _ _ _ _ rfl

/-- The kernel's prompt rows after any execution. -/
theorem prompt_rows (m : (ℓ : Loc Cert.Kernel2Ideal.nD Cert.Kernel2Ideal.τ Cert.Kernel2Ideal.sig) → Buf (Elt Ideal) ℓ) (c : Dev Cert.Kernel2Ideal.nD) {r : PUnit × MemSt Cert.Kernel2Ideal.nD Cert.Kernel2Ideal.τ Cert.Kernel2Ideal.sig (Elt Ideal)}
    (h : Pipeline.RDat.FramePost (Cert.Kernel2Ideal.cfgs 0) (fun c => (Cert.Kernel2Ideal.Ffn.dats (F := Ideal) m 0 c).toRForget Cert.Kernel2Ideal.Ffn.forgets0) (Cert.Kernel2Ideal.Gen.V m) r) :
    r.2.mem ((c.tc : Thread Cert.Kernel2Ideal.nD Cert.Kernel2Ideal.τ).loc Cert.Kernel2Ideal.main_v13_0) = Cert.Reference2Ideal.Read.val_main_v41 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) :=
  ((Pipeline.Dat.toRForget_arrAt_iff (dat := Cert.Kernel2Ideal.Ffn.dats (F := Ideal) m 0 c) (fgt := Cert.Kernel2Ideal.Ffn.forgets0) (w := 9) rfl (Cert.Kernel2Ideal.cfgs 0).N _).mp ((h c).1 9)).trans (Cert.Kernel2Ideal.Ffn.final_9 m c)

set_option maxHeartbeats 4000000 in
/-- Every execution of the kernel over the extended reals and every execution of the reference, started on equal
    arguments, end with the prompt rows equal and the arguments unchanged. -/
theorem results_equal : Cert.algebraic_Kernel2Ideal_Reference2Ideal (hKernel2Ideal := Cert.Kernel2Ideal.Gen.facts) (hReference2Ideal := Cert.Reference2Ideal.Gen.facts) := by
  intro m g m' g' _ hargs
  refine ⟨fun c => Cert.Reference2Ideal.Read.val_main_v41 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)), ?_, ?_⟩
  · refine (θ_run _ _ _).mono (fun r h c => ?_) (θ_run_and (Cert.Kernel2Ideal.Ffn.run_main m g) (Cert.Kernel2Ideal.Ffn.frame m g))
    exact ⟨prompt_rows m c h.1, h.2.1 c⟩
  · refine (θ_run _ _ _).mono (fun r h c => ?_) (Cert.Reference2Ideal.Value.run (F := Ideal) m' g')
    have hk := hargs c
    exact ⟨((h c).1.trans (Cert.Reference2Ideal.Read.val_main_v41_eq m' c)).trans (at41 hk.1 hk.2.1 hk.2.2.1 hk.2.2.2.1 hk.2.2.2.2.1 hk.2.2.2.2.2.1), (h c).2⟩

end Cert.FfnClaims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.AttnFrame
public import proofs.«01_k».proof.Proof.BitsAttnFrame
public import proofs.«01_k».proof.Proof.AttnClaims
public import proofs.«01_k».proof.Proof.FfnFrame
public import proofs.«01_k».proof.Proof.BitsFfnFrame
public import proofs.«01_k».proof.Proof.FfnClaims
public import Idealize.ShloMosaic.Adequacy
public import Idealize.ShloMosaic.Init

@[expose] public section

noncomputable section

namespace Cert.Proof

open Idealize.ShloMosaic Idealize.SL.Sem Cert.Kernel

/-- Both calls and both references run with their arguments unchanged and every counter back at zero; the printed
    cross-attention call and its reading over the extended reals are the same program, the feed-forward call's differ by
    the one named constant; and the readings' results are the references'. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  fun m g _ => Cert.Kernel.Attn.frame (F := Bits) m g,
  fun m g _ => Cert.KernelIdeal.Attn.frame (F := Ideal) m g, Cert.AttnClaims.reference_quiet,
  fun m g _ => Cert.Kernel2.Ffn.frame (F := Bits) m g,
  fun m g _ => Cert.Kernel2Ideal.Ffn.frame (F := Ideal) m g, Cert.FfnClaims.reference_quiet,
  trivial, Cert.AttnClaims.results_equal, Cert.FfnClaims.constant_named, Cert.FfnClaims.results_equal⟩

end Cert.Proof

end
